-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite [hPre_finite : Cert.Pre_finite.Facts] (m : (ℓ : Loc Cert.XattnIdeal.nD Cert.XattnIdeal.τ Cert.XattnIdeal.sig) → Buf (Elt Ideal) ℓ) : Prop :=
  ∀ c : Dev Cert.XattnIdeal.nD,
    (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5)) (m ((c.tc : Thread Cert.XattnIdeal.nD Cert.XattnIdeal.τ).loc Cert.XattnIdeal.main_arg6)) (m ((c.tc : Thread Cert.XattnIdeal.nD Cert.XattnIdeal.τ).loc Cert.XattnIdeal.main_arg7)) (m ((c.tc : Thread Cert.XattnIdeal.nD Cert.XattnIdeal.τ).loc Cert.XattnIdeal.main_arg8)) (m ((c.tc : Thread Cert.XattnIdeal.nD Cert.XattnIdeal.τ).loc Cert.XattnIdeal.main_arg9)) (m ((c.tc : Thread Cert.XattnIdeal.nD Cert.XattnIdeal.τ).loc Cert.XattnIdeal.main_arg10))).1 = (fun _ => 1#1)
    ∧ (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5)) (m ((c.tc : Thread Cert.XattnIdeal.nD Cert.XattnIdeal.τ).loc Cert.XattnIdeal.main_arg6)) (m ((c.tc : Thread Cert.XattnIdeal.nD Cert.XattnIdeal.τ).loc Cert.XattnIdeal.main_arg7)) (m ((c.tc : Thread Cert.XattnIdeal.nD Cert.XattnIdeal.τ).loc Cert.XattnIdeal.main_arg8)) (m ((c.tc : Thread Cert.XattnIdeal.nD Cert.XattnIdeal.τ).loc Cert.XattnIdeal.main_arg9)) (m ((c.tc : Thread Cert.XattnIdeal.nD Cert.XattnIdeal.τ).loc Cert.XattnIdeal.main_arg10))).2.1 = (fun _ => 1#1)
    ∧ (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5)) (m ((c.tc : Thread Cert.XattnIdeal.nD Cert.XattnIdeal.τ).loc Cert.XattnIdeal.main_arg6)) (m ((c.tc : Thread Cert.XattnIdeal.nD Cert.XattnIdeal.τ).loc Cert.XattnIdeal.main_arg7)) (m ((c.tc : Thread Cert.XattnIdeal.nD Cert.XattnIdeal.τ).loc Cert.XattnIdeal.main_arg8)) (m ((c.tc : Thread Cert.XattnIdeal.nD Cert.XattnIdeal.τ).loc Cert.XattnIdeal.main_arg9)) (m ((c.tc : Thread Cert.XattnIdeal.nD Cert.XattnIdeal.τ).loc Cert.XattnIdeal.main_arg10))).2.2 = (fun _ => 1#1)

def Pre_XattnReferenceIdeal (m : (ℓ : Loc Cert.XattnReferenceIdeal.nD Cert.XattnReferenceIdeal.τ Cert.XattnReferenceIdeal.sig) → Buf (Elt Ideal) ℓ) : Prop :=
  True

def Pre_XattnReferenceIdeal_finite [hPre_finite : Cert.Pre_finite.Facts] (m : (ℓ : Loc Cert.XattnReferenceIdeal.nD Cert.XattnReferenceIdeal.τ Cert.XattnReferenceIdeal.sig) → Buf (Elt Ideal) ℓ) : Prop :=
  ∀ c : Dev Cert.XattnReferenceIdeal.nD,
    (Cert.Pre_finite.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6)) (m ((c.tc : Thread Cert.XattnReferenceIdeal.nD Cert.XattnReferenceIdeal.τ).loc Cert.XattnReferenceIdeal.main_arg7)) (m ((c.tc : Thread Cert.XattnReferenceIdeal.nD Cert.XattnReferenceIdeal.τ).loc Cert.XattnReferenceIdeal.main_arg8)) (m ((c.tc : Thread Cert.XattnReferenceIdeal.nD Cert.XattnReferenceIdeal.τ).loc Cert.XattnReferenceIdeal.main_arg9)) (m ((c.tc : Thread Cert.XattnReferenceIdeal.nD Cert.XattnReferenceIdeal.τ).loc Cert.XattnReferenceIdeal.main_arg10))).1 = (fun _ => 1#1)
    ∧ (Cert.Pre_finite.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6)) (m ((c.tc : Thread Cert.XattnReferenceIdeal.nD Cert.XattnReferenceIdeal.τ).loc Cert.XattnReferenceIdeal.main_arg7)) (m ((c.tc : Thread Cert.XattnReferenceIdeal.nD Cert.XattnReferenceIdeal.τ).loc Cert.XattnReferenceIdeal.main_arg8)) (m ((c.tc : Thread Cert.XattnReferenceIdeal.nD Cert.XattnReferenceIdeal.τ).loc Cert.XattnReferenceIdeal.main_arg9)) (m ((c.tc : Thread Cert.XattnReferenceIdeal.nD Cert.XattnReferenceIdeal.τ).loc Cert.XattnReferenceIdeal.main_arg10))).2.1 = (fun _ => 1#1)
    ∧ (Cert.Pre_finite.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6)) (m ((c.tc : Thread Cert.XattnReferenceIdeal.nD Cert.XattnReferenceIdeal.τ).loc Cert.XattnReferenceIdeal.main_arg7)) (m ((c.tc : Thread Cert.XattnReferenceIdeal.nD Cert.XattnReferenceIdeal.τ).loc Cert.XattnReferenceIdeal.main_arg8)) (m ((c.tc : Thread Cert.XattnReferenceIdeal.nD Cert.XattnReferenceIdeal.τ).loc Cert.XattnReferenceIdeal.main_arg9)) (m ((c.tc : Thread Cert.XattnReferenceIdeal.nD Cert.XattnReferenceIdeal.τ).loc Cert.XattnReferenceIdeal.main_arg10))).2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5)
      ∧ r.2.mem ((c.tc : Thread Cert.Xattn.nD Cert.Xattn.τ).loc Cert.Xattn.main_arg6) = m ((c.tc : Thread Cert.Xattn.nD Cert.Xattn.τ).loc Cert.Xattn.main_arg6)
      ∧ r.2.mem ((c.tc : Thread Cert.Xattn.nD Cert.Xattn.τ).loc Cert.Xattn.main_arg7) = m ((c.tc : Thread Cert.Xattn.nD Cert.Xattn.τ).loc Cert.Xattn.main_arg7)
      ∧ r.2.mem ((c.tc : Thread Cert.Xattn.nD Cert.Xattn.τ).loc Cert.Xattn.main_arg8) = m ((c.tc : Thread Cert.Xattn.nD Cert.Xattn.τ).loc Cert.Xattn.main_arg8)
      ∧ r.2.mem ((c.tc : Thread Cert.Xattn.nD Cert.Xattn.τ).loc Cert.Xattn.main_arg9) = m ((c.tc : Thread Cert.Xattn.nD Cert.Xattn.τ).loc Cert.Xattn.main_arg9)
      ∧ r.2.mem ((c.tc : Thread Cert.Xattn.nD Cert.Xattn.τ).loc Cert.Xattn.main_arg10) = m ((c.tc : Thread Cert.Xattn.nD Cert.Xattn.τ).loc Cert.Xattn.main_arg10))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
      ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7)
      ∧ r.2.mem ((c.tc : Thread Cert.XattnIdeal.nD Cert.XattnIdeal.τ).loc Cert.XattnIdeal.main_arg8) = m ((c.tc : Thread Cert.XattnIdeal.nD Cert.XattnIdeal.τ).loc Cert.XattnIdeal.main_arg8)
      ∧ r.2.mem ((c.tc : Thread Cert.XattnIdeal.nD Cert.XattnIdeal.τ).loc Cert.XattnIdeal.main_arg9) = m ((c.tc : Thread Cert.XattnIdeal.nD Cert.XattnIdeal.τ).loc Cert.XattnIdeal.main_arg9)
      ∧ r.2.mem ((c.tc : Thread Cert.XattnIdeal.nD Cert.XattnIdeal.τ).loc Cert.XattnIdeal.main_arg10) = m ((c.tc : Thread Cert.XattnIdeal.nD Cert.XattnIdeal.τ).loc Cert.XattnIdeal.main_arg10))
      ∧ r.2.sem = fun _ => 0)

def quiescent_XattnIdeal_pre_finite [hXattnIdeal : Cert.XattnIdeal.Facts] [hPre_finite : Cert.Pre_finite.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
      ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7)
      ∧ r.2.mem ((c.tc : Thread Cert.XattnIdeal.nD Cert.XattnIdeal.τ).loc Cert.XattnIdeal.main_arg8) = m ((c.tc : Thread Cert.XattnIdeal.nD Cert.XattnIdeal.τ).loc Cert.XattnIdeal.main_arg8)
      ∧ r.2.mem ((c.tc : Thread Cert.XattnIdeal.nD Cert.XattnIdeal.τ).loc Cert.XattnIdeal.main_arg9) = m ((c.tc : Thread Cert.XattnIdeal.nD Cert.XattnIdeal.τ).loc Cert.XattnIdeal.main_arg9)
      ∧ r.2.mem ((c.tc : Thread Cert.XattnIdeal.nD Cert.XattnIdeal.τ).loc Cert.XattnIdeal.main_arg10) = m ((c.tc : Thread Cert.XattnIdeal.nD Cert.XattnIdeal.τ).loc Cert.XattnIdeal.main_arg10))
      ∧ r.2.sem = fun _ => 0)

def quiescent_XattnReferenceIdeal [hXattnReferenceIdeal : Cert.XattnReferenceIdeal.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
      ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
      ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
      ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5)
      ∧ r.2.mem ((c.tc : Thread Cert.XattnReferenceIdeal.nD Cert.XattnReferenceIdeal.τ).loc Cert.XattnReferenceIdeal.main_arg6) = m ((c.tc : Thread Cert.XattnReferenceIdeal.nD Cert.XattnReferenceIdeal.τ).loc Cert.XattnReferenceIdeal.main_arg6)
      ∧ r.2.mem ((c.tc : Thread Cert.XattnReferenceIdeal.nD Cert.XattnReferenceIdeal.τ).loc Cert.XattnReferenceIdeal.main_arg7) = m ((c.tc : Thread Cert.XattnReferenceIdeal.nD Cert.XattnReferenceIdeal.τ).loc Cert.XattnReferenceIdeal.main_arg7)
      ∧ r.2.mem ((c.tc : Thread Cert.XattnReferenceIdeal.nD Cert.XattnReferenceIdeal.τ).loc Cert.XattnReferenceIdeal.main_arg8) = m ((c.tc : Thread Cert.XattnReferenceIdeal.nD Cert.XattnReferenceIdeal.τ).loc Cert.XattnReferenceIdeal.main_arg8)
      ∧ r.2.mem ((c.tc : Thread Cert.XattnReferenceIdeal.nD Cert.XattnReferenceIdeal.τ).loc Cert.XattnReferenceIdeal.main_arg9) = m ((c.tc : Thread Cert.XattnReferenceIdeal.nD Cert.XattnReferenceIdeal.τ).loc Cert.XattnReferenceIdeal.main_arg9)
      ∧ r.2.mem ((c.tc : Thread Cert.XattnReferenceIdeal.nD Cert.XattnReferenceIdeal.τ).loc Cert.XattnReferenceIdeal.main_arg10) = m ((c.tc : Thread Cert.XattnReferenceIdeal.nD Cert.XattnReferenceIdeal.τ).loc Cert.XattnReferenceIdeal.main_arg10))
      ∧ r.2.sem = fun _ => 0)

def quiescent_XattnReferenceIdeal_pre_finite [hXattnReferenceIdeal : Cert.XattnReferenceIdeal.Facts] [hPre_finite : Cert.Pre_finite.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal_finite m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
      ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
      ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
      ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5)
      ∧ r.2.mem ((c.tc : Thread Cert.XattnReferenceIdeal.nD Cert.XattnReferenceIdeal.τ).loc Cert.XattnReferenceIdeal.main_arg6) = m ((c.tc : Thread Cert.XattnReferenceIdeal.nD Cert.XattnReferenceIdeal.τ).loc Cert.XattnReferenceIdeal.main_arg6)
      ∧ r.2.mem ((c.tc : Thread Cert.XattnReferenceIdeal.nD Cert.XattnReferenceIdeal.τ).loc Cert.XattnReferenceIdeal.main_arg7) = m ((c.tc : Thread Cert.XattnReferenceIdeal.nD Cert.XattnReferenceIdeal.τ).loc Cert.XattnReferenceIdeal.main_arg7)
      ∧ r.2.mem ((c.tc : Thread Cert.XattnReferenceIdeal.nD Cert.XattnReferenceIdeal.τ).loc Cert.XattnReferenceIdeal.main_arg8) = m ((c.tc : Thread Cert.XattnReferenceIdeal.nD Cert.XattnReferenceIdeal.τ).loc Cert.XattnReferenceIdeal.main_arg8)
      ∧ r.2.mem ((c.tc : Thread Cert.XattnReferenceIdeal.nD Cert.XattnReferenceIdeal.τ).loc Cert.XattnReferenceIdeal.main_arg9) = m ((c.tc : Thread Cert.XattnReferenceIdeal.nD Cert.XattnReferenceIdeal.τ).loc Cert.XattnReferenceIdeal.main_arg9)
      ∧ r.2.mem ((c.tc : Thread Cert.XattnReferenceIdeal.nD Cert.XattnReferenceIdeal.τ).loc Cert.XattnReferenceIdeal.main_arg10) = m ((c.tc : Thread Cert.XattnReferenceIdeal.nD Cert.XattnReferenceIdeal.τ).loc Cert.XattnReferenceIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2))
      ∧ r.2.sem = fun _ => 0)

def preserves_Kernel_KernelIdeal : Prop :=
  IdealRules.named_const.Statement Cert.KernelIdeal.κ "mask" .f32 0xF149F2CA#32 ⊥

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v21) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)
      ∧ m' ((c.tc : Thread Cert.LastReferenceIdeal.nD Cert.LastReferenceIdeal.τ).loc Cert.LastReferenceIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v6)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v6) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v34) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4)
          ∧ r.2.mem ((c.tc : Thread Cert.LastReferenceIdeal.nD Cert.LastReferenceIdeal.τ).loc Cert.LastReferenceIdeal.main_arg5) = m' ((c.tc : Thread Cert.LastReferenceIdeal.nD Cert.LastReferenceIdeal.τ).loc Cert.LastReferenceIdeal.main_arg5))

def preserves_Xattn_XattnIdeal : Prop :=
  True

def algebraic_XattnIdeal_XattnReferenceIdeal_pre_finite [hXattnIdeal : Cert.XattnIdeal.Facts] [hXattnReferenceIdeal : Cert.XattnReferenceIdeal.Facts] [hPre_finite : Cert.Pre_finite.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnReferenceIdeal.nD Cert.XattnReferenceIdeal.τ Cert.XattnReferenceIdeal.sig) → Buf (Elt Ideal) ℓ) (g' : Dev Cert.XattnReferenceIdeal.nD → PrngReg), Pre_XattnIdeal_finite m →
    (∀ c : Dev Cert.XattnIdeal.nD,
      m' ((c.tc : Thread Cert.XattnReferenceIdeal.nD Cert.XattnReferenceIdeal.τ).loc Cert.XattnReferenceIdeal.main_arg0) = m ((c.tc : Thread Cert.XattnIdeal.nD Cert.XattnIdeal.τ).loc Cert.XattnIdeal.main_arg0)
      ∧ m' ((c.tc : Thread Cert.XattnReferenceIdeal.nD Cert.XattnReferenceIdeal.τ).loc Cert.XattnReferenceIdeal.main_arg1) = m ((c.tc : Thread Cert.XattnIdeal.nD Cert.XattnIdeal.τ).loc Cert.XattnIdeal.main_arg1)
      ∧ m' ((c.tc : Thread Cert.XattnReferenceIdeal.nD Cert.XattnReferenceIdeal.τ).loc Cert.XattnReferenceIdeal.main_arg2) = m ((c.tc : Thread Cert.XattnIdeal.nD Cert.XattnIdeal.τ).loc Cert.XattnIdeal.main_arg2)
      ∧ m' ((c.tc : Thread Cert.XattnReferenceIdeal.nD Cert.XattnReferenceIdeal.τ).loc Cert.XattnReferenceIdeal.main_arg3) = m ((c.tc : Thread Cert.XattnIdeal.nD Cert.XattnIdeal.τ).loc Cert.XattnIdeal.main_arg3)
      ∧ m' ((c.tc : Thread Cert.XattnReferenceIdeal.nD Cert.XattnReferenceIdeal.τ).loc Cert.XattnReferenceIdeal.main_arg4) = m ((c.tc : Thread Cert.XattnIdeal.nD Cert.XattnIdeal.τ).loc Cert.XattnIdeal.main_arg4)
      ∧ m' ((c.tc : Thread Cert.XattnReferenceIdeal.nD Cert.XattnReferenceIdeal.τ).loc Cert.XattnReferenceIdeal.main_arg5) = m ((c.tc : Thread Cert.XattnIdeal.nD Cert.XattnIdeal.τ).loc Cert.XattnIdeal.main_arg5)
      ∧ m' ((c.tc : Thread Cert.XattnReferenceIdeal.nD Cert.XattnReferenceIdeal.τ).loc Cert.XattnReferenceIdeal.main_arg6) = m ((c.tc : Thread Cert.XattnIdeal.nD Cert.XattnIdeal.τ).loc Cert.XattnIdeal.main_arg6)
      ∧ m' ((c.tc : Thread Cert.XattnReferenceIdeal.nD Cert.XattnReferenceIdeal.τ).loc Cert.XattnReferenceIdeal.main_arg7) = m ((c.tc : Thread Cert.XattnIdeal.nD Cert.XattnIdeal.τ).loc Cert.XattnIdeal.main_arg7)
      ∧ m' ((c.tc : Thread Cert.XattnReferenceIdeal.nD Cert.XattnReferenceIdeal.τ).loc Cert.XattnReferenceIdeal.main_arg8) = m ((c.tc : Thread Cert.XattnIdeal.nD Cert.XattnIdeal.τ).loc Cert.XattnIdeal.main_arg8)
      ∧ m' ((c.tc : Thread Cert.XattnReferenceIdeal.nD Cert.XattnReferenceIdeal.τ).loc Cert.XattnReferenceIdeal.main_arg9) = m ((c.tc : Thread Cert.XattnIdeal.nD Cert.XattnIdeal.τ).loc Cert.XattnIdeal.main_arg9)
      ∧ m' ((c.tc : Thread Cert.XattnReferenceIdeal.nD Cert.XattnReferenceIdeal.τ).loc Cert.XattnReferenceIdeal.main_arg10) = m ((c.tc : Thread Cert.XattnIdeal.nD Cert.XattnIdeal.τ).loc Cert.XattnIdeal.main_arg10)) →
    ∃ (v0 : (c : Dev Cert.XattnIdeal.nD) → Buf (Elt Ideal) ((c.tc : Thread Cert.XattnIdeal.nD Cert.XattnIdeal.τ).loc Cert.XattnIdeal.main_v10)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v10) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
          ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
          ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7)
          ∧ r.2.mem ((c.tc : Thread Cert.XattnIdeal.nD Cert.XattnIdeal.τ).loc Cert.XattnIdeal.main_arg8) = m ((c.tc : Thread Cert.XattnIdeal.nD Cert.XattnIdeal.τ).loc Cert.XattnIdeal.main_arg8)
          ∧ r.2.mem ((c.tc : Thread Cert.XattnIdeal.nD Cert.XattnIdeal.τ).loc Cert.XattnIdeal.main_arg9) = m ((c.tc : Thread Cert.XattnIdeal.nD Cert.XattnIdeal.τ).loc Cert.XattnIdeal.main_arg9)
          ∧ r.2.mem ((c.tc : Thread Cert.XattnIdeal.nD Cert.XattnIdeal.τ).loc Cert.XattnIdeal.main_arg10) = m ((c.tc : Thread Cert.XattnIdeal.nD Cert.XattnIdeal.τ).loc Cert.XattnIdeal.main_arg10))
      ∧ θ_run (Cert.XattnReferenceIdeal.defs (F := Ideal)) (onTc (τ := Cert.XattnReferenceIdeal.τ) (Cert.XattnReferenceIdeal.main (F := Ideal))) ⟨m', fun _ => 0, g'⟩ (fun r => ∀ c : Dev Cert.XattnReferenceIdeal.nD,
          r.2.mem ((c.tc : Thread Cert.XattnReferenceIdeal.nD Cert.XattnReferenceIdeal.τ).loc Cert.XattnReferenceIdeal.main_v38) = v0 c
          ∧ r.2.mem ((c.tc : Thread Cert.XattnReferenceIdeal.nD Cert.XattnReferenceIdeal.τ).loc Cert.XattnReferenceIdeal.main_arg0) = m' ((c.tc : Thread Cert.XattnReferenceIdeal.nD Cert.XattnReferenceIdeal.τ).loc Cert.XattnReferenceIdeal.main_arg0)
          ∧ r.2.mem ((c.tc : Thread Cert.XattnReferenceIdeal.nD Cert.XattnReferenceIdeal.τ).loc Cert.XattnReferenceIdeal.main_arg1) = m' ((c.tc : Thread Cert.XattnReferenceIdeal.nD Cert.XattnReferenceIdeal.τ).loc Cert.XattnReferenceIdeal.main_arg1)
          ∧ r.2.mem ((c.tc : Thread Cert.XattnReferenceIdeal.nD Cert.XattnReferenceIdeal.τ).loc Cert.XattnReferenceIdeal.main_arg2) = m' ((c.tc : Thread Cert.XattnReferenceIdeal.nD Cert.XattnReferenceIdeal.τ).loc Cert.XattnReferenceIdeal.main_arg2)
          ∧ r.2.mem ((c.tc : Thread Cert.XattnReferenceIdeal.nD Cert.XattnReferenceIdeal.τ).loc Cert.XattnReferenceIdeal.main_arg3) = m' ((c.tc : Thread Cert.XattnReferenceIdeal.nD Cert.XattnReferenceIdeal.τ).loc Cert.XattnReferenceIdeal.main_arg3)
          ∧ r.2.mem ((c.tc : Thread Cert.XattnReferenceIdeal.nD Cert.XattnReferenceIdeal.τ).loc Cert.XattnReferenceIdeal.main_arg4) = m' ((c.tc : Thread Cert.XattnReferenceIdeal.nD Cert.XattnReferenceIdeal.τ).loc Cert.XattnReferenceIdeal.main_arg4)
          ∧ r.2.mem ((c.tc : Thread Cert.XattnReferenceIdeal.nD Cert.XattnReferenceIdeal.τ).loc Cert.XattnReferenceIdeal.main_arg5) = m' ((c.tc : Thread Cert.XattnReferenceIdeal.nD Cert.XattnReferenceIdeal.τ).loc Cert.XattnReferenceIdeal.main_arg5)
          ∧ r.2.mem ((c.tc : Thread Cert.XattnReferenceIdeal.nD Cert.XattnReferenceIdeal.τ).loc Cert.XattnReferenceIdeal.main_arg6) = m' ((c.tc : Thread Cert.XattnReferenceIdeal.nD Cert.XattnReferenceIdeal.τ).loc Cert.XattnReferenceIdeal.main_arg6)
          ∧ r.2.mem ((c.tc : Thread Cert.XattnReferenceIdeal.nD Cert.XattnReferenceIdeal.τ).loc Cert.XattnReferenceIdeal.main_arg7) = m' ((c.tc : Thread Cert.XattnReferenceIdeal.nD Cert.XattnReferenceIdeal.τ).loc Cert.XattnReferenceIdeal.main_arg7)
          ∧ r.2.mem ((c.tc : Thread Cert.XattnReferenceIdeal.nD Cert.XattnReferenceIdeal.τ).loc Cert.XattnReferenceIdeal.main_arg8) = m' ((c.tc : Thread Cert.XattnReferenceIdeal.nD Cert.XattnReferenceIdeal.τ).loc Cert.XattnReferenceIdeal.main_arg8)
          ∧ r.2.mem ((c.tc : Thread Cert.XattnReferenceIdeal.nD Cert.XattnReferenceIdeal.τ).loc Cert.XattnReferenceIdeal.main_arg9) = m' ((c.tc : Thread Cert.XattnReferenceIdeal.nD Cert.XattnReferenceIdeal.τ).loc Cert.XattnReferenceIdeal.main_arg9)
          ∧ r.2.mem ((c.tc : Thread Cert.XattnReferenceIdeal.nD Cert.XattnReferenceIdeal.τ).loc Cert.XattnReferenceIdeal.main_arg10) = m' ((c.tc : Thread Cert.XattnReferenceIdeal.nD Cert.XattnReferenceIdeal.τ).loc Cert.XattnReferenceIdeal.main_arg10))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v18_0)) (v1 : (c : Dev Cert.ProjIdeal.nD) → Buf (Elt Ideal) ((c.tc : Thread Cert.ProjIdeal.nD Cert.ProjIdeal.τ).loc Cert.ProjIdeal.main_v18_1)) (v2 : (c : Dev Cert.ProjIdeal.nD) → Buf (Elt Ideal) ((c.tc : Thread Cert.ProjIdeal.nD Cert.ProjIdeal.τ).loc Cert.ProjIdeal.main_v18_2)) (v3 : (c : Dev Cert.ProjIdeal.nD) → Buf (Elt Ideal) ((c.tc : Thread Cert.ProjIdeal.nD Cert.ProjIdeal.τ).loc Cert.ProjIdeal.main_v18_3)) (v4 : (c : Dev Cert.ProjIdeal.nD) → Buf (Elt Ideal) ((c.tc : Thread Cert.ProjIdeal.nD Cert.ProjIdeal.τ).loc Cert.ProjIdeal.main_v18_4)) (v5 : (c : Dev Cert.ProjIdeal.nD) → Buf (Elt Ideal) ((c.tc : Thread Cert.ProjIdeal.nD Cert.ProjIdeal.τ).loc Cert.ProjIdeal.main_v18_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v18_0) = v0 c
          ∧ r.2.mem ((c.tc : Thread Cert.ProjIdeal.nD Cert.ProjIdeal.τ).loc Cert.ProjIdeal.main_v18_1) = v1 c
          ∧ r.2.mem ((c.tc : Thread Cert.ProjIdeal.nD Cert.ProjIdeal.τ).loc Cert.ProjIdeal.main_v18_2) = v2 c
          ∧ r.2.mem ((c.tc : Thread Cert.ProjIdeal.nD Cert.ProjIdeal.τ).loc Cert.ProjIdeal.main_v18_3) = v3 c
          ∧ r.2.mem ((c.tc : Thread Cert.ProjIdeal.nD Cert.ProjIdeal.τ).loc Cert.ProjIdeal.main_v18_4) = v4 c
          ∧ r.2.mem ((c.tc : Thread Cert.ProjIdeal.nD Cert.ProjIdeal.τ).loc Cert.ProjIdeal.main_v18_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v15) = v0 c
          ∧ r.2.mem ((c.tc : Thread Cert.ProjReferenceIdeal.nD Cert.ProjReferenceIdeal.τ).loc Cert.ProjReferenceIdeal.main_v16) = v1 c
          ∧ r.2.mem ((c.tc : Thread Cert.ProjReferenceIdeal.nD Cert.ProjReferenceIdeal.τ).loc Cert.ProjReferenceIdeal.main_v17) = v2 c
          ∧ r.2.mem ((c.tc : Thread Cert.ProjReferenceIdeal.nD Cert.ProjReferenceIdeal.τ).loc Cert.ProjReferenceIdeal.main_v22) = v3 c
          ∧ r.2.mem ((c.tc : Thread Cert.ProjReferenceIdeal.nD Cert.ProjReferenceIdeal.τ).loc Cert.ProjReferenceIdeal.main_v23) = v4 c
          ∧ r.2.mem ((c.tc : Thread Cert.ProjReferenceIdeal.nD Cert.ProjReferenceIdeal.τ).loc Cert.ProjReferenceIdeal.main_v25) = v5 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)
      ∧ m' ((c.tc : Thread Cert.KvReferenceIdeal.nD Cert.KvReferenceIdeal.τ).loc Cert.KvReferenceIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v3_0)) (v1 : (c : Dev Cert.KvIdeal.nD) → Buf (Elt Ideal) ((c.tc : Thread Cert.KvIdeal.nD Cert.KvIdeal.τ).loc Cert.KvIdeal.main_v3_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v3_0) = v0 c
          ∧ r.2.mem ((c.tc : Thread Cert.KvIdeal.nD Cert.KvIdeal.τ).loc Cert.KvIdeal.main_v3_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v17) = v0 c
          ∧ r.2.mem ((c.tc : Thread Cert.KvReferenceIdeal.nD Cert.KvReferenceIdeal.τ).loc Cert.KvReferenceIdeal.main_v18) = v1 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hLast : Cert.Last.Facts) (hLastIdeal : Cert.LastIdeal.Facts) (hLastReferenceIdeal : Cert.LastReferenceIdeal.Facts) (hXattn : Cert.Xattn.Facts) (hXattnIdeal : Cert.XattnIdeal.Facts) (hXattnReferenceIdeal : Cert.XattnReferenceIdeal.Facts) (hProj : Cert.Proj.Facts) (hProjIdeal : Cert.ProjIdeal.Facts) (hProjReferenceIdeal : Cert.ProjReferenceIdeal.Facts) (hKv : Cert.Kv.Facts) (hKvIdeal : Cert.KvIdeal.Facts) (hKvReferenceIdeal : Cert.KvReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Last (hLast := hLast)
    ∧ quiescent_LastIdeal (hLastIdeal := hLastIdeal)
    ∧ quiescent_LastReferenceIdeal (hLastReferenceIdeal := hLastReferenceIdeal)
    ∧ quiescent_Xattn (hXattn := hXattn)
    ∧ quiescent_XattnIdeal (hXattnIdeal := hXattnIdeal)
    ∧ quiescent_XattnIdeal_pre_finite (hXattnIdeal := hXattnIdeal) (hPre_finite := hPre_finite)
    ∧ quiescent_XattnReferenceIdeal (hXattnReferenceIdeal := hXattnReferenceIdeal)
    ∧ quiescent_XattnReferenceIdeal_pre_finite (hXattnReferenceIdeal := hXattnReferenceIdeal) (hPre_finite := hPre_finite)
    ∧ quiescent_Proj (hProj := hProj)
    ∧ quiescent_ProjIdeal (hProjIdeal := hProjIdeal)
    ∧ quiescent_ProjReferenceIdeal (hProjReferenceIdeal := hProjReferenceIdeal)
    ∧ quiescent_Kv (hKv := hKv)
    ∧ quiescent_KvIdeal (hKvIdeal := hKvIdeal)
    ∧ quiescent_KvReferenceIdeal (hKvReferenceIdeal := hKvReferenceIdeal)
    ∧ preserves_Kernel_KernelIdeal
    ∧ preserves_Ffn_FfnIdeal
    ∧ algebraic_FfnIdeal_FfnReferenceIdeal (hFfnIdeal := hFfnIdeal) (hFfnReferenceIdeal := hFfnReferenceIdeal)
    ∧ preserves_Last_LastIdeal
    ∧ algebraic_LastIdeal_LastReferenceIdeal (hLastIdeal := hLastIdeal) (hLastReferenceIdeal := hLastReferenceIdeal)
    ∧ preserves_Xattn_XattnIdeal
    ∧ algebraic_XattnIdeal_XattnReferenceIdeal_pre_finite (hXattnIdeal := hXattnIdeal) (hXattnReferenceIdeal := hXattnReferenceIdeal) (hPre_finite := hPre_finite)
    ∧ preserves_Proj_ProjIdeal
    ∧ algebraic_ProjIdeal_ProjReferenceIdeal (hProjIdeal := hProjIdeal) (hProjReferenceIdeal := hProjReferenceIdeal)
    ∧ preserves_Kv_KvIdeal
    ∧ algebraic_KvIdeal_KvReferenceIdeal (hKvIdeal := hKvIdeal) (hKvReferenceIdeal := hKvReferenceIdeal)
-- ==== Pre_finite.lean ====
abbrev S16x4096x1024 : Shape := ⟨3, ![16, 4096, 1024]⟩
abbrev S16x4096x256 : Shape := ⟨3, ![16, 4096, 256]⟩
abbrev S1024x1024 : Shape := ⟨2, ![1024, 1024]⟩
abbrev S1024 : Shape := ⟨1, ![1024]⟩
abbrev S16x256x1024 : Shape := ⟨3, ![16, 256, 1024]⟩
abbrev S_ : Shape := ⟨0, ![]⟩

class Facts : Prop where
  bcast_S_S1024 : S_.BroadcastsInDim S1024 (![] : Fin 0 → Fin S1024.rank)
  bcast_S_S1024x1024 : S_.BroadcastsInDim S1024x1024 (![] : Fin 0 → Fin S1024x1024.rank)
  bcast_S_S16x256x1024 : S_.BroadcastsInDim S16x256x1024 (![] : Fin 0 → Fin S16x256x1024.rank)

variable [Facts]

def fn {F : FTy → Type} [FloatOps F] (main_arg0 : FVec F S16x4096x1024 .f32) (main_arg1 : FVec F S16x4096x256 .f32) (main_arg2 : FVec F S16x4096x256 .f32) (main_arg3 : FVec F S16x4096x256 .f32) (main_arg4 : FVec F S16x4096x256 .f32) (main_arg5 : FVec F S1024x1024 .f32) (main_arg6 : FVec F S1024 .f32) (main_arg7 : FVec F S1024x1024 .f32) (main_arg8 : FVec F S16x256x1024 .f32) (main_arg9 : FVec F S16x256x1024 .f32) (main_arg10 : FVec F S1024x1024 .f32) : IVec S1024 1 × IVec S1024x1024 1 × IVec S16x256x1024 1 :=
  let main_v0 : FVec F S1024 .f32 := Host.absf main_arg6
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x1024 .f32 := Host.absf main_arg7
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S16x256x1024 .f32 := Host.absf main_arg8
  let main_cst_1 : FVec F S_ .f32 := constant S_ .f32 0x7F800000#32
  let main_v7 : FVec F S16x256x1024 .f32 := broadcastInDim S16x256x1024 ![] bcast_S_S16x256x1024 main_cst_1
  let main_v8 : IVec S16x256x1024 1 := cmpf .olt main_v6 main_v7
  (main_v2, main_v5, main_v8)
-- ==== Kernel.lean ====
abbrev S16x4096x256 : Shape := ⟨3, ![16, 4096, 256]⟩
abbrev S4x32 : Shape := ⟨2, ![4, 32]⟩
abbrev S64 : Shape := ⟨1, ![64]⟩
abbrev S4x4096 : Shape := ⟨2, ![4, 4096]⟩
abbrev S_ : Shape := ⟨0, ![]⟩
abbrev S35x128x128 : Shape := ⟨3, ![35, 128, 128]⟩
abbrev S1x35x128x128 : Shape := ⟨4, ![1, 35, 128, 128]⟩
abbrev S35x128x128x1 : Shape := ⟨4, ![35, 128, 128, 1]⟩
abbrev S4x35x128x128 : Shape := ⟨4, ![4, 35, 128, 128]⟩
abbrev S35x4x128x128 : Shape := ⟨4, ![35, 4, 128, 128]⟩
abbrev S35x512x128 : Shape := ⟨3, ![35, 512, 128]⟩
abbrev S1x1 : Shape := ⟨2, ![1, 1]⟩
abbrev S16x4096x512 : Shape := ⟨3, ![16, 4096, 512]⟩
abbrev S16x32x128x256 : Shape := ⟨4, ![16, 32, 128, 256]⟩
abbrev S16x32x256x128 : Shape := ⟨4, ![16, 32, 256, 128]⟩
abbrev S64x1 : Shape := ⟨2, ![64, 1]⟩
abbrev S64x512 : Shape := ⟨2, ![64, 512]⟩
abbrev S1x512x256 : Shape := ⟨3, ![1, 512, 256]⟩
abbrev S1x4096x256 : Shape := ⟨3, ![1, 4096, 256]⟩
abbrev S1x32x256x128 : Shape := ⟨4, ![1, 32, 256, 128]⟩
abbrev S16x2048x256 : Shape := ⟨3, ![16, 2048, 256]⟩
abbrev S16x4x80x256 : Shape := ⟨4, ![16, 4, 80, 256]⟩
abbrev S2x4x64x512 : Shape := ⟨4, ![2, 4, 64, 512]⟩
abbrev S2048x512 : Shape := ⟨2, ![2048, 512]⟩
abbrev S1x256 : Shape := ⟨2, ![1, 256]⟩
abbrev S256x256 : Shape := ⟨2, ![256, 256]⟩
abbrev S2048x256 : Shape := ⟨2, ![2048, 256]⟩
abbrev S16x256 : Shape := ⟨2, ![16, 256]⟩
abbrev S1x256x256 : Shape := ⟨3, ![1, 256, 256]⟩
abbrev S1x2048x256 : Shape := ⟨3, ![1, 2048, 256]⟩
abbrev S1x1x256x128 : Shape := ⟨4, ![1, 1, 256, 128]⟩
abbrev S256x128 : Shape := ⟨2, ![256, 128]⟩
abbrev S64x256 : Shape := ⟨2, ![64, 256]⟩
abbrev S80x256 : Shape := ⟨2, ![80, 256]⟩
abbrev S1x1x80x256 : Shape := ⟨4, ![1, 1, 80, 256]⟩
abbrev S256 : Shape := ⟨1, ![256]⟩
abbrev S512x256 : Shape := ⟨2, ![512, 256]⟩
abbrev S1 : Shape := ⟨1, ![1]⟩
abbrev S1x1x1 : Shape := ⟨3, ![1, 1, 1]⟩
abbrev S1x512 : Shape := ⟨2, ![1, 512]⟩
abbrev S1x512x128 : Shape := ⟨3, ![1, 512, 128]⟩
abbrev S512x128 : Shape := ⟨2, ![512, 128]⟩
abbrev S128x128 : Shape := ⟨2, ![128, 128]⟩
abbrev S128x512 : Shape := ⟨2, ![128, 512]⟩
abbrev S256x512 : Shape := ⟨2, ![256, 512]⟩
abbrev S80x512 : Shape := ⟨2, ![80, 512]⟩
abbrev S1x1x64x512 : Shape := ⟨4, ![1, 1, 64, 512]⟩
abbrev S512 : Shape := ⟨1, ![512]⟩
abbrev S1x32 : Shape := ⟨2, ![1, 32]⟩

abbrev nBuf : Space → Nat
  | .hbm => 76
  | .vmem => 17
  | .smem => 1
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16x4096x256, .f32⟩
  | .hbm, ⟨3, _⟩ => ⟨S4x32, .f32⟩
  | .hbm, ⟨4, _⟩ => ⟨S64, .f32⟩
  | .hbm, ⟨5, _⟩ => ⟨S4x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x4096, .f32⟩
  | .hbm, ⟨11, _⟩ => ⟨S4x4096, .f32⟩
  | .hbm, ⟨12, _⟩ => ⟨S35x128x128, .i32⟩
  | .hbm, ⟨13, _⟩ => ⟨S_, .i32⟩
  | .hbm, ⟨14, _⟩ => ⟨S35x128x128, .i32⟩
  | .hbm, ⟨15, _⟩ => ⟨S35x128x128, .i32⟩
  | .hbm, ⟨16, _⟩ => ⟨S_, .i32⟩
  | .hbm, ⟨17, _⟩ => ⟨S35x128x128, .i32⟩
  | .hbm, ⟨18, _⟩ => ⟨S35x128x128, .i32⟩
  | .hbm, ⟨19, _⟩ => ⟨S35x128x128, .i32⟩
  | .hbm, ⟨20, _⟩ => ⟨S35x128x128, .i32⟩
  | .hbm, ⟨21, _⟩ => ⟨S35x128x128, .i32⟩
  | .hbm, ⟨22, _⟩ => ⟨S35x128x128, .i32⟩
  | .hbm, ⟨23, _⟩ => ⟨S_, .i32⟩
  | .hbm, ⟨24, _⟩ => ⟨S35x128x128, .i32⟩
  | .hbm, ⟨25, _⟩ => ⟨S35x128x128, .i1⟩
  | .hbm, ⟨26, _⟩ => ⟨S1x35x128x128, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S35x128x128, .i32⟩
  | .hbm, ⟨31, _⟩ => ⟨S35x128x128, .i32⟩
  | .hbm, ⟨32, _⟩ => ⟨S_, .i32⟩
  | .hbm, ⟨33, _⟩ => ⟨S35x128x128, .i32⟩
  | .hbm, ⟨34, _⟩ => ⟨S35x128x128, .i32⟩
  | .hbm, ⟨35, _⟩ => ⟨S_, .i32⟩
  | .hbm, ⟨36, _⟩ => ⟨S35x128x128, .i32⟩
  | .hbm, ⟨37, _⟩ => ⟨S35x128x128, .i1⟩
  | .hbm, ⟨38, _⟩ => ⟨S_, .i32⟩
  | .hbm, ⟨39, _⟩ => ⟨S35x128x128, .i32⟩
  | .hbm, ⟨40, _⟩ => ⟨S35x128x128, .i32⟩
  | .hbm, ⟨41, _⟩ => ⟨S35x128x128, .i32⟩
  | .hbm, ⟨42, _⟩ => ⟨S35x128x128x1, .i32⟩
  | .hbm, ⟨43, _⟩ => ⟨S4x35x128x128, .f32⟩
  | .hbm, ⟨44, _⟩ => ⟨S_, .f32⟩
  | .hbm, ⟨45, _⟩ => ⟨S_, .f32⟩
  | .hbm, ⟨46, _⟩ => ⟨S4x35x128x128, .i1⟩
  | .hbm, ⟨47, _⟩ => ⟨S4x35x128x128, .f32⟩
  | .hbm, ⟨48, _⟩ => ⟨S4x35x128x128, .f32⟩
  | .hbm, ⟨49, _⟩ => ⟨S35x4x128x128, .f32⟩
  | .hbm, ⟨50, _⟩ => ⟨S4x4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S35x512x128, .f32⟩
  | .hbm, ⟨58, _⟩ => ⟨S_, .f32⟩
  | .hbm, ⟨59, _⟩ => ⟨S1x1, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S16x4096x256, .f32⟩
  | .hbm, ⟨67, _⟩ => ⟨S16x4096x256, .f32⟩
  | .hbm, ⟨68, _⟩ => ⟨S16x4096x512, .f32⟩
  | .hbm, ⟨69, _⟩ => ⟨S16x4096x512, .bf16⟩
  | .hbm, ⟨70, _⟩ => ⟨S16x32x128x256, .f32⟩
  | .hbm, ⟨71, _⟩ => ⟨S16x32x256x128, .f32⟩
  | .hbm, ⟨72, _⟩ => ⟨S16x32x256x128, .bf16⟩
  | .hbm, ⟨73, _⟩ => ⟨S64x1, .f32⟩
  | .hbm, ⟨74, _⟩ => ⟨S64x512, .f32⟩
  | .hbm, ⟨75, _⟩ => ⟨S16x4096x256, .bf16⟩
  | .local _ .vmem, ⟨0, _⟩ => ⟨S1x512x256, .bf16⟩
  | .local _ .vmem, ⟨1, _⟩ => ⟨S1x512x256, .bf16⟩
  | .local _ .vmem, ⟨2, _⟩ => ⟨S1x4096x256, .bf16⟩
  | .local _ .vmem, ⟨3, _⟩ => ⟨S1x32x256x128, .bf16⟩
  | .local _ .vmem, ⟨4, _⟩ => ⟨S35x512x128, .f32⟩
  | .local _ .vmem, ⟨5, _⟩ => ⟨S4x32, .f32⟩
  | .local _ .vmem, ⟨6, _⟩ => ⟨S64x512, .f32⟩
  | .local _ .vmem, ⟨7, _⟩ => ⟨S1x512x256, .bf16⟩
  | .local _ .vmem, ⟨8, _⟩ => ⟨S1x512x256, .bf16⟩
  | .local _ .vmem, ⟨9, _⟩ => ⟨S16x2048x256, .bf16⟩
  | .local _ .vmem, ⟨10, _⟩ => ⟨S16x4x80x256, .bf16⟩
  | .local _ .vmem, ⟨11, _⟩ => ⟨S2x4x64x512, .f32⟩
  | .local _ .vmem, ⟨12, _⟩ => ⟨S2048x512, .f32⟩
  | .local _ .vmem, ⟨13, _⟩ => ⟨S2048x512, .f32⟩
  | .local _ .vmem, ⟨14, _⟩ => ⟨S2048x512, .bf16⟩
  | .local _ .vmem, ⟨15, _⟩ => ⟨S2048x512, .bf16⟩
  | .local _ .vmem, ⟨16, _⟩ => ⟨S1x256, .f32⟩
  | .local _ .smem, ⟨0, _⟩ => ⟨S1x1, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_c_4 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_8 : Ref sig .tc := ⟨.hbm, 51, rfl⟩
abbrev main_v27 : Ref sig .tc := ⟨.hbm, 52, rfl⟩
abbrev main_cst_9 : Ref sig .tc := ⟨.hbm, 53, rfl⟩
abbrev main_v28 : Ref sig .tc := ⟨.hbm, 54, rfl⟩
abbrev main_cst_10 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_11 : Ref sig .tc := ⟨.hbm, 60, rfl⟩
abbrev main_v33 : Ref sig .tc := ⟨.hbm, 61, rfl⟩
abbrev main_cst_12 : Ref sig .tc := ⟨.hbm, 62, rfl⟩
abbrev main_v34 : Ref sig .tc := ⟨.hbm, 63, rfl⟩
abbrev main_cst_13 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32_11 : BitVec 32 := 0#32
  let v54 : BitVec 1 := Scalar.cmpi .eq arg1 c0_i32_11
  let v55 : BitVec 32 := Scalar.extui v54
  let c0_i32_12 : BitVec 32 := 0#32
  let v56 : BitVec 1 := Scalar.cmpi .ne v55 c0_i32_12
  v56

@[reducible] def k0_t1_loop : Scf.Loop 32 :=
  let c0_i32_126 : BitVec 32 := 0#32
  let c16_i32 : BitVec 32 := 16#32
  let v332 : BitVec 32 := Scalar.addi c0_i32_126 c16_i32
  let c1_i32_127 : BitVec 32 := 1#32
  ⟨c0_i32_126, v332, c1_i32_127⟩
def k0_mult1 (k0_t1 : Fin k0_t1_loop.trips) : BitVec 32 :=
  let c0_i32_126 : BitVec 32 := 0#32
  let c1_i32_127 : BitVec 32 := 1#32
  let arg18 : BitVec 32 := Scf.iv c0_i32_126 c1_i32_127 k0_t1
  let c256_i32_131 : BitVec 32 := 256#32
  let v337 : BitVec 32 := Scalar.muli arg18 c256_i32_131
  v337
def k0_off1 (k0_t1 : Fin k0_t1_loop.trips) : Fin 3 → Nat :=
  let c0_132 : Index := 0#32
  let c0_i32_126 : BitVec 32 := 0#32
  let c1_i32_127 : BitVec 32 := 1#32
  let arg18 : BitVec 32 := Scf.iv c0_i32_126 c1_i32_127 k0_t1
  let c256_i32_131 : BitVec 32 := 256#32
  let v337 : BitVec 32 := Scalar.muli arg18 c256_i32_131
  let v338 : BitVec 32 := v337
  let v339 : Index := Scalar.indexCast v338
  let c0_133 : Index := 0#32
  ![0, v339.toNat, 0]
def k0_off2 (k0_t1 : Fin k0_t1_loop.trips) : Fin 3 → Nat :=
  let c0_i32_126 : BitVec 32 := 0#32
  let c1_i32_127 : BitVec 32 := 1#32
  let arg18 : BitVec 32 := Scf.iv c0_i32_126 c1_i32_127 k0_t1
  let v345 : Index := Scalar.indexCast arg18
  let c0_135 : Index := 0#32
  let c0_136 : Index := 0#32
  ![v345.toNat, 0, 0]
def k0_off3 (k0_t1 : Fin k0_t1_loop.trips) : Fin 4 → Nat :=
  let c0_138 : Index := 0#32
  let c2_i32_137 : BitVec 32 := 2#32
  let c0_i32_126 : BitVec 32 := 0#32
  let c1_i32_127 : BitVec 32 := 1#32
  let arg18 : BitVec 32 := Scf.iv c0_i32_126 c1_i32_127 k0_t1
  let v349 : BitVec 32 := Scalar.muli c2_i32_137 arg18
  let v350 : Index := Scalar.indexCast v349
  let c0_139 : Index := 0#32
  let c0_140 : Index := 0#32
  ![0, v350.toNat, 0, 0]
def k0_off4 (k0_t1 : Fin k0_t1_loop.trips) : Fin 4 → Nat :=
  let c0_143 : Index := 0#32
  let c2_i32_141 : BitVec 32 := 2#32
  let c0_i32_126 : BitVec 32 := 0#32
  let c1_i32_127 : BitVec 32 := 1#32
  let arg18 : BitVec 32 := Scf.iv c0_i32_126 c1_i32_127 k0_t1
  let v353 : BitVec 32 := Scalar.muli c2_i32_141 arg18
  let c1_i32_142 : BitVec 32 := 1#32
  let v354 : BitVec 32 := Scalar.addi v353 c1_i32_142
  let v355 : Index := Scalar.indexCast v354
  let c0_144 : Index := 0#32
  let c0_145 : Index := 0#32
  ![0, v355.toNat, 0, 0]
def k0_off5 (k0_t1 : Fin k0_t1_loop.trips) : Fin 4 → Nat :=
  let c0_i32_126 : BitVec 32 := 0#32
  let c1_i32_127 : BitVec 32 := 1#32
  let arg18 : BitVec 32 := Scf.iv c0_i32_126 c1_i32_127 k0_t1
  let v361 : Index := Scalar.indexCast arg18
  let c0_146 : Index := 0#32
  let c0_147 : Index := 0#32
  let c0_148 : Index := 0#32
  ![v361.toNat, 0, 0, 0]
def k0_off6 (k0_t1 : Fin k0_t1_loop.trips) : Fin 4 → Nat :=
  let c0_i32_126 : BitVec 32 := 0#32
  let c1_i32_127 : BitVec 32 := 1#32
  let arg18 : BitVec 32 := Scf.iv c0_i32_126 c1_i32_127 k0_t1
  let v367 : Index := Scalar.indexCast arg18
  let c1_149 : Index := 1#32
  let c0_150 : Index := 0#32
  let c0_151 : Index := 0#32
  ![v367.toNat, 1, 0, 0]
def k0_off7 (k0_t1 : Fin k0_t1_loop.trips) : Fin 4 → Nat :=
  let c0_i32_126 : BitVec 32 := 0#32
  let c1_i32_127 : BitVec 32 := 1#32
  let arg18 : BitVec 32 := Scf.iv c0_i32_126 c1_i32_127 k0_t1
  let v373 : Index := Scalar.indexCast arg18
  let c2_152 : Index := 2#32
  let c0_153 : Index := 0#32
  let c0_154 : Index := 0#32
  ![v373.toNat, 2, 0, 0]
def k0_off8 (k0_t1 : Fin k0_t1_loop.trips) : Fin 4 → Nat :=
  let c0_i32_126 : BitVec 32 := 0#32
  let c1_i32_127 : BitVec 32 := 1#32
  let arg18 : BitVec 32 := Scf.iv c0_i32_126 c1_i32_127 k0_t1
  let v379 : Index := Scalar.indexCast arg18
  let c3_155 : Index := 3#32
  let c0_156 : Index := 0#32
  let c0_157 : Index := 0#32
  ![v379.toNat, 3, 0, 0]
def k0_off9 (i : grid0.Coords) (c_m1_i32 : BitVec 32) : Fin 3 → Nat :=
  let c4_i32 : BitVec 32 := 4#32
  let arg1 : BitVec 32 := BitVec.ofNat 32 (i 1).val
  let v231 : BitVec 32 := Scalar.muli c4_i32 arg1
  let c0_i32_98 : BitVec 32 := 0#32
  let v232 : BitVec 32 := Scalar.subi v231 c0_i32_98
  let c_m3_i32 : BitVec 32 := 4294967293#32
  let v233 : BitVec 32 := Scalar.subi v232 c_m3_i32
  let v234 : BitVec 32 := Scalar.addi v233 c_m1_i32
  let c0_i32_99 : BitVec 32 := 0#32
  let v235 : BitVec 32 := Scalar.maxsi v234 c0_i32_99
  let v236 : Index := Scalar.indexCast v235
  let c0_100 : Index := 0#32
  let c0_101 : Index := 0#32
  ![v236.toNat, 0, 0]
def k0_off9_at (r : Fin 5) : BitVec 32 :=
  if r.val < 2 then
    if r.val < 1 then
      4294967295#32
    else
      0#32
  else
    if r.val < 3 then
      1#32
    else
      if r.val < 4 then
        2#32
      else
        3#32
def k0_off10 : Fin 3 → Nat :=
  let c0_i32_117 : BitVec 32 := 0#32
  let c15_i32 : BitVec 32 := 15#32
  let v303 : BitVec 32 := Scalar.minsi c0_i32_117 c15_i32
  let v304 : Index := Scalar.indexCast v303
  let c0_118 : Index := 0#32
  let c0_119 : Index := 0#32
  ![v304.toNat, 0, 0]
@[reducible] def k0_t2_loop (i : grid0.Coords) : Scf.Loop 32 :=
  let c0_i32_138 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v372 : BitVec 32 := Scalar.subi v82 c0_i32_138
  let c1_i32_139 : BitVec 32 := 1#32
  let v374 : BitVec 32 := Scalar.divsi v372 c1_i32_139
  let v375 : BitVec 32 := Scalar.muli v374 c1_i32_139
  let v376 : BitVec 32 := Scalar.addi c0_i32_138 v375
  let c1_i32_140 : BitVec 32 := 1#32
  ⟨c0_i32_138, v376, c1_i32_140⟩
def k0_off11 (i : grid0.Coords) (k0_t2 : Fin (k0_t2_loop i).trips) (c1_i32_143 : BitVec 32) (c_m1_i32_147 : BitVec 32) : Fin 3 → Nat :=
  let c4_i32_144 : BitVec 32 := 4#32
  let arg1 : BitVec 32 := BitVec.ofNat 32 (i 1).val
  let v381 : BitVec 32 := Scalar.muli c4_i32_144 arg1
  let c2_i32_145 : BitVec 32 := 2#32
  let c2_i32_142 : BitVec 32 := 2#32
  let c0_i32_138 : BitVec 32 := 0#32
  let c1_i32_140 : BitVec 32 := 1#32
  let arg18 : BitVec 32 := Scf.iv c0_i32_138 c1_i32_140 k0_t2
  let v379 : BitVec 32 := Scalar.muli c2_i32_142 arg18
  let v380 : BitVec 32 := Scalar.addi v379 c1_i32_143
  let v382 : BitVec 32 := Scalar.muli c2_i32_145 v380
  let v383 : BitVec 32 := Scalar.subi v381 v382
  let c_m3_i32_146 : BitVec 32 := 4294967293#32
  let v384 : BitVec 32 := Scalar.subi v383 c_m3_i32_146
  let v385 : BitVec 32 := Scalar.addi v384 c_m1_i32_147
  let c0_i32_148 : BitVec 32 := 0#32
  let v386 : BitVec 32 := Scalar.maxsi v385 c0_i32_148
  let v387 : Index := Scalar.indexCast v386
  let c0_149 : Index := 0#32
  let c0_150 : Index := 0#32
  ![v387.toNat, 0, 0]
def k0_off11_at (r : Fin 10) : BitVec 32 × BitVec 32 :=
  if r.val < 5 then
    if r.val < 2 then
      if r.val < 1 then
        (1#32, 4294967295#32)
      else
        (1#32, 0#32)
    else
      if r.val < 3 then
        (1#32, 1#32)
      else
        if r.val < 4 then
          (1#32, 2#32)
        else
          (1#32, 3#32)
  else
    if r.val < 7 then
      if r.val < 6 then
        (2#32, 4294967295#32)
      else
        (2#32, 0#32)
    else
      if r.val < 8 then
        (2#32, 1#32)
      else
        if r.val < 9 then
          (2#32, 2#32)
        else
          (2#32, 3#32)
def k0_off12 (i : grid0.Coords) (k0_t2 : Fin (k0_t2_loop i).trips) (c1_i32_143 : BitVec 32) : Fin 3 → Nat :=
  let c2_i32_142 : BitVec 32 := 2#32
  let c0_i32_138 : BitVec 32 := 0#32
  let c1_i32_140 : BitVec 32 := 1#32
  let arg18 : BitVec 32 := Scf.iv c0_i32_138 c1_i32_140 k0_t2
  let v379 : BitVec 32 := Scalar.muli c2_i32_142 arg18
  let v380 : BitVec 32 := Scalar.addi v379 c1_i32_143
  let c15_i32_167 : BitVec 32 := 15#32
  let v454 : BitVec 32 := Scalar.minsi v380 c15_i32_167
  let v455 : Index := Scalar.indexCast v454
  let c0_168 : Index := 0#32
  let c0_169 : Index := 0#32
  ![v455.toNat, 0, 0]
def k0_off13 (i : grid0.Coords) (k0_t2 : Fin (k0_t2_loop i).trips) : Fin 4 → Nat :=
  let c2_i32_142 : BitVec 32 := 2#32
  let c0_i32_138 : BitVec 32 := 0#32
  let c1_i32_140 : BitVec 32 := 1#32
  let arg18 : BitVec 32 := Scf.iv c0_i32_138 c1_i32_140 k0_t2
  let v379 : BitVec 32 := Scalar.muli c2_i32_142 arg18
  let c15_i32_187 : BitVec 32 := 15#32
  let v515 : BitVec 32 := Scalar.minsi v379 c15_i32_187
  let v516 : Index := Scalar.indexCast v515
  let c0_188 : Index := 0#32
  let c0_189 : Index := 0#32
  let c0_190 : Index := 0#32
  ![v516.toNat, 0, 0, 0]
def k0_off14 (i : grid0.Coords) (k0_t2 : Fin (k0_t2_loop i).trips) : Fin 4 → Nat :=
  let c2_i32_142 : BitVec 32 := 2#32
  let c0_i32_138 : BitVec 32 := 0#32
  let c1_i32_140 : BitVec 32 := 1#32
  let arg18 : BitVec 32 := Scf.iv c0_i32_138 c1_i32_140 k0_t2
  let v379 : BitVec 32 := Scalar.muli c2_i32_142 arg18
  let c15_i32_187 : BitVec 32 := 15#32
  let v515 : BitVec 32 := Scalar.minsi v379 c15_i32_187
  let v530 : Index := Scalar.indexCast v515
  let c1_202 : Index := 1#32
  let c0_203 : Index := 0#32
  let c0_204 : Index := 0#32
  ![v530.toNat, 1, 0, 0]
def k0_off15 (i : grid0.Coords) (k0_t2 : Fin (k0_t2_loop i).trips) : Fin 4 → Nat :=
  let c2_i32_142 : BitVec 32 := 2#32
  let c0_i32_138 : BitVec 32 := 0#32
  let c1_i32_140 : BitVec 32 := 1#32
  let arg18 : BitVec 32 := Scf.iv c0_i32_138 c1_i32_140 k0_t2
  let v379 : BitVec 32 := Scalar.muli c2_i32_142 arg18
  let c15_i32_187 : BitVec 32 := 15#32
  let v515 : BitVec 32 := Scalar.minsi v379 c15_i32_187
  let v544 : Index := Scalar.indexCast v515
  let c2_216 : Index := 2#32
  let c0_217 : Index := 0#32
  let c0_218 : Index := 0#32
  ![v544.toNat, 2, 0, 0]
def k0_off16 (i : grid0.Coords) (k0_t2 : Fin (k0_t2_loop i).trips) : Fin 4 → Nat :=
  let c2_i32_142 : BitVec 32 := 2#32
  let c0_i32_138 : BitVec 32 := 0#32
  let c1_i32_140 : BitVec 32 := 1#32
  let arg18 : BitVec 32 := Scf.iv c0_i32_138 c1_i32_140 k0_t2
  let v379 : BitVec 32 := Scalar.muli c2_i32_142 arg18
  let c15_i32_187 : BitVec 32 := 15#32
  let v515 : BitVec 32 := Scalar.minsi v379 c15_i32_187
  let v558 : Index := Scalar.indexCast v515
  let c3_230 : Index := 3#32
  let c0_231 : Index := 0#32
  let c0_232 : Index := 0#32
  ![v558.toNat, 3, 0, 0]
def k0_off17 (i : grid0.Coords) (k0_t2 : Fin (k0_t2_loop i).trips) : Fin 4 → Nat :=
  let c2_i32_142 : BitVec 32 := 2#32
  let c0_i32_138 : BitVec 32 := 0#32
  let c1_i32_140 : BitVec 32 := 1#32
  let arg18 : BitVec 32 := Scf.iv c0_i32_138 c1_i32_140 k0_t2
  let v379 : BitVec 32 := Scalar.muli c2_i32_142 arg18
  let c1_i32_344 : BitVec 32 := 1#32
  let v763 : BitVec 32 := Scalar.addi v379 c1_i32_344
  let c15_i32_345 : BitVec 32 := 15#32
  let v764 : BitVec 32 := Scalar.minsi v763 c15_i32_345
  let v765 : Index := Scalar.indexCast v764
  let c0_346 : Index := 0#32
  let c0_347 : Index := 0#32
  let c0_348 : Index := 0#32
  ![v765.toNat, 0, 0, 0]
def k0_off18 (i : grid0.Coords) (k0_t2 : Fin (k0_t2_loop i).trips) : Fin 4 → Nat :=
  let c2_i32_142 : BitVec 32 := 2#32
  let c0_i32_138 : BitVec 32 := 0#32
  let c1_i32_140 : BitVec 32 := 1#32
  let arg18 : BitVec 32 := Scf.iv c0_i32_138 c1_i32_140 k0_t2
  let v379 : BitVec 32 := Scalar.muli c2_i32_142 arg18
  let c1_i32_344 : BitVec 32 := 1#32
  let v763 : BitVec 32 := Scalar.addi v379 c1_i32_344
  let c15_i32_345 : BitVec 32 := 15#32
  let v764 : BitVec 32 := Scalar.minsi v763 c15_i32_345
  let v779 : Index := Scalar.indexCast v764
  let c1_360 : Index := 1#32
  let c0_361 : Index := 0#32
  let c0_362 : Index := 0#32
  ![v779.toNat, 1, 0, 0]
def k0_off19 (i : grid0.Coords) (k0_t2 : Fin (k0_t2_loop i).trips) : Fin 4 → Nat :=
  let c2_i32_142 : BitVec 32 := 2#32
  let c0_i32_138 : BitVec 32 := 0#32
  let c1_i32_140 : BitVec 32 := 1#32
  let arg18 : BitVec 32 := Scf.iv c0_i32_138 c1_i32_140 k0_t2
  let v379 : BitVec 32 := Scalar.muli c2_i32_142 arg18
  let c1_i32_344 : BitVec 32 := 1#32
  let v763 : BitVec 32 := Scalar.addi v379 c1_i32_344
  let c15_i32_345 : BitVec 32 := 15#32
  let v764 : BitVec 32 := Scalar.minsi v763 c15_i32_345
  let v793 : Index := Scalar.indexCast v764
  let c2_374 : Index := 2#32
  let c0_375 : Index := 0#32
  let c0_376 : Index := 0#32
  ![v793.toNat, 2, 0, 0]
def k0_off20 (i : grid0.Coords) (k0_t2 : Fin (k0_t2_loop i).trips) : Fin 4 → Nat :=
  let c2_i32_142 : BitVec 32 := 2#32
  let c0_i32_138 : BitVec 32 := 0#32
  let c1_i32_140 : BitVec 32 := 1#32
  let arg18 : BitVec 32 := Scf.iv c0_i32_138 c1_i32_140 k0_t2
  let v379 : BitVec 32 := Scalar.muli c2_i32_142 arg18
  let c1_i32_344 : BitVec 32 := 1#32
  let v763 : BitVec 32 := Scalar.addi v379 c1_i32_344
  let c15_i32_345 : BitVec 32 := 15#32
  let v764 : BitVec 32 := Scalar.minsi v763 c15_i32_345
  let v807 : Index := Scalar.indexCast v764
  let c3_388 : Index := 3#32
  let c0_389 : Index := 0#32
  let c0_390 : Index := 0#32
  ![v807.toNat, 3, 0, 0]
@[reducible] def k0_t3_loop (i : grid0.Coords) : Scf.Loop 32 :=
  let c0_i32_138 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v372 : BitVec 32 := Scalar.subi v82 c0_i32_138
  let c1_i32_139 : BitVec 32 := 1#32
  let v374 : BitVec 32 := Scalar.divsi v372 c1_i32_139
  let v375 : BitVec 32 := Scalar.muli v374 c1_i32_139
  let v376 : BitVec 32 := Scalar.addi c0_i32_138 v375
  let v373 : BitVec 32 := Scalar.addi c0_i32_138 v372
  let c1_i32_141 : BitVec 32 := 1#32
  ⟨v376, v373, c1_i32_141⟩
def k0_off21 (i : grid0.Coords) (k0_t3 : Fin (k0_t3_loop i).trips) (c1_i32_143 : BitVec 32) (c_m1_i32_147 : BitVec 32) : Fin 3 → Nat :=
  let c4_i32_144 : BitVec 32 := 4#32
  let arg1 : BitVec 32 := BitVec.ofNat 32 (i 1).val
  let v381 : BitVec 32 := Scalar.muli c4_i32_144 arg1
  let c2_i32_145 : BitVec 32 := 2#32
  let c2_i32_142 : BitVec 32 := 2#32
  let c0_i32_138 : BitVec 32 := 0#32
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v372 : BitVec 32 := Scalar.subi v82 c0_i32_138
  let c1_i32_139 : BitVec 32 := 1#32
  let v374 : BitVec 32 := Scalar.divsi v372 c1_i32_139
  let v375 : BitVec 32 := Scalar.muli v374 c1_i32_139
  let v376 : BitVec 32 := Scalar.addi c0_i32_138 v375
  let c1_i32_141 : BitVec 32 := 1#32
  let arg18 : BitVec 32 := Scf.iv v376 c1_i32_141 k0_t3
  let v379 : BitVec 32 := Scalar.muli c2_i32_142 arg18
  let v380 : BitVec 32 := Scalar.addi v379 c1_i32_143
  let v382 : BitVec 32 := Scalar.muli c2_i32_145 v380
  let v383 : BitVec 32 := Scalar.subi v381 v382
  let c_m3_i32_146 : BitVec 32 := 4294967293#32
  let v384 : BitVec 32 := Scalar.subi v383 c_m3_i32_146
  let v385 : BitVec 32 := Scalar.addi v384 c_m1_i32_147
  let c0_i32_148 : BitVec 32 := 0#32
  let v386 : BitVec 32 := Scalar.maxsi v385 c0_i32_148
  let v387 : Index := Scalar.indexCast v386
  let c0_149 : Index := 0#32
  let c0_150 : Index := 0#32
  ![v387.toNat, 0, 0]
def k0_off21_at (r : Fin 10) : BitVec 32 × BitVec 32 :=
  if r.val < 5 then
    if r.val < 2 then
      if r.val < 1 then
        (1#32, 4294967295#32)
      else
        (1#32, 0#32)
    else
      if r.val < 3 then
        (1#32, 1#32)
      else
        if r.val < 4 then
          (1#32, 2#32)
        else
          (1#32, 3#32)
  else
    if r.val < 7 then
      if r.val < 6 then
        (2#32, 4294967295#32)
      else
        (2#32, 0#32)
    else
      if r.val < 8 then
        (2#32, 1#32)
      else
        if r.val < 9 then
          (2#32, 2#32)
        else
          (2#32, 3#32)
def k0_off22 (i : grid0.Coords) (k0_t3 : Fin (k0_t3_loop i).trips) (c1_i32_143 : BitVec 32) : Fin 3 → Nat :=
  let c2_i32_142 : BitVec 32 := 2#32
  let c0_i32_138 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v372 : BitVec 32 := Scalar.subi v82 c0_i32_138
  let c1_i32_139 : BitVec 32 := 1#32
  let v374 : BitVec 32 := Scalar.divsi v372 c1_i32_139
  let v375 : BitVec 32 := Scalar.muli v374 c1_i32_139
  let v376 : BitVec 32 := Scalar.addi c0_i32_138 v375
  let c1_i32_141 : BitVec 32 := 1#32
  let arg18 : BitVec 32 := Scf.iv v376 c1_i32_141 k0_t3
  let v379 : BitVec 32 := Scalar.muli c2_i32_142 arg18
  let v380 : BitVec 32 := Scalar.addi v379 c1_i32_143
  let c15_i32_167 : BitVec 32 := 15#32
  let v454 : BitVec 32 := Scalar.minsi v380 c15_i32_167
  let v455 : Index := Scalar.indexCast v454
  let c0_168 : Index := 0#32
  let c0_169 : Index := 0#32
  ![v455.toNat, 0, 0]
def k0_off23 (i : grid0.Coords) (k0_t3 : Fin (k0_t3_loop i).trips) : Fin 4 → Nat :=
  let c2_i32_142 : BitVec 32 := 2#32
  let c0_i32_138 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v372 : BitVec 32 := Scalar.subi v82 c0_i32_138
  let c1_i32_139 : BitVec 32 := 1#32
  let v374 : BitVec 32 := Scalar.divsi v372 c1_i32_139
  let v375 : BitVec 32 := Scalar.muli v374 c1_i32_139
  let v376 : BitVec 32 := Scalar.addi c0_i32_138 v375
  let c1_i32_141 : BitVec 32 := 1#32
  let arg18 : BitVec 32 := Scf.iv v376 c1_i32_141 k0_t3
  let v379 : BitVec 32 := Scalar.muli c2_i32_142 arg18
  let c15_i32_187 : BitVec 32 := 15#32
  let v515 : BitVec 32 := Scalar.minsi v379 c15_i32_187
  let v516 : Index := Scalar.indexCast v515
  let c0_188 : Index := 0#32
  let c0_189 : Index := 0#32
  let c0_190 : Index := 0#32
  ![v516.toNat, 0, 0, 0]
def k0_off24 (i : grid0.Coords) (k0_t3 : Fin (k0_t3_loop i).trips) : Fin 4 → Nat :=
  let c2_i32_142 : BitVec 32 := 2#32
  let c0_i32_138 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v372 : BitVec 32 := Scalar.subi v82 c0_i32_138
  let c1_i32_139 : BitVec 32 := 1#32
  let v374 : BitVec 32 := Scalar.divsi v372 c1_i32_139
  let v375 : BitVec 32 := Scalar.muli v374 c1_i32_139
  let v376 : BitVec 32 := Scalar.addi c0_i32_138 v375
  let c1_i32_141 : BitVec 32 := 1#32
  let arg18 : BitVec 32 := Scf.iv v376 c1_i32_141 k0_t3
  let v379 : BitVec 32 := Scalar.muli c2_i32_142 arg18
  let c15_i32_187 : BitVec 32 := 15#32
  let v515 : BitVec 32 := Scalar.minsi v379 c15_i32_187
  let v530 : Index := Scalar.indexCast v515
  let c1_202 : Index := 1#32
  let c0_203 : Index := 0#32
  let c0_204 : Index := 0#32
  ![v530.toNat, 1, 0, 0]
def k0_off25 (i : grid0.Coords) (k0_t3 : Fin (k0_t3_loop i).trips) : Fin 4 → Nat :=
  let c2_i32_142 : BitVec 32 := 2#32
  let c0_i32_138 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v372 : BitVec 32 := Scalar.subi v82 c0_i32_138
  let c1_i32_139 : BitVec 32 := 1#32
  let v374 : BitVec 32 := Scalar.divsi v372 c1_i32_139
  let v375 : BitVec 32 := Scalar.muli v374 c1_i32_139
  let v376 : BitVec 32 := Scalar.addi c0_i32_138 v375
  let c1_i32_141 : BitVec 32 := 1#32
  let arg18 : BitVec 32 := Scf.iv v376 c1_i32_141 k0_t3
  let v379 : BitVec 32 := Scalar.muli c2_i32_142 arg18
  let c15_i32_187 : BitVec 32 := 15#32
  let v515 : BitVec 32 := Scalar.minsi v379 c15_i32_187
  let v544 : Index := Scalar.indexCast v515
  let c2_216 : Index := 2#32
  let c0_217 : Index := 0#32
  let c0_218 : Index := 0#32
  ![v544.toNat, 2, 0, 0]
def k0_off26 (i : grid0.Coords) (k0_t3 : Fin (k0_t3_loop i).trips) : Fin 4 → Nat :=
  let c2_i32_142 : BitVec 32 := 2#32
  let c0_i32_138 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v372 : BitVec 32 := Scalar.subi v82 c0_i32_138
  let c1_i32_139 : BitVec 32 := 1#32
  let v374 : BitVec 32 := Scalar.divsi v372 c1_i32_139
  let v375 : BitVec 32 := Scalar.muli v374 c1_i32_139
  let v376 : BitVec 32 := Scalar.addi c0_i32_138 v375
  let c1_i32_141 : BitVec 32 := 1#32
  let arg18 : BitVec 32 := Scf.iv v376 c1_i32_141 k0_t3
  let v379 : BitVec 32 := Scalar.muli c2_i32_142 arg18
  let c15_i32_187 : BitVec 32 := 15#32
  let v515 : BitVec 32 := Scalar.minsi v379 c15_i32_187
  let v558 : Index := Scalar.indexCast v515
  let c3_230 : Index := 3#32
  let c0_231 : Index := 0#32
  let c0_232 : Index := 0#32
  ![v558.toNat, 3, 0, 0]
def k0_off27 (i : grid0.Coords) (k0_t3 : Fin (k0_t3_loop i).trips) : Fin 4 → Nat :=
  let c2_i32_142 : BitVec 32 := 2#32
  let c0_i32_138 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v372 : BitVec 32 := Scalar.subi v82 c0_i32_138
  let c1_i32_139 : BitVec 32 := 1#32
  let v374 : BitVec 32 := Scalar.divsi v372 c1_i32_139
  let v375 : BitVec 32 := Scalar.muli v374 c1_i32_139
  let v376 : BitVec 32 := Scalar.addi c0_i32_138 v375
  let c1_i32_141 : BitVec 32 := 1#32
  let arg18 : BitVec 32 := Scf.iv v376 c1_i32_141 k0_t3
  let v379 : BitVec 32 := Scalar.muli c2_i32_142 arg18
  let c1_i32_344 : BitVec 32 := 1#32
  let v763 : BitVec 32 := Scalar.addi v379 c1_i32_344
  let c15_i32_345 : BitVec 32 := 15#32
  let v764 : BitVec 32 := Scalar.minsi v763 c15_i32_345
  let v765 : Index := Scalar.indexCast v764
  let c0_346 : Index := 0#32
  let c0_347 : Index := 0#32
  let c0_348 : Index := 0#32
  ![v765.toNat, 0, 0, 0]
def k0_off28 (i : grid0.Coords) (k0_t3 : Fin (k0_t3_loop i).trips) : Fin 4 → Nat :=
  let c2_i32_142 : BitVec 32 := 2#32
  let c0_i32_138 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v372 : BitVec 32 := Scalar.subi v82 c0_i32_138
  let c1_i32_139 : BitVec 32 := 1#32
  let v374 : BitVec 32 := Scalar.divsi v372 c1_i32_139
  let v375 : BitVec 32 := Scalar.muli v374 c1_i32_139
  let v376 : BitVec 32 := Scalar.addi c0_i32_138 v375
  let c1_i32_141 : BitVec 32 := 1#32
  let arg18 : BitVec 32 := Scf.iv v376 c1_i32_141 k0_t3
  let v379 : BitVec 32 := Scalar.muli c2_i32_142 arg18
  let c1_i32_344 : BitVec 32 := 1#32
  let v763 : BitVec 32 := Scalar.addi v379 c1_i32_344
  let c15_i32_345 : BitVec 32 := 15#32
  let v764 : BitVec 32 := Scalar.minsi v763 c15_i32_345
  let v779 : Index := Scalar.indexCast v764
  let c1_360 : Index := 1#32
  let c0_361 : Index := 0#32
  let c0_362 : Index := 0#32
  ![v779.toNat, 1, 0, 0]
def k0_off29 (i : grid0.Coords) (k0_t3 : Fin (k0_t3_loop i).trips) : Fin 4 → Nat :=
  let c2_i32_142 : BitVec 32 := 2#32
  let c0_i32_138 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v372 : BitVec 32 := Scalar.subi v82 c0_i32_138
  let c1_i32_139 : BitVec 32 := 1#32
  let v374 : BitVec 32 := Scalar.divsi v372 c1_i32_139
  let v375 : BitVec 32 := Scalar.muli v374 c1_i32_139
  let v376 : BitVec 32 := Scalar.addi c0_i32_138 v375
  let c1_i32_141 : BitVec 32 := 1#32
  let arg18 : BitVec 32 := Scf.iv v376 c1_i32_141 k0_t3
  let v379 : BitVec 32 := Scalar.muli c2_i32_142 arg18
  let c1_i32_344 : BitVec 32 := 1#32
  let v763 : BitVec 32 := Scalar.addi v379 c1_i32_344
  let c15_i32_345 : BitVec 32 := 15#32
  let v764 : BitVec 32 := Scalar.minsi v763 c15_i32_345
  let v793 : Index := Scalar.indexCast v764
  let c2_374 : Index := 2#32
  let c0_375 : Index := 0#32
  let c0_376 : Index := 0#32
  ![v793.toNat, 2, 0, 0]
def k0_off30 (i : grid0.Coords) (k0_t3 : Fin (k0_t3_loop i).trips) : Fin 4 → Nat :=
  let c2_i32_142 : BitVec 32 := 2#32
  let c0_i32_138 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v372 : BitVec 32 := Scalar.subi v82 c0_i32_138
  let c1_i32_139 : BitVec 32 := 1#32
  let v374 : BitVec 32 := Scalar.divsi v372 c1_i32_139
  let v375 : BitVec 32 := Scalar.muli v374 c1_i32_139
  let v376 : BitVec 32 := Scalar.addi c0_i32_138 v375
  let c1_i32_141 : BitVec 32 := 1#32
  let arg18 : BitVec 32 := Scf.iv v376 c1_i32_141 k0_t3
  let v379 : BitVec 32 := Scalar.muli c2_i32_142 arg18
  let c1_i32_344 : BitVec 32 := 1#32
  let v763 : BitVec 32 := Scalar.addi v379 c1_i32_344
  let c15_i32_345 : BitVec 32 := 15#32
  let v764 : BitVec 32 := Scalar.minsi v763 c15_i32_345
  let v807 : Index := Scalar.indexCast v764
  let c3_388 : Index := 3#32
  let c0_389 : Index := 0#32
  let c0_390 : Index := 0#32
  ![v807.toNat, 3, 0, 0]
def k0_off31 (i : grid0.Coords) (c_m1_i32 : BitVec 32) : Fin 3 → Nat :=
  let c4_i32 : BitVec 32 := 4#32
  let arg1 : BitVec 32 := BitVec.ofNat 32 (i 1).val
  let v247 : BitVec 32 := Scalar.muli c4_i32 arg1
  let c0_i32_114 : BitVec 32 := 0#32
  let v248 : BitVec 32 := Scalar.subi v247 c0_i32_114
  let c_m3_i32 : BitVec 32 := 4294967293#32
  let v249 : BitVec 32 := Scalar.subi v248 c_m3_i32
  let v250 : BitVec 32 := Scalar.addi v249 c_m1_i32
  let c0_i32_115 : BitVec 32 := 0#32
  let v251 : BitVec 32 := Scalar.maxsi v250 c0_i32_115
  let v252 : Index := Scalar.indexCast v251
  let c0_116 : Index := 0#32
  let c0_117 : Index := 0#32
  ![v252.toNat, 0, 0]
def k0_off31_at (r : Fin 5) : BitVec 32 :=
  if r.val < 2 then
    if r.val < 1 then
      4294967295#32
    else
      0#32
  else
    if r.val < 3 then
      1#32
    else
      if r.val < 4 then
        2#32
      else
        3#32
def k0_off32 : Fin 3 → Nat :=
  let c0_i32_133 : BitVec 32 := 0#32
  let c15_i32 : BitVec 32 := 15#32
  let v319 : BitVec 32 := Scalar.minsi c0_i32_133 c15_i32
  let v320 : Index := Scalar.indexCast v319
  let c0_134 : Index := 0#32
  let c0_135 : Index := 0#32
  ![v320.toNat, 0, 0]
@[reducible] def k0_t4_loop (i : grid0.Coords) : Scf.Loop 32 :=
  let c0_i32_154 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v380 : BitVec 32 := Scalar.subi v82 c0_i32_154
  let c1_i32_155 : BitVec 32 := 1#32
  let v382 : BitVec 32 := Scalar.divsi v380 c1_i32_155
  let v383 : BitVec 32 := Scalar.muli v382 c1_i32_155
  let v384 : BitVec 32 := Scalar.addi c0_i32_154 v383
  let c1_i32_156 : BitVec 32 := 1#32
  ⟨c0_i32_154, v384, c1_i32_156⟩
def k0_off33 (i : grid0.Coords) (k0_t4 : Fin (k0_t4_loop i).trips) (c1_i32_159 : BitVec 32) (c_m1_i32_163 : BitVec 32) : Fin 3 → Nat :=
  let c4_i32_160 : BitVec 32 := 4#32
  let arg1 : BitVec 32 := BitVec.ofNat 32 (i 1).val
  let v389 : BitVec 32 := Scalar.muli c4_i32_160 arg1
  let c2_i32_161 : BitVec 32 := 2#32
  let c2_i32_158 : BitVec 32 := 2#32
  let c0_i32_154 : BitVec 32 := 0#32
  let c1_i32_156 : BitVec 32 := 1#32
  let arg18 : BitVec 32 := Scf.iv c0_i32_154 c1_i32_156 k0_t4
  let v387 : BitVec 32 := Scalar.muli c2_i32_158 arg18
  let v388 : BitVec 32 := Scalar.addi v387 c1_i32_159
  let v390 : BitVec 32 := Scalar.muli c2_i32_161 v388
  let v391 : BitVec 32 := Scalar.subi v389 v390
  let c_m3_i32_162 : BitVec 32 := 4294967293#32
  let v392 : BitVec 32 := Scalar.subi v391 c_m3_i32_162
  let v393 : BitVec 32 := Scalar.addi v392 c_m1_i32_163
  let c0_i32_164 : BitVec 32 := 0#32
  let v394 : BitVec 32 := Scalar.maxsi v393 c0_i32_164
  let v395 : Index := Scalar.indexCast v394
  let c0_165 : Index := 0#32
  let c0_166 : Index := 0#32
  ![v395.toNat, 0, 0]
def k0_off33_at (r : Fin 10) : BitVec 32 × BitVec 32 :=
  if r.val < 5 then
    if r.val < 2 then
      if r.val < 1 then
        (1#32, 4294967295#32)
      else
        (1#32, 0#32)
    else
      if r.val < 3 then
        (1#32, 1#32)
      else
        if r.val < 4 then
          (1#32, 2#32)
        else
          (1#32, 3#32)
  else
    if r.val < 7 then
      if r.val < 6 then
        (2#32, 4294967295#32)
      else
        (2#32, 0#32)
    else
      if r.val < 8 then
        (2#32, 1#32)
      else
        if r.val < 9 then
          (2#32, 2#32)
        else
          (2#32, 3#32)
def k0_off34 (i : grid0.Coords) (k0_t4 : Fin (k0_t4_loop i).trips) (c1_i32_159 : BitVec 32) : Fin 3 → Nat :=
  let c2_i32_158 : BitVec 32 := 2#32
  let c0_i32_154 : BitVec 32 := 0#32
  let c1_i32_156 : BitVec 32 := 1#32
  let arg18 : BitVec 32 := Scf.iv c0_i32_154 c1_i32_156 k0_t4
  let v387 : BitVec 32 := Scalar.muli c2_i32_158 arg18
  let v388 : BitVec 32 := Scalar.addi v387 c1_i32_159
  let c15_i32_183 : BitVec 32 := 15#32
  let v462 : BitVec 32 := Scalar.minsi v388 c15_i32_183
  let v463 : Index := Scalar.indexCast v462
  let c0_184 : Index := 0#32
  let c0_185 : Index := 0#32
  ![v463.toNat, 0, 0]
def k0_off35 (i : grid0.Coords) (k0_t4 : Fin (k0_t4_loop i).trips) : Fin 4 → Nat :=
  let c2_i32_158 : BitVec 32 := 2#32
  let c0_i32_154 : BitVec 32 := 0#32
  let c1_i32_156 : BitVec 32 := 1#32
  let arg18 : BitVec 32 := Scf.iv c0_i32_154 c1_i32_156 k0_t4
  let v387 : BitVec 32 := Scalar.muli c2_i32_158 arg18
  let c15_i32_211 : BitVec 32 := 15#32
  let v523 : BitVec 32 := Scalar.minsi v387 c15_i32_211
  let v532 : Index := Scalar.indexCast v523
  let c0_214 : Index := 0#32
  let c0_215 : Index := 0#32
  let c0_216 : Index := 0#32
  ![v532.toNat, 0, 0, 0]
def k0_off36 (i : grid0.Coords) (k0_t4 : Fin (k0_t4_loop i).trips) : Fin 4 → Nat :=
  let c2_i32_158 : BitVec 32 := 2#32
  let c0_i32_154 : BitVec 32 := 0#32
  let c1_i32_156 : BitVec 32 := 1#32
  let arg18 : BitVec 32 := Scf.iv c0_i32_154 c1_i32_156 k0_t4
  let v387 : BitVec 32 := Scalar.muli c2_i32_158 arg18
  let c15_i32_211 : BitVec 32 := 15#32
  let v523 : BitVec 32 := Scalar.minsi v387 c15_i32_211
  let v556 : Index := Scalar.indexCast v523
  let c1_228 : Index := 1#32
  let c0_229 : Index := 0#32
  let c0_230 : Index := 0#32
  ![v556.toNat, 1, 0, 0]
def k0_off37 (i : grid0.Coords) (k0_t4 : Fin (k0_t4_loop i).trips) : Fin 4 → Nat :=
  let c2_i32_158 : BitVec 32 := 2#32
  let c0_i32_154 : BitVec 32 := 0#32
  let c1_i32_156 : BitVec 32 := 1#32
  let arg18 : BitVec 32 := Scf.iv c0_i32_154 c1_i32_156 k0_t4
  let v387 : BitVec 32 := Scalar.muli c2_i32_158 arg18
  let c15_i32_211 : BitVec 32 := 15#32
  let v523 : BitVec 32 := Scalar.minsi v387 c15_i32_211
  let v580 : Index := Scalar.indexCast v523
  let c2_242 : Index := 2#32
  let c0_243 : Index := 0#32
  let c0_244 : Index := 0#32
  ![v580.toNat, 2, 0, 0]
def k0_off38 (i : grid0.Coords) (k0_t4 : Fin (k0_t4_loop i).trips) : Fin 4 → Nat :=
  let c2_i32_158 : BitVec 32 := 2#32
  let c0_i32_154 : BitVec 32 := 0#32
  let c1_i32_156 : BitVec 32 := 1#32
  let arg18 : BitVec 32 := Scf.iv c0_i32_154 c1_i32_156 k0_t4
  let v387 : BitVec 32 := Scalar.muli c2_i32_158 arg18
  let c15_i32_211 : BitVec 32 := 15#32
  let v523 : BitVec 32 := Scalar.minsi v387 c15_i32_211
  let v604 : Index := Scalar.indexCast v523
  let c3_256 : Index := 3#32
  let c0_257 : Index := 0#32
  let c0_258 : Index := 0#32
  ![v604.toNat, 3, 0, 0]
def k0_off39 (i : grid0.Coords) (k0_t4 : Fin (k0_t4_loop i).trips) : Fin 4 → Nat :=
  let c2_i32_158 : BitVec 32 := 2#32
  let c0_i32_154 : BitVec 32 := 0#32
  let c1_i32_156 : BitVec 32 := 1#32
  let arg18 : BitVec 32 := Scf.iv c0_i32_154 c1_i32_156 k0_t4
  let v387 : BitVec 32 := Scalar.muli c2_i32_158 arg18
  let c1_i32_376 : BitVec 32 := 1#32
  let v851 : BitVec 32 := Scalar.addi v387 c1_i32_376
  let c15_i32_377 : BitVec 32 := 15#32
  let v852 : BitVec 32 := Scalar.minsi v851 c15_i32_377
  let v861 : Index := Scalar.indexCast v852
  let c0_380 : Index := 0#32
  let c0_381 : Index := 0#32
  let c0_382 : Index := 0#32
  ![v861.toNat, 0, 0, 0]
def k0_off40 (i : grid0.Coords) (k0_t4 : Fin (k0_t4_loop i).trips) : Fin 4 → Nat :=
  let c2_i32_158 : BitVec 32 := 2#32
  let c0_i32_154 : BitVec 32 := 0#32
  let c1_i32_156 : BitVec 32 := 1#32
  let arg18 : BitVec 32 := Scf.iv c0_i32_154 c1_i32_156 k0_t4
  let v387 : BitVec 32 := Scalar.muli c2_i32_158 arg18
  let c1_i32_376 : BitVec 32 := 1#32
  let v851 : BitVec 32 := Scalar.addi v387 c1_i32_376
  let c15_i32_377 : BitVec 32 := 15#32
  let v852 : BitVec 32 := Scalar.minsi v851 c15_i32_377
  let v885 : Index := Scalar.indexCast v852
  let c1_394 : Index := 1#32
  let c0_395 : Index := 0#32
  let c0_396 : Index := 0#32
  ![v885.toNat, 1, 0, 0]
def k0_off41 (i : grid0.Coords) (k0_t4 : Fin (k0_t4_loop i).trips) : Fin 4 → Nat :=
  let c2_i32_158 : BitVec 32 := 2#32
  let c0_i32_154 : BitVec 32 := 0#32
  let c1_i32_156 : BitVec 32 := 1#32
  let arg18 : BitVec 32 := Scf.iv c0_i32_154 c1_i32_156 k0_t4
  let v387 : BitVec 32 := Scalar.muli c2_i32_158 arg18
  let c1_i32_376 : BitVec 32 := 1#32
  let v851 : BitVec 32 := Scalar.addi v387 c1_i32_376
  let c15_i32_377 : BitVec 32 := 15#32
  let v852 : BitVec 32 := Scalar.minsi v851 c15_i32_377
  let v909 : Index := Scalar.indexCast v852
  let c2_408 : Index := 2#32
  let c0_409 : Index := 0#32
  let c0_410 : Index := 0#32
  ![v909.toNat, 2, 0, 0]
def k0_off42 (i : grid0.Coords) (k0_t4 : Fin (k0_t4_loop i).trips) : Fin 4 → Nat :=
  let c2_i32_158 : BitVec 32 := 2#32
  let c0_i32_154 : BitVec 32 := 0#32
  let c1_i32_156 : BitVec 32 := 1#32
  let arg18 : BitVec 32 := Scf.iv c0_i32_154 c1_i32_156 k0_t4
  let v387 : BitVec 32 := Scalar.muli c2_i32_158 arg18
  let c1_i32_376 : BitVec 32 := 1#32
  let v851 : BitVec 32 := Scalar.addi v387 c1_i32_376
  let c15_i32_377 : BitVec 32 := 15#32
  let v852 : BitVec 32 := Scalar.minsi v851 c15_i32_377
  let v933 : Index := Scalar.indexCast v852
  let c3_422 : Index := 3#32
  let c0_423 : Index := 0#32
  let c0_424 : Index := 0#32
  ![v933.toNat, 3, 0, 0]
@[reducible] def k0_t5_loop (i : grid0.Coords) : Scf.Loop 32 :=
  let c0_i32_154 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v380 : BitVec 32 := Scalar.subi v82 c0_i32_154
  let c1_i32_155 : BitVec 32 := 1#32
  let v382 : BitVec 32 := Scalar.divsi v380 c1_i32_155
  let v383 : BitVec 32 := Scalar.muli v382 c1_i32_155
  let v384 : BitVec 32 := Scalar.addi c0_i32_154 v383
  let v381 : BitVec 32 := Scalar.addi c0_i32_154 v380
  let c1_i32_157 : BitVec 32 := 1#32
  ⟨v384, v381, c1_i32_157⟩
def k0_off43 (i : grid0.Coords) (k0_t5 : Fin (k0_t5_loop i).trips) (c1_i32_159 : BitVec 32) (c_m1_i32_163 : BitVec 32) : Fin 3 → Nat :=
  let c4_i32_160 : BitVec 32 := 4#32
  let arg1 : BitVec 32 := BitVec.ofNat 32 (i 1).val
  let v389 : BitVec 32 := Scalar.muli c4_i32_160 arg1
  let c2_i32_161 : BitVec 32 := 2#32
  let c2_i32_158 : BitVec 32 := 2#32
  let c0_i32_154 : BitVec 32 := 0#32
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v380 : BitVec 32 := Scalar.subi v82 c0_i32_154
  let c1_i32_155 : BitVec 32 := 1#32
  let v382 : BitVec 32 := Scalar.divsi v380 c1_i32_155
  let v383 : BitVec 32 := Scalar.muli v382 c1_i32_155
  let v384 : BitVec 32 := Scalar.addi c0_i32_154 v383
  let c1_i32_157 : BitVec 32 := 1#32
  let arg18 : BitVec 32 := Scf.iv v384 c1_i32_157 k0_t5
  let v387 : BitVec 32 := Scalar.muli c2_i32_158 arg18
  let v388 : BitVec 32 := Scalar.addi v387 c1_i32_159
  let v390 : BitVec 32 := Scalar.muli c2_i32_161 v388
  let v391 : BitVec 32 := Scalar.subi v389 v390
  let c_m3_i32_162 : BitVec 32 := 4294967293#32
  let v392 : BitVec 32 := Scalar.subi v391 c_m3_i32_162
  let v393 : BitVec 32 := Scalar.addi v392 c_m1_i32_163
  let c0_i32_164 : BitVec 32 := 0#32
  let v394 : BitVec 32 := Scalar.maxsi v393 c0_i32_164
  let v395 : Index := Scalar.indexCast v394
  let c0_165 : Index := 0#32
  let c0_166 : Index := 0#32
  ![v395.toNat, 0, 0]
def k0_off43_at (r : Fin 10) : BitVec 32 × BitVec 32 :=
  if r.val < 5 then
    if r.val < 2 then
      if r.val < 1 then
        (1#32, 4294967295#32)
      else
        (1#32, 0#32)
    else
      if r.val < 3 then
        (1#32, 1#32)
      else
        if r.val < 4 then
          (1#32, 2#32)
        else
          (1#32, 3#32)
  else
    if r.val < 7 then
      if r.val < 6 then
        (2#32, 4294967295#32)
      else
        (2#32, 0#32)
    else
      if r.val < 8 then
        (2#32, 1#32)
      else
        if r.val < 9 then
          (2#32, 2#32)
        else
          (2#32, 3#32)
def k0_off44 (i : grid0.Coords) (k0_t5 : Fin (k0_t5_loop i).trips) (c1_i32_159 : BitVec 32) : Fin 3 → Nat :=
  let c2_i32_158 : BitVec 32 := 2#32
  let c0_i32_154 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v380 : BitVec 32 := Scalar.subi v82 c0_i32_154
  let c1_i32_155 : BitVec 32 := 1#32
  let v382 : BitVec 32 := Scalar.divsi v380 c1_i32_155
  let v383 : BitVec 32 := Scalar.muli v382 c1_i32_155
  let v384 : BitVec 32 := Scalar.addi c0_i32_154 v383
  let c1_i32_157 : BitVec 32 := 1#32
  let arg18 : BitVec 32 := Scf.iv v384 c1_i32_157 k0_t5
  let v387 : BitVec 32 := Scalar.muli c2_i32_158 arg18
  let v388 : BitVec 32 := Scalar.addi v387 c1_i32_159
  let c15_i32_183 : BitVec 32 := 15#32
  let v462 : BitVec 32 := Scalar.minsi v388 c15_i32_183
  let v463 : Index := Scalar.indexCast v462
  let c0_184 : Index := 0#32
  let c0_185 : Index := 0#32
  ![v463.toNat, 0, 0]
def k0_off45 (i : grid0.Coords) (k0_t5 : Fin (k0_t5_loop i).trips) : Fin 4 → Nat :=
  let c2_i32_158 : BitVec 32 := 2#32
  let c0_i32_154 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v380 : BitVec 32 := Scalar.subi v82 c0_i32_154
  let c1_i32_155 : BitVec 32 := 1#32
  let v382 : BitVec 32 := Scalar.divsi v380 c1_i32_155
  let v383 : BitVec 32 := Scalar.muli v382 c1_i32_155
  let v384 : BitVec 32 := Scalar.addi c0_i32_154 v383
  let c1_i32_157 : BitVec 32 := 1#32
  let arg18 : BitVec 32 := Scf.iv v384 c1_i32_157 k0_t5
  let v387 : BitVec 32 := Scalar.muli c2_i32_158 arg18
  let c15_i32_211 : BitVec 32 := 15#32
  let v523 : BitVec 32 := Scalar.minsi v387 c15_i32_211
  let v532 : Index := Scalar.indexCast v523
  let c0_214 : Index := 0#32
  let c0_215 : Index := 0#32
  let c0_216 : Index := 0#32
  ![v532.toNat, 0, 0, 0]
def k0_off46 (i : grid0.Coords) (k0_t5 : Fin (k0_t5_loop i).trips) : Fin 4 → Nat :=
  let c2_i32_158 : BitVec 32 := 2#32
  let c0_i32_154 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v380 : BitVec 32 := Scalar.subi v82 c0_i32_154
  let c1_i32_155 : BitVec 32 := 1#32
  let v382 : BitVec 32 := Scalar.divsi v380 c1_i32_155
  let v383 : BitVec 32 := Scalar.muli v382 c1_i32_155
  let v384 : BitVec 32 := Scalar.addi c0_i32_154 v383
  let c1_i32_157 : BitVec 32 := 1#32
  let arg18 : BitVec 32 := Scf.iv v384 c1_i32_157 k0_t5
  let v387 : BitVec 32 := Scalar.muli c2_i32_158 arg18
  let c15_i32_211 : BitVec 32 := 15#32
  let v523 : BitVec 32 := Scalar.minsi v387 c15_i32_211
  let v556 : Index := Scalar.indexCast v523
  let c1_228 : Index := 1#32
  let c0_229 : Index := 0#32
  let c0_230 : Index := 0#32
  ![v556.toNat, 1, 0, 0]
def k0_off47 (i : grid0.Coords) (k0_t5 : Fin (k0_t5_loop i).trips) : Fin 4 → Nat :=
  let c2_i32_158 : BitVec 32 := 2#32
  let c0_i32_154 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v380 : BitVec 32 := Scalar.subi v82 c0_i32_154
  let c1_i32_155 : BitVec 32 := 1#32
  let v382 : BitVec 32 := Scalar.divsi v380 c1_i32_155
  let v383 : BitVec 32 := Scalar.muli v382 c1_i32_155
  let v384 : BitVec 32 := Scalar.addi c0_i32_154 v383
  let c1_i32_157 : BitVec 32 := 1#32
  let arg18 : BitVec 32 := Scf.iv v384 c1_i32_157 k0_t5
  let v387 : BitVec 32 := Scalar.muli c2_i32_158 arg18
  let c15_i32_211 : BitVec 32 := 15#32
  let v523 : BitVec 32 := Scalar.minsi v387 c15_i32_211
  let v580 : Index := Scalar.indexCast v523
  let c2_242 : Index := 2#32
  let c0_243 : Index := 0#32
  let c0_244 : Index := 0#32
  ![v580.toNat, 2, 0, 0]
def k0_off48 (i : grid0.Coords) (k0_t5 : Fin (k0_t5_loop i).trips) : Fin 4 → Nat :=
  let c2_i32_158 : BitVec 32 := 2#32
  let c0_i32_154 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v380 : BitVec 32 := Scalar.subi v82 c0_i32_154
  let c1_i32_155 : BitVec 32 := 1#32
  let v382 : BitVec 32 := Scalar.divsi v380 c1_i32_155
  let v383 : BitVec 32 := Scalar.muli v382 c1_i32_155
  let v384 : BitVec 32 := Scalar.addi c0_i32_154 v383
  let c1_i32_157 : BitVec 32 := 1#32
  let arg18 : BitVec 32 := Scf.iv v384 c1_i32_157 k0_t5
  let v387 : BitVec 32 := Scalar.muli c2_i32_158 arg18
  let c15_i32_211 : BitVec 32 := 15#32
  let v523 : BitVec 32 := Scalar.minsi v387 c15_i32_211
  let v604 : Index := Scalar.indexCast v523
  let c3_256 : Index := 3#32
  let c0_257 : Index := 0#32
  let c0_258 : Index := 0#32
  ![v604.toNat, 3, 0, 0]
def k0_off49 (i : grid0.Coords) (k0_t5 : Fin (k0_t5_loop i).trips) : Fin 4 → Nat :=
  let c2_i32_158 : BitVec 32 := 2#32
  let c0_i32_154 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v380 : BitVec 32 := Scalar.subi v82 c0_i32_154
  let c1_i32_155 : BitVec 32 := 1#32
  let v382 : BitVec 32 := Scalar.divsi v380 c1_i32_155
  let v383 : BitVec 32 := Scalar.muli v382 c1_i32_155
  let v384 : BitVec 32 := Scalar.addi c0_i32_154 v383
  let c1_i32_157 : BitVec 32 := 1#32
  let arg18 : BitVec 32 := Scf.iv v384 c1_i32_157 k0_t5
  let v387 : BitVec 32 := Scalar.muli c2_i32_158 arg18
  let c1_i32_376 : BitVec 32 := 1#32
  let v851 : BitVec 32 := Scalar.addi v387 c1_i32_376
  let c15_i32_377 : BitVec 32 := 15#32
  let v852 : BitVec 32 := Scalar.minsi v851 c15_i32_377
  let v861 : Index := Scalar.indexCast v852
  let c0_380 : Index := 0#32
  let c0_381 : Index := 0#32
  let c0_382 : Index := 0#32
  ![v861.toNat, 0, 0, 0]
def k0_off50 (i : grid0.Coords) (k0_t5 : Fin (k0_t5_loop i).trips) : Fin 4 → Nat :=
  let c2_i32_158 : BitVec 32 := 2#32
  let c0_i32_154 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v380 : BitVec 32 := Scalar.subi v82 c0_i32_154
  let c1_i32_155 : BitVec 32 := 1#32
  let v382 : BitVec 32 := Scalar.divsi v380 c1_i32_155
  let v383 : BitVec 32 := Scalar.muli v382 c1_i32_155
  let v384 : BitVec 32 := Scalar.addi c0_i32_154 v383
  let c1_i32_157 : BitVec 32 := 1#32
  let arg18 : BitVec 32 := Scf.iv v384 c1_i32_157 k0_t5
  let v387 : BitVec 32 := Scalar.muli c2_i32_158 arg18
  let c1_i32_376 : BitVec 32 := 1#32
  let v851 : BitVec 32 := Scalar.addi v387 c1_i32_376
  let c15_i32_377 : BitVec 32 := 15#32
  let v852 : BitVec 32 := Scalar.minsi v851 c15_i32_377
  let v885 : Index := Scalar.indexCast v852
  let c1_394 : Index := 1#32
  let c0_395 : Index := 0#32
  let c0_396 : Index := 0#32
  ![v885.toNat, 1, 0, 0]
def k0_off51 (i : grid0.Coords) (k0_t5 : Fin (k0_t5_loop i).trips) : Fin 4 → Nat :=
  let c2_i32_158 : BitVec 32 := 2#32
  let c0_i32_154 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v380 : BitVec 32 := Scalar.subi v82 c0_i32_154
  let c1_i32_155 : BitVec 32 := 1#32
  let v382 : BitVec 32 := Scalar.divsi v380 c1_i32_155
  let v383 : BitVec 32 := Scalar.muli v382 c1_i32_155
  let v384 : BitVec 32 := Scalar.addi c0_i32_154 v383
  let c1_i32_157 : BitVec 32 := 1#32
  let arg18 : BitVec 32 := Scf.iv v384 c1_i32_157 k0_t5
  let v387 : BitVec 32 := Scalar.muli c2_i32_158 arg18
  let c1_i32_376 : BitVec 32 := 1#32
  let v851 : BitVec 32 := Scalar.addi v387 c1_i32_376
  let c15_i32_377 : BitVec 32 := 15#32
  let v852 : BitVec 32 := Scalar.minsi v851 c15_i32_377
  let v909 : Index := Scalar.indexCast v852
  let c2_408 : Index := 2#32
  let c0_409 : Index := 0#32
  let c0_410 : Index := 0#32
  ![v909.toNat, 2, 0, 0]
def k0_off52 (i : grid0.Coords) (k0_t5 : Fin (k0_t5_loop i).trips) : Fin 4 → Nat :=
  let c2_i32_158 : BitVec 32 := 2#32
  let c0_i32_154 : BitVec 32 := 0#32
  let arg1 : BitVec 32 := BitVec.ofNat 32 (i 1).val
  let c1_i32_19 : BitVec 32 := 1#32
  let v63 : BitVec 32 := Scalar.addi arg1 c1_i32_19
  let c2_i32 : BitVec 32 := 2#32
  let v64 : BitVec 32 := Scalar.muli v63 c2_i32
  let c1_i32_20 : BitVec 32 := 1#32
  let v65 : BitVec 32 := Scalar.addi v64 c1_i32_20
  let c0_i32_22 : BitVec 32 := 0#32
  let v67 : BitVec 1 := Scalar.cmpi .sgt v65 c0_i32_22
  let v68 : BitVec 32 := Scalar.extui v67
  let c0_i32_23 : BitVec 32 := 0#32
  let v69 : BitVec 1 := Scalar.cmpi .slt v65 c0_i32_23
  let v70 : BitVec 32 := Scalar.extui v69
  let v71 : BitVec 32 := Scalar.subi v68 v70
  let c2_i32_21 : BitVec 32 := 2#32
  let c0_i32_24 : BitVec 32 := 0#32
  let v72 : BitVec 1 := Scalar.cmpi .sgt c2_i32_21 c0_i32_24
  let v73 : BitVec 32 := Scalar.extui v72
  let c0_i32_25 : BitVec 32 := 0#32
  let v74 : BitVec 1 := Scalar.cmpi .slt c2_i32_21 c0_i32_25
  let v75 : BitVec 32 := Scalar.extui v74
  let v76 : BitVec 32 := Scalar.subi v73 v75
  let v77 : BitVec 1 := Scalar.cmpi .ne v71 v76
  let v78 : BitVec 32 := Scalar.remsi v65 c2_i32_21
  let c0_i32_26 : BitVec 32 := 0#32
  let v79 : BitVec 1 := Scalar.cmpi .ne v78 c0_i32_26
  let v80 : BitVec 1 := Scalar.andi v77 v79
  let v66 : BitVec 32 := Scalar.divsi v65 c2_i32_21
  let c1_i32_27 : BitVec 32 := 1#32
  let v81 : BitVec 32 := Scalar.subi v66 c1_i32_27
  let v82 : BitVec 32 := Scalar.select v80 v81 v66
  let v380 : BitVec 32 := Scalar.subi v82 c0_i32_154
  let c1_i32_155 : BitVec 32 := 1#32
  let v382 : BitVec 32 := Scalar.divsi v380 c1_i32_155
  let v383 : BitVec 32 := Scalar.muli v382 c1_i32_155
  let v384 : BitVec 32 := Scalar.addi c0_i32_154 v383
  let c1_i32_157 : BitVec 32 := 1#32
  let arg18 : BitVec 32 := Scf.iv v384 c1_i32_157 k0_t5
  let v387 : BitVec 32 := Scalar.muli c2_i32_158 arg18
  let c1_i32_376 : BitVec 32 := 1#32
  let v851 : BitVec 32 := Scalar.addi v387 c1_i32_376
  let c15_i32_377 : BitVec 32 := 15#32
  let v852 : BitVec 32 := Scalar.minsi v851 c15_i32_377
  let v933 : Index := Scalar.indexCast v852
  let c3_422 : Index := 3#32
  let c0_423 : Index := 0#32
  let c0_424 : Index := 0#32
  ![v933.toNat, 3, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x32x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S35x512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x4096x256 : Shape := ⟨3, ![16, 4096, 256]⟩
abbrev S4x32 : Shape := ⟨2, ![4, 32]⟩
abbrev S64 : Shape := ⟨1, ![64]⟩
abbrev S4x4096 : Shape := ⟨2, ![4, 4096]⟩
abbrev S16x4096x4x64 : Shape := ⟨4, ![16, 4096, 4, 64]⟩
abbrev S1x32 : Shape := ⟨2, ![1, 32]⟩
abbrev S32 : Shape := ⟨1, ![32]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S4x4096x4096 : Shape := ⟨3, ![4, 4096, 4096]⟩
abbrev S16x4096x4x32 : Shape := ⟨4, ![16, 4096, 4, 32]⟩
abbrev S16x4x4096x4096 : Shape := ⟨4, ![16, 4, 4096, 4096]⟩
abbrev S1x4x4096x4096 : Shape := ⟨4, ![1, 4, 4096, 4096]⟩
abbrev S16x4x4096 : Shape := ⟨3, ![16, 4, 4096]⟩
abbrev S16x4x4096x1 : Shape := ⟨4, ![16, 4, 4096, 1]⟩
abbrev S16x4x64x4096 : Shape := ⟨4, ![16, 4, 64, 4096]⟩
abbrev S16x4096x4 : Shape := ⟨3, ![16, 4096, 4]⟩
abbrev S16x4096x4x1 : Shape := ⟨4, ![16, 4096, 4, 1]⟩
abbrev S1x1x1x64 : Shape := ⟨4, ![1, 1, 1, 64]⟩

abbrev nBuf : Space → Nat
  | .hbm => 136
  | .vmem => 0
  | .smem => 0
  | _ => 0

abbrev hbmTy0_0 (i : Nat) : BufTy := match i % 128 with
  | 0 => ⟨S16x4096x256, .f32⟩
  | 1 => ⟨S16x4096x256, .f32⟩
  | 2 => ⟨S16x4096x256, .f32⟩
  | 3 => ⟨S4x32, .f32⟩
  | 4 => ⟨S64, .f32⟩
  | 5 => ⟨S4x4096, .f32⟩
  | 6 => ⟨S16x4096x4x64, .f32⟩
  | 7 => ⟨S16x4096x4x64, .f32⟩
  | 8 => ⟨S16x4096x4x64, .f32⟩
  | 9 => ⟨S1x32, .f32⟩
  | 10 => ⟨S32, .f32⟩
  | 11 => ⟨S1x32, .f32⟩
  | 12 => ⟨S32, .f32⟩
  | 13 => ⟨S32, .f32⟩
  | 14 => ⟨S_, .f32⟩
  | 15 => ⟨S_, .f32⟩
  | 16 => ⟨S_, .f32⟩
  | 17 => ⟨S1x32, .f32⟩
  | 18 => ⟨S32, .f32⟩
  | 19 => ⟨S1x32, .f32⟩
  | 20 => ⟨S32, .f32⟩
  | 21 => ⟨S32, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S4096, .i32⟩
  | 29 => ⟨S4096x1, .i32⟩
  | 30 => ⟨S1x4096, .i32⟩
  | 31 => ⟨S4096x4096, .i32⟩
  | 32 => ⟨S4096x4096, .i32⟩
  | 33 => ⟨S4096x4096, .i32⟩
  | 34 => ⟨S_, .i32⟩
  | 35 => ⟨S4096x4096, .i32⟩
  | 36 => ⟨S4096x4096, .i1⟩
  | 37 => ⟨S_, .i32⟩
  | 38 => ⟨S_, .i32⟩
  | 39 => ⟨S_, .i32⟩
  | 40 => ⟨S4096x4096, .i32⟩
  | 41 => ⟨S4096x4096, .i32⟩
  | 42 => ⟨S_, .i32⟩
  | 43 => ⟨S4096x4096, .i32⟩
  | 44 => ⟨S4096x4096, .i32⟩
  | 45 => ⟨S_, .i32⟩
  | 46 => ⟨S4096x4096, .i32⟩
  | 47 => ⟨S4096x4096, .i1⟩
  | 48 => ⟨S_, .i32⟩
  | 49 => ⟨S4096x4096, .i32⟩
  | 50 => ⟨S4096x4096, .i32⟩
  | 51 => ⟨S4096x4096, .i32⟩
  | 52 => ⟨S4096x4096x1, .i32⟩
  | 53 => ⟨S4x4096x4096, .f32⟩
  | 54 => ⟨S16x4096x4x32, .f32⟩
  | 55 => ⟨S16x4096x4x32, .f32⟩
  | 56 => ⟨S16x4x4096x4096, .f32⟩
  | 57 => ⟨S_, .f32⟩
  | 58 => ⟨S16x4x4096x4096, .f32⟩
  | 59 => ⟨S16x4x4096x4096, .f32⟩
  | 60 => ⟨S1x4x4096x4096, .f32⟩
  | 61 => ⟨S16x4x4096x4096, .f32⟩
  | 62 => ⟨S16x4x4096x4096, .f32⟩
  | 63 => ⟨S_, .f32⟩
  | 64 => ⟨S_, .f32⟩
  | 65 => ⟨S16x4x4096x4096, .i1⟩
  | 66 => ⟨S16x4x4096x4096, .f32⟩
  | 67 => ⟨S16x4x4096x4096, .f32⟩
  | 68 => ⟨S_, .f32⟩
  | 69 => ⟨S16x4x4096, .f32⟩
  | 70 => ⟨S_, .f32⟩
  | 71 => ⟨S16x4x4096, .f32⟩
  | 72 => ⟨S16x4x4096, .f32⟩
  | 73 => ⟨S16x4x4096x1, .f32⟩
  | 74 => ⟨S16x4x4096x4096, .f32⟩
  | 75 => ⟨S16x4x4096x4096, .f32⟩
  | 76 => ⟨S16x4x4096x4096, .f32⟩
  | 77 => ⟨S_, .f32⟩
  | 78 => ⟨S16x4x4096, .f32⟩
  | 79 => ⟨S16x4x4096x1, .f32⟩
  | 80 => ⟨S16x4x4096x4096, .f32⟩
  | 81 => ⟨S16x4x4096x4096, .f32⟩
  | 82 => ⟨S16x4096x4x32, .f32⟩
  | 83 => ⟨S16x4096x4x32, .f32⟩
  | 84 => ⟨S16x4x4096x4096, .f32⟩
  | 85 => ⟨S_, .f32⟩
  | 86 => ⟨S16x4x4096x4096, .f32⟩
  | 87 => ⟨S16x4x4096x4096, .f32⟩
  | 88 => ⟨S1x4x4096x4096, .f32⟩
  | 89 => ⟨S16x4x4096x4096, .f32⟩
  | 90 => ⟨S16x4x4096x4096, .f32⟩
  | 91 => ⟨S_, .f32⟩
  | 92 => ⟨S_, .f32⟩
  | 93 => ⟨S16x4x4096x4096, .i1⟩
  | 94 => ⟨S16x4x4096x4096, .f32⟩
  | 95 => ⟨S16x4x4096x4096, .f32⟩
  | 96 => ⟨S_, .f32⟩
  | 97 => ⟨S16x4x4096, .f32⟩
  | 98 => ⟨S_, .f32⟩
  | 99 => ⟨S16x4x4096, .f32⟩
  | 100 => ⟨S16x4x4096, .f32⟩
  | 101 => ⟨S16x4x4096x1, .f32⟩
  | 102 => ⟨S16x4x4096x4096, .f32⟩
  | 103 => ⟨S16x4x4096x4096, .f32⟩
  | 104 => ⟨S16x4x4096x4096, .f32⟩
  | 105 => ⟨S_, .f32⟩
  | 106 => ⟨S16x4x4096, .f32⟩
  | 107 => ⟨S16x4x4096x1, .f32⟩
  | 108 => ⟨S16x4x4096x4096, .f32⟩
  | 109 => ⟨S16x4x4096x4096, .f32⟩
  | 110 => ⟨S16x4x4096x4096, .f32⟩
  | 111 => ⟨S16x4x4096x4096, .f32⟩
  | 112 => ⟨S16x4x4096x4096, .f32⟩
  | 113 => ⟨S16x4x64x4096, .f32⟩
  | 114 => ⟨S16x4096x4x64, .f32⟩
  | 115 => ⟨S16x4096x4x64, .f32⟩
  | 116 => ⟨S_, .f32⟩
  | 117 => ⟨S16x4096x4, .f32⟩
  | 118 => ⟨S16x4096x4x1, .f32⟩
  | 119 => ⟨S_, .f32⟩
  | 120 => ⟨S16x4096x4x1, .f32⟩
  | 121 => ⟨S16x4096x4x1, .f32⟩
  | 122 => ⟨S_, .f32⟩
  | 123 => ⟨S16x4096x4x1, .f32⟩
  | 124 => ⟨S16x4096x4x1, .f32⟩
  | 125 => ⟨S16x4096x4x1, .f32⟩
  | 126 => ⟨S16x4096x4x64, .f32⟩
  | 127 => ⟨S16x4096x4x64, .f32⟩
  | _ => ⟨S16x4096x256, .f32⟩

abbrev hbmTy0_1 (i : Nat) : BufTy := match i % 128 with
  | 0 => ⟨S1x1x1x64, .f32⟩
  | 1 => ⟨S16x4096x4x64, .f32⟩
  | 2 => ⟨S16x4096x4x64, .f32⟩
  | 3 => ⟨S_, .f32⟩
  | 4 => ⟨S16x4096x4x64, .f32⟩
  | 5 => ⟨S16x4096x4x64, .f32⟩
  | 6 => ⟨S16x4096x256, .f32⟩
  | 7 => ⟨S16x4096x256, .bf16⟩
  | _ => ⟨S16x4096x256, .f32⟩

abbrev hbmTy (i : Nat) : BufTy := match i / 128 with
  | 0 => hbmTy0_0 i
  | 1 => hbmTy0_1 i
  | _ => ⟨S16x4096x256, .f32⟩

abbrev bufTy : (tb : Table) → Fin (tcTables nBuf tb) → BufTy
  | .hbm, ⟨i, _⟩ => hbmTy i
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_c_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v63 : Ref sig .tc := ⟨.hbm, 95, rfl⟩
abbrev main_cst_13 : Ref sig .tc := ⟨.hbm, 96, rfl⟩
abbrev main_v64 : Ref sig .tc := ⟨.hbm, 97, rfl⟩
abbrev main_cst_14 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_15 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_16 : Ref sig .tc := ⟨.hbm, 116, rfl⟩
abbrev main_v81 : Ref sig .tc := ⟨.hbm, 117, rfl⟩
abbrev main_v82 : Ref sig .tc := ⟨.hbm, 118, rfl⟩
abbrev main_cst_17 : Ref sig .tc := ⟨.hbm, 119, rfl⟩
abbrev main_v83 : Ref sig .tc := ⟨.hbm, 120, rfl⟩
abbrev main_v84 : Ref sig .tc := ⟨.hbm, 121, rfl⟩
abbrev main_cst_18 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_19 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩

abbrev nD : Nat := 1
abbrev τ : Topo := Topo.v7x

variable {F : FTy → Type} [FloatOps F]
-- ==== Ffn.lean ====
abbrev S16x4096x1024 : Shape := ⟨3, ![16, 4096, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩

abbrev nBuf : Space → Nat
  | .hbm => 13
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S65536x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S16x4096x1024 : Shape := ⟨3, ![16, 4096, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 40
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S65536x1024, .f32⟩
  | .hbm, ⟨7, _⟩ => ⟨S65536x1024, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S65536x1, .f32⟩
  | .hbm, ⟨18, _⟩ => ⟨S65536x1024, .f32⟩
  | .hbm, ⟨19, _⟩ => ⟨S65536x1024, .f32⟩
  | .hbm, ⟨20, _⟩ => ⟨S1x1024, .f32⟩
  | .hbm, ⟨21, _⟩ => ⟨S65536x1024, .f32⟩
  | .hbm, ⟨22, _⟩ => ⟨S65536x1024, .f32⟩
  | .hbm, ⟨23, _⟩ => ⟨S65536x2816, .f32⟩
  | .hbm, ⟨24, _⟩ => ⟨S65536x2816, .f32⟩
  | .hbm, ⟨25, _⟩ => ⟨S65536x2816, .f32⟩
  | .hbm, ⟨26, _⟩ => ⟨S_, .f32⟩
  | .hbm, ⟨27, _⟩ => ⟨S65536x2816, .f32⟩
  | .hbm, ⟨28, _⟩ => ⟨S65536x2816, .f32⟩
  | .hbm, ⟨29, _⟩ => ⟨S_, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x2816, .f32⟩
  | .hbm, ⟨35, _⟩ => ⟨S65536x1024, .f32⟩
  | .hbm, ⟨36, _⟩ => ⟨S_, .f32⟩
  | .hbm, ⟨37, _⟩ => ⟨S65536x1024, .f32⟩
  | .hbm, ⟨38, _⟩ => ⟨S65536x1024, .f32⟩
  | .hbm, ⟨39, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== Last.lean ====
abbrev S16x4096x1024 : Shape := ⟨3, ![16, 4096, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩

abbrev nBuf : Space → Nat
  | .hbm => 13
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S65536x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LastReferenceIdeal.lean ====
abbrev S16x4096x1024 : Shape := ⟨3, ![16, 4096, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 56
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S65536x1024, .f32⟩
  | .hbm, ⟨7, _⟩ => ⟨S65536x1024, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S65536x1, .f32⟩
  | .hbm, ⟨18, _⟩ => ⟨S65536x1024, .f32⟩
  | .hbm, ⟨19, _⟩ => ⟨S65536x1024, .f32⟩
  | .hbm, ⟨20, _⟩ => ⟨S1x1024, .f32⟩
  | .hbm, ⟨21, _⟩ => ⟨S65536x1024, .f32⟩
  | .hbm, ⟨22, _⟩ => ⟨S65536x1024, .f32⟩
  | .hbm, ⟨23, _⟩ => ⟨S65536x2816, .f32⟩
  | .hbm, ⟨24, _⟩ => ⟨S65536x2816, .f32⟩
  | .hbm, ⟨25, _⟩ => ⟨S65536x2816, .f32⟩
  | .hbm, ⟨26, _⟩ => ⟨S_, .f32⟩
  | .hbm, ⟨27, _⟩ => ⟨S65536x2816, .f32⟩
  | .hbm, ⟨28, _⟩ => ⟨S65536x2816, .f32⟩
  | .hbm, ⟨29, _⟩ => ⟨S_, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x2816, .f32⟩
  | .hbm, ⟨35, _⟩ => ⟨S65536x1024, .f32⟩
  | .hbm, ⟨36, _⟩ => ⟨S_, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S65536x1024, .f32⟩
  | .hbm, ⟨41, _⟩ => ⟨S_, .f32⟩
  | .hbm, ⟨42, _⟩ => ⟨S65536, .f32⟩
  | .hbm, ⟨43, _⟩ => ⟨S65536x1, .f32⟩
  | .hbm, ⟨44, _⟩ => ⟨S_, .f32⟩
  | .hbm, ⟨45, _⟩ => ⟨S65536x1, .f32⟩
  | .hbm, ⟨46, _⟩ => ⟨S65536x1, .f32⟩
  | .hbm, ⟨47, _⟩ => ⟨S_, .f32⟩
  | .hbm, ⟨48, _⟩ => ⟨S65536x1, .f32⟩
  | .hbm, ⟨49, _⟩ => ⟨S65536x1, .f32⟩
  | .hbm, ⟨50, _⟩ => ⟨S65536x1, .f32⟩
  | .hbm, ⟨51, _⟩ => ⟨S65536x1024, .f32⟩
  | .hbm, ⟨52, _⟩ => ⟨S65536x1024, .f32⟩
  | .hbm, ⟨53, _⟩ => ⟨S1x1024, .f32⟩
  | .hbm, ⟨54, _⟩ => ⟨S65536x1024, .f32⟩
  | .hbm, ⟨55, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Xattn.lean ====
abbrev S16x4096x1024 : Shape := ⟨3, ![16, 4096, 1024]⟩
abbrev S16x4096x256 : Shape := ⟨3, ![16, 4096, 256]⟩
abbrev S1024x1024 : Shape := ⟨2, ![1024, 1024]⟩
abbrev S1024 : Shape := ⟨1, ![1024]⟩
abbrev S16x256x1024 : Shape := ⟨3, ![16, 256, 1024]⟩
abbrev S1x1024 : Shape := ⟨2, ![1, 1024]⟩
abbrev S1x1024x1024 : Shape := ⟨3, ![1, 1024, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S1024x1 : Shape := ⟨2, ![1024, 1]⟩
abbrev S1x256x256 : Shape := ⟨3, ![1, 256, 256]⟩
abbrev S256x256 : Shape := ⟨2, ![256, 256]⟩

abbrev nBuf : Space → Nat
  | .hbm => 22
  | .vmem => 22
  | .smem => 0
  | _ => 0

abbrev bufTy : (tb : Table) → Fin (tcTables nBuf tb) → BufTy
  | .hbm, ⟨0, _⟩ => ⟨S16x4096x1024, .f32⟩
  | .hbm, ⟨1, _⟩ => ⟨S16x4096x256, .f32⟩
  | .hbm, ⟨2, _⟩ => ⟨S16x4096x256, .f32⟩
  | .hbm, ⟨3, _⟩ => ⟨S16x4096x256, .f32⟩
  | .hbm, ⟨4, _⟩ => ⟨S16x4096x256, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S16x256x1024, .f32⟩
  | .hbm, ⟨9, _⟩ => ⟨S16x256x1024, .f32⟩
  | .hbm, ⟨10, _⟩ => ⟨S1024x1024, .f32⟩
  | .hbm, ⟨11, _⟩ => ⟨S16x4096x256, .bf16⟩
  | .hbm, ⟨12, _⟩ => ⟨S16x4096x256, .bf16⟩
  | .hbm, ⟨13, _⟩ => ⟨S16x4096x256, .bf16⟩
  | .hbm, ⟨14, _⟩ => ⟨S16x4096x256, .bf16⟩
  | .hbm, ⟨15, _⟩ => ⟨S1024x1024, .bf16⟩
  | .hbm, ⟨16, _⟩ => ⟨S1x1024, .f32⟩
  | .hbm, ⟨17, _⟩ => ⟨S1024x1024, .bf16⟩
  | .hbm, ⟨18, _⟩ => ⟨S16x256x1024, .bf16⟩
  | .hbm, ⟨19, _⟩ => ⟨S16x256x1024, .bf16⟩
  | .hbm, ⟨20, _⟩ => ⟨S1024x1024, .bf16⟩
  | .hbm, ⟨21, _⟩ => ⟨S16x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1024x1024, .bf16⟩
  | .local _ .vmem, ⟨18, _⟩ => ⟨S1x1024x1024, .f32⟩
  | .local _ .vmem, ⟨19, _⟩ => ⟨S1x1024x1024, .f32⟩
  | .local _ .vmem, ⟨20, _⟩ => ⟨S1024x1024, .bf16⟩
  | .local _ .vmem, ⟨21, _⟩ => ⟨S1024x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== XattnReferenceIdeal.lean ====
abbrev S16x4096x1024 : Shape := ⟨3, ![16, 4096, 1024]⟩
abbrev S16x4096x256 : Shape := ⟨3, ![16, 4096, 256]⟩
abbrev S1024x1024 : Shape := ⟨2, ![1024, 1024]⟩
abbrev S1024 : Shape := ⟨1, ![1024]⟩
abbrev S16x256x1024 : Shape := ⟨3, ![16, 256, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x4x256 : Shape := ⟨4, ![16, 4096, 4, 256]⟩
abbrev S16x256x4x256 : Shape := ⟨4, ![16, 256, 4, 256]⟩
abbrev S16x4x4096x256 : Shape := ⟨4, ![16, 4, 4096, 256]⟩
abbrev S16x4x4096 : Shape := ⟨3, ![16, 4, 4096]⟩
abbrev S16x4x4096x1 : Shape := ⟨4, ![16, 4, 4096, 1]⟩
abbrev S16x4x256x4096 : Shape := ⟨4, ![16, 4, 256, 4096]⟩

abbrev nBuf : Space → Nat
  | .hbm => 57
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x256, .f32⟩
  | .hbm, ⟨2, _⟩ => ⟨S16x4096x256, .f32⟩
  | .hbm, ⟨3, _⟩ => ⟨S16x4096x256, .f32⟩
  | .hbm, ⟨4, _⟩ => ⟨S16x4096x256, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S16x256x1024, .f32⟩
  | .hbm, ⟨9, _⟩ => ⟨S16x256x1024, .f32⟩
  | .hbm, ⟨10, _⟩ => ⟨S1024x1024, .f32⟩
  | .hbm, ⟨11, _⟩ => ⟨S16x4096x1024, .f32⟩
  | .hbm, ⟨12, _⟩ => ⟨S16x4096x1024, .f32⟩
  | .hbm, ⟨13, _⟩ => ⟨S16x4096x1024, .f32⟩
  | .hbm, ⟨14, _⟩ => ⟨S16x4096x1024, .f32⟩
  | .hbm, ⟨15, _⟩ => ⟨S_, .f32⟩
  | .hbm, ⟨16, _⟩ => ⟨S16x4096, .f32⟩
  | .hbm, ⟨17, _⟩ => ⟨S16x4096x1, .f32⟩
  | .hbm, ⟨18, _⟩ => ⟨S_, .f32⟩
  | .hbm, ⟨19, _⟩ => ⟨S16x4096x1, .f32⟩
  | .hbm, ⟨20, _⟩ => ⟨S16x4096x1, .f32⟩
  | .hbm, ⟨21, _⟩ => ⟨S_, .f32⟩
  | .hbm, ⟨22, _⟩ => ⟨S16x4096x1, .f32⟩
  | .hbm, ⟨23, _⟩ => ⟨S16x4096x1, .f32⟩
  | .hbm, ⟨24, _⟩ => ⟨S16x4096x1, .f32⟩
  | .hbm, ⟨25, _⟩ => ⟨S16x4096x1024, .f32⟩
  | .hbm, ⟨26, _⟩ => ⟨S16x4096x1024, .f32⟩
  | .hbm, ⟨27, _⟩ => ⟨S1x1x1024, .f32⟩
  | .hbm, ⟨28, _⟩ => ⟨S16x4096x1024, .f32⟩
  | .hbm, ⟨29, _⟩ => ⟨S16x4096x1024, .f32⟩
  | .hbm, ⟨30, _⟩ => ⟨S16x4096x1024, .f32⟩
  | .hbm, ⟨31, _⟩ => ⟨S16x4096x4x256, .f32⟩
  | .hbm, ⟨32, _⟩ => ⟨S16x256x4x256, .f32⟩
  | .hbm, ⟨33, _⟩ => ⟨S16x256x4x256, .f32⟩
  | .hbm, ⟨34, _⟩ => ⟨S16x4x4096x256, .f32⟩
  | .hbm, ⟨35, _⟩ => ⟨S_, .f32⟩
  | .hbm, ⟨36, _⟩ => ⟨S16x4x4096x256, .f32⟩
  | .hbm, ⟨37, _⟩ => ⟨S16x4x4096x256, .f32⟩
  | .hbm, ⟨38, _⟩ => ⟨S_, .f32⟩
  | .hbm, ⟨39, _⟩ => ⟨S16x4x4096, .f32⟩
  | .hbm, ⟨40, _⟩ => ⟨S_, .f32⟩
  | .hbm, ⟨41, _⟩ => ⟨S16x4x4096, .f32⟩
  | .hbm, ⟨42, _⟩ => ⟨S16x4x4096, .f32⟩
  | .hbm, ⟨43, _⟩ => ⟨S16x4x4096x1, .f32⟩
  | .hbm, ⟨44, _⟩ => ⟨S16x4x4096x256, .f32⟩
  | .hbm, ⟨45, _⟩ => ⟨S16x4x4096x256, .f32⟩
  | .hbm, ⟨46, _⟩ => ⟨S16x4x4096x256, .f32⟩
  | .hbm, ⟨47, _⟩ => ⟨S_, .f32⟩
  | .hbm, ⟨48, _⟩ => ⟨S16x4x4096, .f32⟩
  | .hbm, ⟨49, _⟩ => ⟨S16x4x4096x1, .f32⟩
  | .hbm, ⟨50, _⟩ => ⟨S16x4x4096x256, .f32⟩
  | .hbm, ⟨51, _⟩ => ⟨S16x4x4096x256, .f32⟩
  | .hbm, ⟨52, _⟩ => ⟨S16x4x256x4096, .f32⟩
  | .hbm, ⟨53, _⟩ => ⟨S16x4096x4x256, .f32⟩
  | .hbm, ⟨54, _⟩ => ⟨S16x4096x1024, .f32⟩
  | .hbm, ⟨55, _⟩ => ⟨S16x4096x1024, .f32⟩
  | .hbm, ⟨56, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== Proj.lean ====
abbrev S16x4096x1024 : Shape := ⟨3, ![16, 4096, 1024]⟩
abbrev S1024 : Shape := ⟨1, ![1024]⟩
abbrev S1024x3072 : Shape := ⟨2, ![1024, 3072]⟩
abbrev S1024x256 : Shape := ⟨2, ![1024, 256]⟩
abbrev S2 : Shape := ⟨1, ![2]⟩
abbrev S65536x1024 : Shape := ⟨2, ![65536, 1024]⟩
abbrev S1x1024 : Shape := ⟨2, ![1, 1024]⟩
abbrev S2x1x1 : Shape := ⟨3, ![2, 1, 1]⟩
abbrev S_ : Shape := ⟨0, ![]⟩
abbrev S2x256x256 : Shape := ⟨3, ![2, 256, 256]⟩
abbrev S65536x512 : Shape := ⟨2, ![65536, 512]⟩
abbrev S65536x256 : Shape := ⟨2, ![65536, 256]⟩
abbrev S65536x768 : Shape := ⟨2, ![65536, 768]⟩
abbrev S512x256x128 : Shape := ⟨3, ![512, 256, 128]⟩
abbrev S16384x3072 : Shape := ⟨2, ![16384, 3072]⟩
abbrev S4096x12288 : Shape := ⟨2, ![4096, 12288]⟩
abbrev S1024x1024 : Shape := ⟨2, ![1024, 1024]⟩
abbrev S1024x512 : Shape := ⟨2, ![1024, 512]⟩
abbrev S1024x768 : Shape := ⟨2, ![1024, 768]⟩
abbrev S8x256x128 : Shape := ⟨3, ![8, 256, 128]⟩
abbrev S256x3072 : Shape := ⟨2, ![256, 3072]⟩
abbrev S64x12288 : Shape := ⟨2, ![64, 12288]⟩
abbrev S1024x1 : Shape := ⟨2, ![1024, 1]⟩
abbrev S128x256 : Shape := ⟨2, ![128, 256]⟩
abbrev S256x128 : Shape := ⟨2, ![256, 128]⟩
abbrev S1x256x128 : Shape := ⟨3, ![1, 256, 128]⟩
abbrev S1x256x256 : Shape := ⟨3, ![1, 256, 256]⟩
abbrev S256x256 : Shape := ⟨2, ![256, 256]⟩
abbrev S256x768 : Shape := ⟨2, ![256, 768]⟩
abbrev S64x768 : Shape := ⟨2, ![64, 768]⟩
abbrev S16x768 : Shape := ⟨2, ![16, 768]⟩

abbrev nBuf : Space → Nat
  | .hbm => 33
  | .vmem => 22
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x3072, .f32⟩
  | .hbm, ⟨3, _⟩ => ⟨S1024x256, .f32⟩
  | .hbm, ⟨4, _⟩ => ⟨S2, .i32⟩
  | .hbm, ⟨5, _⟩ => ⟨S65536x1024, .f32⟩
  | .hbm, ⟨6, _⟩ => ⟨S1x1024, .f32⟩
  | .hbm, ⟨7, _⟩ => ⟨S1024x3072, .bf16⟩
  | .hbm, ⟨8, _⟩ => ⟨S1024x256, .bf16⟩
  | .hbm, ⟨9, _⟩ => ⟨S2x1x1, .i32⟩
  | .hbm, ⟨10, _⟩ => ⟨S_, .i32⟩
  | .hbm, ⟨11, _⟩ => ⟨S2x256x256, .i32⟩
  | .hbm, ⟨12, _⟩ => ⟨S2x256x256, .i32⟩
  | .hbm, ⟨13, _⟩ => ⟨S2x256x256, .i32⟩
  | .hbm, ⟨14, _⟩ => ⟨S2x256x256, .i32⟩
  | .hbm, ⟨15, _⟩ => ⟨S2x256x256, .i32⟩
  | .hbm, ⟨16, _⟩ => ⟨S_, .i32⟩
  | .hbm, ⟨17, _⟩ => ⟨S2x256x256, .i32⟩
  | .hbm, ⟨18, _⟩ => ⟨S2x256x256, .i32⟩
  | .hbm, ⟨19, _⟩ => ⟨S2x256x256, .i32⟩
  | .hbm, ⟨20, _⟩ => ⟨S2x256x256, .i32⟩
  | .hbm, ⟨21, _⟩ => ⟨S2x256x256, .i32⟩
  | .hbm, ⟨22, _⟩ => ⟨S2x256x256, .i32⟩
  | .hbm, ⟨23, _⟩ => ⟨S2x256x256, .i1⟩
  | .hbm, ⟨24, _⟩ => ⟨S2x256x256, .bf16⟩
  | .hbm, ⟨25, _⟩ => ⟨S65536x1024, .f32⟩
  | .hbm, ⟨26, _⟩ => ⟨S65536x512, .f32⟩
  | .hbm, ⟨27, _⟩ => ⟨S65536x256, .f32⟩
  | .hbm, ⟨28, _⟩ => ⟨S65536x768, .bf16⟩
  | .hbm, ⟨29, _⟩ => ⟨S65536x512, .bf16⟩
  | .hbm, ⟨30, _⟩ => ⟨S512x256x128, .bf16⟩
  | .hbm, ⟨31, _⟩ => ⟨S16384x3072, .bf16⟩
  | .hbm, ⟨32, _⟩ => ⟨S4096x12288, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x256, .bf16⟩
  | .local _ .vmem, ⟨5, _⟩ => ⟨S2x256x256, .bf16⟩
  | .local _ .vmem, ⟨6, _⟩ => ⟨S1024x1024, .f32⟩
  | .local _ .vmem, ⟨7, _⟩ => ⟨S1024x1024, .f32⟩
  | .local _ .vmem, ⟨8, _⟩ => ⟨S1024x512, .f32⟩
  | .local _ .vmem, ⟨9, _⟩ => ⟨S1024x512, .f32⟩
  | .local _ .vmem, ⟨10, _⟩ => ⟨S1024x256, .f32⟩
  | .local _ .vmem, ⟨11, _⟩ => ⟨S1024x256, .f32⟩
  | .local _ .vmem, ⟨12, _⟩ => ⟨S1024x768, .bf16⟩
  | .local _ .vmem, ⟨13, _⟩ => ⟨S1024x768, .bf16⟩
  | .local _ .vmem, ⟨14, _⟩ => ⟨S1024x512, .bf16⟩
  | .local _ .vmem, ⟨15, _⟩ => ⟨S1024x512, .bf16⟩
  | .local _ .vmem, ⟨16, _⟩ => ⟨S8x256x128, .bf16⟩
  | .local _ .vmem, ⟨17, _⟩ => ⟨S8x256x128, .bf16⟩
  | .local _ .vmem, ⟨18, _⟩ => ⟨S256x3072, .bf16⟩
  | .local _ .vmem, ⟨19, _⟩ => ⟨S256x3072, .bf16⟩
  | .local _ .vmem, ⟨20, _⟩ => ⟨S64x12288, .bf16⟩
  | .local _ .vmem, ⟨21, _⟩ => ⟨S64x12288, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev main_v18_5 : Ref sig .tc := ⟨.hbm, 30, rfl⟩
abbrev main_v18_6 : Ref sig .tc := ⟨.hbm, 31, rfl⟩
abbrev main_v18_7 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x12288 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjReferenceIdeal.lean ====
abbrev S16x4096x1024 : Shape := ⟨3, ![16, 4096, 1024]⟩
abbrev S1024 : Shape := ⟨1, ![1024]⟩
abbrev S1024x3072 : Shape := ⟨2, ![1024, 3072]⟩
abbrev S1024x256 : Shape := ⟨2, ![1024, 256]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x3072 : Shape := ⟨3, ![16, 4096, 3072]⟩
abbrev S65536x3072 : Shape := ⟨2, ![65536, 3072]⟩
abbrev S65536x1024 : Shape := ⟨2, ![65536, 1024]⟩
abbrev S65536x512 : Shape := ⟨2, ![65536, 512]⟩
abbrev S65536x256 : Shape := ⟨2, ![65536, 256]⟩
abbrev S65536x768 : Shape := ⟨2, ![65536, 768]⟩
abbrev S16x4096x256 : Shape := ⟨3, ![16, 4096, 256]⟩
abbrev S512x128x256 : Shape := ⟨3, ![512, 128, 256]⟩
abbrev S512x256x128 : Shape := ⟨3, ![512, 256, 128]⟩

abbrev nBuf : Space → Nat
  | .hbm => 33
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x3072, .f32⟩
  | .hbm, ⟨3, _⟩ => ⟨S1024x256, .f32⟩
  | .hbm, ⟨4, _⟩ => ⟨S16x4096x1024, .f32⟩
  | .hbm, ⟨5, _⟩ => ⟨S_, .f32⟩
  | .hbm, ⟨6, _⟩ => ⟨S16x4096, .f32⟩
  | .hbm, ⟨7, _⟩ => ⟨S16x4096x1, .f32⟩
  | .hbm, ⟨8, _⟩ => ⟨S_, .f32⟩
  | .hbm, ⟨9, _⟩ => ⟨S16x4096x1, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S16x4096x1, .f32⟩
  | .hbm, ⟨15, _⟩ => ⟨S16x4096x1024, .f32⟩
  | .hbm, ⟨16, _⟩ => ⟨S16x4096x1024, .f32⟩
  | .hbm, ⟨17, _⟩ => ⟨S1x1x1024, .f32⟩
  | .hbm, ⟨18, _⟩ => ⟨S16x4096x1024, .f32⟩
  | .hbm, ⟨19, _⟩ => ⟨S16x4096x1024, .f32⟩
  | .hbm, ⟨20, _⟩ => ⟨S16x4096x3072, .f32⟩
  | .hbm, ⟨21, _⟩ => ⟨S65536x3072, .f32⟩
  | .hbm, ⟨22, _⟩ => ⟨S65536x1024, .f32⟩
  | .hbm, ⟨23, _⟩ => ⟨S65536x512, .f32⟩
  | .hbm, ⟨24, _⟩ => ⟨S65536x256, .f32⟩
  | .hbm, ⟨25, _⟩ => ⟨S65536x768, .f32⟩
  | .hbm, ⟨26, _⟩ => ⟨S65536x512, .f32⟩
  | .hbm, ⟨27, _⟩ => ⟨S16x4096x256, .f32⟩
  | .hbm, ⟨28, _⟩ => ⟨S512x128x256, .f32⟩
  | .hbm, ⟨29, _⟩ => ⟨S65536x768, .bf16⟩
  | .hbm, ⟨30, _⟩ => ⟨S65536x512, .bf16⟩
  | .hbm, ⟨31, _⟩ => ⟨S512x256x128, .f32⟩
  | .hbm, ⟨32, _⟩ => ⟨S512x256x128, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kv.lean ====
abbrev S16x256x1024 : Shape := ⟨3, ![16, 256, 1024]⟩
abbrev S1024 : Shape := ⟨1, ![1024]⟩
abbrev S1024x2048 : Shape := ⟨2, ![1024, 2048]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 8
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S1x1024, .f32⟩
  | .hbm, ⟨5, _⟩ => ⟨S1024x2048, .bf16⟩
  | .hbm, ⟨6, _⟩ => ⟨S4096x1024, .bf16⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KvReferenceIdeal.lean ====
abbrev S16x256x1024 : Shape := ⟨3, ![16, 256, 1024]⟩
abbrev S1024 : Shape := ⟨1, ![1024]⟩
abbrev S1024x2048 : Shape := ⟨2, ![1024, 2048]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x2048 : Shape := ⟨3, ![16, 256, 2048]⟩
abbrev S4096x2048 : Shape := ⟨2, ![4096, 2048]⟩
abbrev S4096x1024 : Shape := ⟨2, ![4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x2048, .f32⟩
  | .hbm, ⟨3, _⟩ => ⟨S16x256x1024, .f32⟩
  | .hbm, ⟨4, _⟩ => ⟨S_, .f32⟩
  | .hbm, ⟨5, _⟩ => ⟨S16x256, .f32⟩
  | .hbm, ⟨6, _⟩ => ⟨S16x256x1, .f32⟩
  | .hbm, ⟨7, _⟩ => ⟨S_, .f32⟩
  | .hbm, ⟨8, _⟩ => ⟨S16x256x1, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x1, .f32⟩
  | .hbm, ⟨14, _⟩ => ⟨S16x256x1024, .f32⟩
  | .hbm, ⟨15, _⟩ => ⟨S16x256x1024, .f32⟩
  | .hbm, ⟨16, _⟩ => ⟨S1x1x1024, .f32⟩
  | .hbm, ⟨17, _⟩ => ⟨S16x256x1024, .f32⟩
  | .hbm, ⟨18, _⟩ => ⟨S16x256x1024, .f32⟩
  | .hbm, ⟨19, _⟩ => ⟨S16x256x2048, .f32⟩
  | .hbm, ⟨20, _⟩ => ⟨S4096x2048, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x1024, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.Body.lean ====
/-
  The kernel body's run, whichever way its two conditionals go: every input block is left as found, the
  result's block and the eight scratch buffers hold something.
-/
module

public import proofs.«01_k».proof.Proof.Gen.KernelIdeal.Frame
public import proofs.«01_k».proof.Proof.Gen.KernelIdeal.Loops
public import Idealize.ShloMosaic.Lib.Pipeline.Frame
public import Idealize.ShloMosaic.Lib.Tactic

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F] [Named F]

local notation "𝕄" => MT nD τ sig Unit (Elt F) ℕ (UR sig nD τ) ℕ

abbrev 𝒱₀ : Variants := Variants.none

/-- A memref's elements held at contents `f` on core `c`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

set_option maxRecDepth 65536 in
set_option maxHeartbeats 8000000 in
/-- The first part of the body: at a batch's first point the keys are expanded, the values augmented and the
    keys' norms bounded; at every point the accumulator is cleared. -/
theorem part73_run (c : Dev nD) (i : grid0.Coords) (arg2 : Memref sig .tc .vmem S1x512x256 .bf16) (harg2 : arg2.IsWhole) (arg3 : Memref sig .tc .vmem S1x4096x256 .bf16) (harg3 : arg3.IsWhole) (arg4 : Memref sig .tc .vmem S1x32x256x128 .bf16) (harg4 : arg4.IsWhole) (arg5 : Memref sig .tc .vmem S35x512x128 .f32) (harg5 : arg5.IsWhole) (arg6 : Memref sig .tc .vmem S4x32 .f32) (harg6 : arg6.IsWhole) (arg7 : Memref sig .tc .vmem S64x512 .f32) (harg7 : arg7.IsWhole) (arg8 : Memref sig .tc .smem S1x1 .f32) (harg8 : arg8.IsWhole) (arg9 : Memref sig .tc .vmem S1x512x256 .bf16) (harg9 : arg9.IsWhole) (arg10 : Memref sig .tc .vmem S16x2048x256 .bf16) (harg10 : arg10.IsWhole) (arg11 : Memref sig .tc .vmem S16x4x80x256 .bf16) (harg11 : arg11.IsWhole) (arg12 : Memref sig .tc .vmem S2x4x64x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S1x256 .f32) (harg17 : arg17.IsWhole)
    (arg1 : BitVec 32) (v24 v27 : IVec S256x256 32) (v41 : IVec S256x256 1) (v43 v44 : IVec S256x256 32)
    (f2 : BufTy.Contents (Elt F) arg2.view.ty) (f3 : BufTy.Contents (Elt F) arg3.view.ty) (f4 : BufTy.Contents (Elt F) arg4.view.ty) (f10 : BufTy.Contents (Elt F) arg10.view.ty) (f11 : BufTy.Contents (Elt F) arg11.view.ty) (f12 : BufTy.Contents (Elt F) arg12.view.ty) (f17 : BufTy.Contents (Elt F) arg17.view.ty) (E : Set ℕ) (K : _ → sProp 𝕄) :
    iprop(pt c arg2 f2 ∗ pt c arg3 f3 ∗ pt c arg4 f4 ∗ pt c arg10 f10 ∗ pt c arg11 f11 ∗ pt c arg12 f12 ∗ pt c arg17 f17 ∗ (∀ r, (pt c arg2 f2 ∗ pt c arg3 f3 ∗ pt c arg4 f4 ∗ (∃ g, pt (F := F) c arg10 g) ∗ (∃ g, pt (F := F) c arg11 g) ∗ (∃ g, pt (F := F) c arg12 g) ∗ (∃ g, pt (F := F) c arg17 g)) -∗ K r))
      ⊢ wp frame (wpE (defs₀ (F := F)) 𝒱₀ c none) E (k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v24 v27 v41 v43 v44) K := by
  unfold pt
  iintro ⟨H2, H3, H4, H10, H11, H12, H17, Hk⟩
  rw [k0_part73_eq_skeleton]; unfold k0_part73_skel
  rw [k0_part2_eq_skeleton, k0_part3_eq_skeleton]
  by_cases hc : k0_cond1 i = 1#1
  · sl_exec (disch := sl_exact hc)
    sl_step
    iapply Hk
    isplitl [H2]; · iexact H2
    isplitl [H3]; · iexact H3
    isplitl [H4]; · iexact H4
    isplitl [H10]; · iexists _; iexact H10
    isplitl [H11]; · iexists _; iexact H11
    isplitl [H12]; · iexists _; iexact H12
    iexists _; iexact H17
  · sl_exec (disch := sl_exact hc)
    sl_step
    iapply Hk
    isplitl [H2]; · iexact H2
    isplitl [H3]; · iexact H3
    isplitl [H4]; · iexact H4
    isplitl [H10]; · iexists _; iexact H10
    isplitl [H11]; · iexists _; iexact H11
    isplitl [H12]; · iexists _; iexact H12
    iexists _; iexact H17

set_option maxRecDepth 65536 in
set_option maxHeartbeats 8000000 in
/-- The second part of the body: the walk over the keys, with the running maximum or without it. -/
theorem part74_run (c : Dev nD) (i : grid0.Coords) (arg2 : Memref sig .tc .vmem S1x512x256 .bf16) (harg2 : arg2.IsWhole) (arg3 : Memref sig .tc .vmem S1x4096x256 .bf16) (harg3 : arg3.IsWhole) (arg4 : Memref sig .tc .vmem S1x32x256x128 .bf16) (harg4 : arg4.IsWhole) (arg5 : Memref sig .tc .vmem S35x512x128 .f32) (harg5 : arg5.IsWhole) (arg6 : Memref sig .tc .vmem S4x32 .f32) (harg6 : arg6.IsWhole) (arg7 : Memref sig .tc .vmem S64x512 .f32) (harg7 : arg7.IsWhole) (arg8 : Memref sig .tc .smem S1x1 .f32) (harg8 : arg8.IsWhole) (arg9 : Memref sig .tc .vmem S1x512x256 .bf16) (harg9 : arg9.IsWhole) (arg10 : Memref sig .tc .vmem S16x2048x256 .bf16) (harg10 : arg10.IsWhole) (arg11 : Memref sig .tc .vmem S16x4x80x256 .bf16) (harg11 : arg11.IsWhole) (arg12 : Memref sig .tc .vmem S2x4x64x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S1x256 .f32) (harg17 : arg17.IsWhole)
    (arg1 : BitVec 32) (v53 : FVec F S256x256 .bf16) (v62 : FVec F S512x256 .bf16) (v66 : BitVec 32) (v80 : BitVec 1) (v81 : BitVec 32)
    (f5 : BufTy.Contents (Elt F) arg5.view.ty) (f6 : BufTy.Contents (Elt F) arg6.view.ty) (f8 : BufTy.Contents (Elt F) arg8.view.ty) (f10 : BufTy.Contents (Elt F) arg10.view.ty) (f11 : BufTy.Contents (Elt F) arg11.view.ty) (f17 : BufTy.Contents (Elt F) arg17.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (E : Set ℕ) (K : _ → sProp 𝕄) :
    iprop(pt c arg5 f5 ∗ pt c arg6 f6 ∗ pt c arg8 f8 ∗ pt c arg10 f10 ∗ pt c arg11 f11 ∗ pt c arg17 f17 ∗ pt c arg12 f12 ∗ pt c arg13 f13 ∗ pt c arg14 f14 ∗ pt c arg15 f15 ∗ pt c arg16 f16 ∗ (∀ r, (pt c arg5 f5 ∗ pt c arg6 f6 ∗ pt c arg8 f8 ∗ pt c arg10 f10 ∗ pt c arg11 f11 ∗ pt c arg17 f17 ∗ (∃ g, pt (F := F) c arg12 g) ∗ (∃ g, pt (F := F) c arg13 g) ∗ (∃ g, pt (F := F) c arg14 g) ∗ (∃ g, pt (F := F) c arg15 g) ∗ (∃ g, pt (F := F) c arg16 g)) -∗ K r))
      ⊢ wp frame (wpE (defs₀ (F := F)) 𝒱₀ c none) E (k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v53 v62 v66 v80 v81) K := by
  unfold pt
  iintro ⟨H5, H6, H8, H10, H11, H17, H12, H13, H14, H15, H16, Hk⟩
  rw [k0_part74_eq_skeleton]; unfold k0_part74_skel
  rw [k0_part32_eq_skeleton, k0_part33_eq_skeleton, k0_part34_eq_skeleton, k0_part69_eq_skeleton, k0_part70_eq_skeleton, k0_part71_eq_skeleton]
  sl_exec
  by_cases hb : part74_run.sl.v103 arg8 arg17 v53 v62 f8 f17 = 1#1
  · sl_exec (disch := sl_exact hb)
    sl_step
    iapply Hk
    isplitl [H5]; · iexact H5
    isplitl [H6]; · iexact H6
    isplitl [H8]; · iexact H8
    isplitl [H10]; · iexact H10
    isplitl [H11]; · iexact H11
    isplitl [H17]; · iexact H17
    isplitl [H12]; · iexists _; iexact H12
    isplitl [H13]; · iexists _; iexact H13
    isplitl [H14]; · iexists _; iexact H14
    isplitl [H15]; · iexists _; iexact H15
    iexists _; iexact H16
  · sl_exec (disch := sl_exact hb)
    sl_step
    iapply Hk
    isplitl [H5]; · iexact H5
    isplitl [H6]; · iexact H6
    isplitl [H8]; · iexact H8
    isplitl [H10]; · iexact H10
    isplitl [H11]; · iexact H11
    isplitl [H17]; · iexact H17
    isplitl [H12]; · iexists _; iexact H12
    isplitl [H13]; · iexists _; iexact H13
    isplitl [H14]; · iexists _; iexact H14
    isplitl [H15]; · iexists _; iexact H15
    iexists _; iexact H16

set_option maxRecDepth 65536 in
set_option maxHeartbeats 8000000 in
/-- The whole body: the two parts, then the combination of the two maps, the norm and the store of the result's block. -/
theorem body_run (c : Dev nD) (i : grid0.Coords) (arg2 : Memref sig .tc .vmem S1x512x256 .bf16) (harg2 : arg2.IsWhole) (arg3 : Memref sig .tc .vmem S1x4096x256 .bf16) (harg3 : arg3.IsWhole) (arg4 : Memref sig .tc .vmem S1x32x256x128 .bf16) (harg4 : arg4.IsWhole) (arg5 : Memref sig .tc .vmem S35x512x128 .f32) (harg5 : arg5.IsWhole) (arg6 : Memref sig .tc .vmem S4x32 .f32) (harg6 : arg6.IsWhole) (arg7 : Memref sig .tc .vmem S64x512 .f32) (harg7 : arg7.IsWhole) (arg8 : Memref sig .tc .smem S1x1 .f32) (harg8 : arg8.IsWhole) (arg9 : Memref sig .tc .vmem S1x512x256 .bf16) (harg9 : arg9.IsWhole) (arg10 : Memref sig .tc .vmem S16x2048x256 .bf16) (harg10 : arg10.IsWhole) (arg11 : Memref sig .tc .vmem S16x4x80x256 .bf16) (harg11 : arg11.IsWhole) (arg12 : Memref sig .tc .vmem S2x4x64x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S1x256 .f32) (harg17 : arg17.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (E : Set ℕ) (K : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ ((pt c arg2 f2 ∗ pt c arg3 f3 ∗ pt c arg4 f4 ∗ pt c arg5 f5 ∗ pt c arg6 f6 ∗ pt c arg7 f7 ∗ pt c arg8 f8 ∗ (∃ g, pt (F := F) c arg9 g) ∗ (∃ g, pt (F := F) c arg10 g) ∗ (∃ g, pt (F := F) c arg11 g) ∗ (∃ g, pt (F := F) c arg12 g) ∗ (∃ g, pt (F := F) c arg13 g) ∗ (∃ g, pt (F := F) c arg14 g) ∗ (∃ g, pt (F := F) c arg15 g) ∗ (∃ g, pt (F := F) c arg16 g) ∗ (∃ g, pt (F := F) c arg17 g)) -∗ K ⟨⟩))
      ⊢ wp frame (wpE (defs₀ (F := F)) 𝒱₀ c none) E (cc0_diff_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_diff_attn_eq_skeleton]; unfold cc0_diff_attn_skel
  rw [k0_part72_eq_skeleton, k0_part75_eq_skeleton, k0_part76_eq_skeleton]
  unfold k0_part72_skel
  simp only [pure_bind, wp_bind]
  iintro ⟨H2, H3, H4, H5, H6, H7, H8, H9, H10, H11, H12, H13, H14, H15, H16, H17, Hk⟩
  iapply (part73_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ f2 f3 f4 f10 f11 f12 f17)
  isplitl [H2]; · iexact H2
  isplitl [H3]; · iexact H3
  isplitl [H4]; · iexact H4
  isplitl [H10]; · iexact H10
  isplitl [H11]; · iexact H11
  isplitl [H12]; · iexact H12
  isplitl [H17]; · iexact H17
  iintro %r ⟨H2, H3, H4, ⟨%g10, H10⟩, ⟨%g11, H11⟩, ⟨%g12, H12⟩, ⟨%g17, H17⟩⟩
  obtain ⟨r1, r2, r3, r4, r5⟩ := r
  dsimp only
  iapply (part74_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ f5 f6 f8 g10 g11 g17 g12 f13 f14 f15 f16)
  isplitl [H5]; · iexact H5
  isplitl [H6]; · iexact H6
  isplitl [H8]; · iexact H8
  isplitl [H10]; · iexact H10
  isplitl [H11]; · iexact H11
  isplitl [H17]; · iexact H17
  isplitl [H12]; · iexact H12
  isplitl [H13]; · iexact H13
  isplitl [H14]; · iexact H14
  isplitl [H15]; · iexact H15
  isplitl [H16]; · iexact H16
  iintro %r ⟨H5, H6, H8, H10, H11, H17, ⟨%e12, H12⟩, ⟨%e13, H13⟩, ⟨%e14, H14⟩, ⟨%e15, H15⟩, ⟨%e16, H16⟩⟩
  obtain ⟨r1, r2, r3, r4, r5, r6, r7, r8, r9, r10⟩ := r
  dsimp only
  unfold pt
  simp only [← wp_bind]
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

end Cert.Proof.KI

end
-- ==== Proof.Run.lean ====
/-
  The frame: every weakly fair execution ends, with every counter at zero and every argument as it was.
  Every window is forgotten (an input's array is never written, so it is as it was); the scratch buffers
  hold something between points.
-/
module

public import proofs.«01_k».proof.Proof.Body
public import proofs.«01_k».proof.Proof.Gen.KernelIdeal.Points
public import Idealize.ShloMosaic.Lib.Pipeline.FrameBody

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

/-- Every window is forgotten. -/
def forgets : Fin 8 → Bool := fun _ => true

/-- The frame's proof data: each array as the region finds it, the blocks unnamed, the scratch at some contents. -/
def datsF (_ : Fin 1) (c : Dev nD) : Dat τ (Elt F) Unit ℕ (UR sig nD τ) ℕ cfg0 c where
  A w := V m c (Pipeline.arrRef spec0 w)
  after w t := Pipeline.Dat.unnamed (cfg := cfg0) w t
  Φ _ := ΦA spec0 c
  q w := Pipeline.shareOf spec0 w
  owed _ := 0

/-- What the body is called with, and returns: every staging buffer at some contents. -/
def bodyAny (c : Dev nD) (t : Fin cfg0.N) : sProp 𝕄 :=
  iprop((datsF m 0 c).Φ t.castSucc ∗ (datsF m 0 c).owesAt () t.castSucc ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X))

theorem sound_frame (c : Dev nD) (t : Fin cfg0.N) :
    bodyAny m c t ⊢ wp frame (wpE (defs₀ (F := F)) 𝒱₀ c none) Set.univ (bodyAt0 t) (fun _ => bodyAny m c t) := by
  unfold bodyAny bodyAt0
  rw [show (datsF m 0 c).Φ t.castSucc = iprop(Pipeline.scopedRest spec0 c ∗ ∃ r, prngReg c r) from rfl, scopedRest0_eq]
  unfold owns
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩⟩, Hg⟩, HO, ⟨%X0, %x0, -, H0⟩, ⟨%X1, %x1, -, H1⟩, ⟨%X2, %x2, -, H2⟩, ⟨%X3, %x3, -, H3⟩, ⟨%X4, %x4, -, H4⟩, ⟨%X5, %x5, -, H5⟩, ⟨%X6, %x6, -, H6⟩, ⟨%X7, %x7, -, H7⟩⟩
  iapply (body_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) x0 x1 x2 x3 x4 x5 x6 x7 s0 s1 s2 s3 s4 s5 s6 s7)
  unfold pt
  simp only [Memref.view_whole, View.set_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, ⟨%y7, H7⟩, S0, S1, S2, S3, S4, S5, S6, S7⟩
  isplitl [Hg S0 S1 S2 S3 S4 S5 S6 S7]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [HO]; · iexact HO
  isplitl [H0]
  · iexists _, _; isplitr; swap; · iexact H0
    ipureintro; rfl
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_frame (c : Dev nD) :
    BodyObligation (datsF (F := F) m 0 c) (defs₀ (F := F)) 𝒱₀ () Set.univ forgets := fun t => by
  rw [bigSep_W0, bigSep_W0, defs₀_row]
  exact triple_restated (sound_frame m c t) rfl .rfl fun _ => .rfl

set_option maxHeartbeats 2000000 in
set_option backward.isDefEq.respectTransparency.types false in
/-- The run of @main, every window's contents forgotten. -/
theorem run_frame :
    θ_run defs (onTc (τ := τ) (main (F := F))) (s₀ m ρ)
      (fun r => Pipeline.RDat.FramePost (cfgs 0) (fun c => (datsF m 0 c).toRForget forgets) (V m) r ∧ r.2.sem = fun _ => 0) :=
  Pipeline.θ_run_frame_forget_shared (Q' := _) cfgs (datsF m) (0 : Fin 1) launch₀0 defs₀ 𝒱₀ forgets m ρ main
    (hbody := fun c => (body_frame m c).loose) (hq := fun _ _ _ => rfl)
    (howed := fun _ _ => rfl) (V := V m) (hmain := hmain m 𝒱₀) (hA := fun _ _ => rfl) (hΦ := fun _ _ => rfl)
    (hQ' := fun _ h => h)

/-- Every argument as it was, every counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (h.1.arr_in c 4 rfl).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_frame m ρ)

end Cert.Proof.KI

end
-- ==== Proof.MixKernel.lean ====
/-
  The channel mixer on a block of rows: each row normalised by its root mean square, gated through the two wide
  products, projected back and added in half. What the kernel body's pieces are at an index.
-/
module

public import proofs.«01_k».proof.Proof.Gen.FfnIdeal.Skeleton
public import Idealize.ShloMosaic.Lib.Pipeline.Value
public import Idealize.ShloMosaic.Lib.Pipeline.ValueKit.Tiles
public import Idealize.ShloMosaic.Lib.Pipeline.ValueKit.Basic
public import Idealize.ShloMosaic.Lib.WholeRead
public import Idealize.ShloMosaic.Lib.MatmulPlain
public import Idealize.ShloMosaic.Lib.ValueLayout
public import Idealize.ShloMosaic.Lib.ValueLayoutCasts

@[expose] public section

noncomputable section

namespace Cert.Proof.Mix

open Cert.FfnIdeal Cert.FfnIdeal.Gen
open Idealize.ShloMosaic Idealize.ShloMosaic.TcCoe
open Idealize.ShloMosaic.ValueIdx

/-! ## One row -/

/-- A row over its root mean square, times the norm's weights. -/
def normRow (x g : Fin 1024 → EReal) (k : Fin 1024) : EReal :=
  x k * Ideal.rsqrt (Ideal.div (∑ e, x e * x e) (Ideal.ofBits .f32 0x44800000#32) + Ideal.ofBits .f32 0x358637BD#32) * g k

/-- The gated activation of a row at one hidden channel. -/
def gated (u : Fin 1024 → EReal) (wg wu : Fin 1024 → Fin 2816 → EReal) (f : Fin 2816) : EReal :=
  (∑ e, u e * wg e f) * Ideal.logistic (∑ e, u e * wg e f) * ∑ e, u e * wu e f

/-- The mixer on a row: half of the projected activations added to it. -/
def mixRow (x g : Fin 1024 → EReal) (wg wu : Fin 1024 → Fin 2816 → EReal) (wd : Fin 2816 → Fin 1024 → EReal)
    (d : Fin 1024) : EReal :=
  x d + Ideal.ofBits .f32 0x3F000000#32 * ∑ f, gated (normRow x g) wg wu f * wd f d

/-! ## The body's pieces -/

/-- One column tile of the activations. -/
def chunk (u : FVec Ideal S1024x1024 .bf16) (a b : FVec Ideal S1024x256 .bf16) : FVec Ideal S1024x256 .bf16 :=
  truncf .bf16 (mulf (mulf
    (matmul dot_S1024x1024_S1024x256_S1024x256_1_0_0_1_n_n none u a (constant S1024x256 .f32 0x00000000#32))
    (logistic (matmul dot_S1024x1024_S1024x256_S1024x256_1_0_0_1_n_n none u a (constant S1024x256 .f32 0x00000000#32))))
    (matmul dot_S1024x1024_S1024x256_S1024x256_1_0_0_1_n_n none u b (constant S1024x256 .f32 0x00000000#32))) bitsLt_bf16_f32

theorem tile_apply (u : FVec Ideal S1024x1024 .bf16) (a : FVec Ideal S1024x256 .bf16) (r : Fin 1024) (c : Fin 256) :
    matmul dot_S1024x1024_S1024x256_S1024x256_1_0_0_1_n_n none u a (constant S1024x256 .f32 0x00000000#32) (ix2 r c)
      = ∑ e : Fin 1024, u (ix2 r e) * a (ix2 e c) := by
  refine (Ideal.matmul_plain_apply (M := 1024) (K := 1024) (N := 256) none u a _ r c).trans ?_
  exact (congrArg (· + _) Ideal.ofBits_zero_f32).trans (zero_add _)

theorem chunk_apply (u : FVec Ideal S1024x1024 .bf16) (a b : FVec Ideal S1024x256 .bf16) (r : Fin 1024) (c : Fin 256) :
    chunk u a b (ix2 r c) = (∑ e : Fin 1024, u (ix2 r e) * a (ix2 e c))
      * Ideal.logistic (∑ e : Fin 1024, u (ix2 r e) * a (ix2 e c)) * ∑ e : Fin 1024, u (ix2 r e) * b (ix2 e c) := by
  rw [← tile_apply, ← tile_apply]; rfl

/-- All the activations of a block. -/
def acts (u : FVec Ideal S1024x1024 .bf16) (wg wu : FVec Ideal S1024x2816 .bf16) : FVec Ideal S1024x2816 .bf16 := fun j =>
  gated (fun e => u (ix2 (j 0) e)) (fun e f => wg (ix2 e f)) (fun e f => wu (ix2 e f)) (j 1)

/-- A column tile of the activations is the tile made from the weights' columns. -/
theorem chunk_tile (k : Nat) (inb : ∀ a, (![0, k] : Fin 2 → Nat) a + (![1024, 256] : Fin 2 → Nat) a ≤ S1024x2816.size a)
    (u : FVec Ideal S1024x1024 .bf16) (wg wu : FVec Ideal S1024x2816 .bf16) (x : S1024x256.Idx) :
    chunk u (fun y => wg ((Rect.unit (s := S1024x2816) ![0, k] ![1024, 256] inb).idx y))
      (fun y => wu ((Rect.unit (s := S1024x2816) ![0, k] ![1024, 256] inb).idx y)) x
      = acts u wg wu ((Rect.unit (s := S1024x2816) ![0, k] ![1024, 256] inb).emb x) := by
  have hk : k + 256 ≤ 2816 := inb 1
  have hi : ∀ (e : Fin 1024) (c : Fin 256), (Rect.unit (s := S1024x2816) ![0, k] ![1024, 256] inb).idx (ix2 e c)
      = ix2 e (⟨k + c.val, by omega⟩ : Fin 2816) := fun e c => funext fun a => Fin.ext (by
    rw [Rect.idx_unit_val]; match a with
    | ⟨0, _⟩ => exact Nat.zero_add _
    | ⟨1, _⟩ => rfl)
  suffices h : ∀ (r : Fin 1024) (c : Fin 256), chunk u (fun y => wg ((Rect.unit (s := S1024x2816) ![0, k] ![1024, 256] inb).idx y))
      (fun y => wu ((Rect.unit (s := S1024x2816) ![0, k] ![1024, 256] inb).idx y)) (ix2 r c)
      = acts u wg wu ((Rect.unit (s := S1024x2816) ![0, k] ![1024, 256] inb).idx (ix2 r c)) by
    have hx : x = ix2 (x 0) (x 1) := funext fun a => match a with | ⟨0, _⟩ => rfl | ⟨1, _⟩ => rfl
    rw [hx]; exact h (x 0) (x 1)
  intro r c
  rw [chunk_apply]
  simp only [hi]
  rfl

/-- The normalised rows of a block. -/
theorem norm_apply (x : FVec Ideal S1024x1024 .f32) (g : FVec Ideal S1x1024 .f32) (r k : Fin 1024) :
    k0_pay5 (F := Ideal) x g (ix2 r k) = normRow (fun e => x (ix2 r e)) (fun e => g (ix2 (0 : Fin 1) e)) k := by
  unfold k0_pay5 k0_pay4
  simp only [shapeCast_self]
  have hs : ∀ (y : FVec Ideal S1024x1024 .f32) (u : Fin 1), shapeCast S1024x1 (multiReduction .add [1] S1024 (mulf y y) 0x00000000#32
        reduces_S1024x1024_S1024 (.inl rfl) rfl) shapeCasts_S1024_S1024x1 (ix2 r u) = ∑ e : Fin 1024, y (ix2 r e) * y (ix2 r e) := fun y u => by
    rw [shapeCast_a_a1_apply]
    refine (Ideal.multiReduction_add_single _ _ _ _ _ _).trans ?_
    refine Finset.sum_congr rfl fun e _ => ?_
    have hl : reduces_S1024x1024_S1024.lift (ix1 r) e = ix2 r e := funext fun a => Fin.ext (match a with
      | ⟨0, _⟩ => rfl
      | ⟨1, _⟩ => rfl)
    rw [hl]; rfl
  have hb : ∀ (v : FVec Ideal S1024x1 .f32), broadcastTo S1024x1024 v broadcasts_S1024x1_S1024x1024 (ix2 r k) = v (ix2 r (0 : Fin 1)) :=
    fun v => broadcastTo_apply v _ (ix2 r k) (ix2 r (0 : Fin 1)) fun a => match a with
      | ⟨0, _⟩ => rfl
      | ⟨1, _⟩ => rfl
  have hg : broadcastTo S1024x1024 g broadcasts_S1x1024_S1024x1024 (ix2 r k) = g (ix2 (0 : Fin 1) k) :=
    broadcastTo_1b_ab_apply g _ r k
  refine (congrArg₂ (fun p q : EReal => x (ix2 r k) * p * q) (hb _) hg).trans ?_
  unfold normRow
  rw [← hs x 0]; rfl

/-- The projection back and the half step. -/
theorem half_apply (x : FVec Ideal S1024x1024 .f32) (a : FVec Ideal S1024x2816 .bf16) (wd : FVec Ideal S2816x1024 .bf16) (r d : Fin 1024) :
    k0_pay3 (F := Ideal) x a wd (ix2 r d) = x (ix2 r d) + Ideal.ofBits .f32 0x3F000000#32 * ∑ f : Fin 2816, a (ix2 r f) * wd (ix2 f d) := by
  unfold k0_pay3
  simp only [shapeCast_self]
  refine congrArg (fun z : EReal => x (ix2 r d) + Ideal.ofBits .f32 0x3F000000#32 * z) ?_
  refine (Ideal.matmul_plain_apply (M := 1024) (K := 2816) (N := 1024) none a wd _ r d).trans ?_
  exact (congrArg (· + _) Ideal.ofBits_zero_f32).trans (zero_add _)

/-- The mixer on a block. -/
theorem block_apply (x : FVec Ideal S1024x1024 .f32) (g : FVec Ideal S1x1024 .f32) (wg wu : FVec Ideal S1024x2816 .bf16)
    (wd : FVec Ideal S2816x1024 .bf16) (r d : Fin 1024) :
    k0_pay3 (F := Ideal) (k0_pay4 (F := Ideal) x) (acts (k0_pay5 (F := Ideal) x g) wg wu) wd (ix2 r d)
      = mixRow (fun e => x (ix2 r e)) (fun e => g (ix2 (0 : Fin 1) e)) (fun e f => wg (ix2 e f)) (fun e f => wu (ix2 e f))
          (fun f k => wd (ix2 f k)) d := by
  rw [half_apply]
  have hu : (fun e => k0_pay5 (F := Ideal) x g (ix2 r e)) = normRow (fun e => x (ix2 r e)) (fun e => g (ix2 (0 : Fin 1) e)) :=
    funext fun e => norm_apply x g r e
  have ha : ∀ f : Fin 2816, acts (k0_pay5 (F := Ideal) x g) wg wu (ix2 r f)
      = gated (normRow (fun e => x (ix2 r e)) (fun e => g (ix2 (0 : Fin 1) e))) (fun e f => wg (ix2 e f)) (fun e f => wu (ix2 e f)) f :=
    fun f => by rw [← hu]; rfl
  simp only [ha]
  unfold k0_pay4 mixRow
  rw [shapeCast_self]

/-! ## Loads of whole buffers and of columns -/

theorem load_whole {sg : RefSig} {s : Shape} {e : EltTy} {m : Memref sg .tc .vmem s e} (h : m.IsWhole) (X : s.Idx → Elt Ideal e)
    {off : Fin s.rank → Nat} (inb : ∀ a, off a + s.size a ≤ s.size a) (h0 : ∀ a, off a = 0) :
    View.readAt (Elt Ideal) m.view (Rect.unit off s.size inb).toLoadRect (h.unread X) = X :=
  (funext fun y => h.readAt_unread X _ y).trans (View.ld_unit_lit inb X h0)

/-- A stored column tile of the activations, made from the weights' columns as the body loads them. -/
theorem piece {sg : RefSig} {m3 m4 : Memref sg .tc .vmem S1024x2816 .bf16} (h3 : m3.IsWhole) (h4 : m4.IsWhole)
    (wg wu : FVec Ideal S1024x2816 .bf16) (k : Nat)
    (inb : ∀ a, (![0, k] : Fin 2 → Nat) a + (![1024, 256] : Fin 2 → Nat) a ≤ S1024x2816.size a)
    (u : FVec Ideal S1024x1024 .bf16) {w : FVec Ideal S1024x256 .bf16}
    (hw : w = chunk u (View.readAt (Elt Ideal) m3.view (Rect.unit (s := S1024x2816) ![0, k] ![1024, 256] inb).toLoadRect (h3.unread wg))
      (View.readAt (Elt Ideal) m4.view (Rect.unit (s := S1024x2816) ![0, k] ![1024, 256] inb).toLoadRect (h4.unread wu))) (x : S1024x256.Idx) :
    w x = acts u wg wu ((Rect.unit (s := S1024x2816) ![0, k] ![1024, 256] inb).emb x) := by
  rw [hw, ← chunk_tile k inb u wg wu x]
  have e3 := funext fun y => h3.readAt_unread (Val := Elt Ideal) wg (Rect.unit (s := S1024x2816) ![0, k] ![1024, 256] inb).toLoadRect y
  have e4 := funext fun y => h4.readAt_unread (Val := Elt Ideal) wu (Rect.unit (s := S1024x2816) ![0, k] ![1024, 256] inb).toLoadRect y
  exact congrFun (congrArg₂ (chunk u) e3 e4) x

end Cert.Proof.Mix
-- ==== Proof.MixBlock.lean ====
/-
  What a grid point of the channel mixer leaves in its block: the mixer of the block's rows.
-/
module

public import proofs.«01_k».proof.Proof.MixKernel
public import proofs.«01_k».proof.Proof.Gen.FfnIdeal.Value

@[expose] public section

noncomputable section

namespace Cert.Proof.Mix

open Cert.FfnIdeal Cert.FfnIdeal.Gen
open Idealize.ShloMosaic Idealize.ShloMosaic.TcCoe
open Idealize.ShloMosaic.ValueIdx

/-! ## The column tiles -/

section Tiles

variable (u : FVec Ideal S1024x1024 .bf16) (a b : FVec Ideal S1024x256 .bf16)

theorem tile_2 : k0_pay2 (F := Ideal) u a b = chunk u a b := by unfold k0_pay2; simp only [shapeCast_self]; rfl
theorem tile_1 : k0_pay1 (F := Ideal) (k0_pay19 (F := Ideal) u a b) = chunk u a b := by
  unfold k0_pay1 k0_pay19; simp only [shapeCast_self]; rfl
theorem tile_18 : k0_pay18 (F := Ideal) u a b = chunk u a b := by unfold k0_pay18; simp only [shapeCast_self]; rfl
theorem tile_17 : k0_pay17 (F := Ideal) u a b = chunk u a b := by unfold k0_pay17; simp only [shapeCast_self]; rfl
theorem tile_16 : k0_pay16 (F := Ideal) u a b = chunk u a b := by unfold k0_pay16; simp only [shapeCast_self]; rfl
theorem tile_15 : k0_pay15 (F := Ideal) u a b = chunk u a b := by unfold k0_pay15; simp only [shapeCast_self]; rfl
theorem tile_14 : k0_pay14 (F := Ideal) u (k0_pay13 (F := Ideal) u a) b = chunk u a b := by
  unfold k0_pay14 k0_pay13; simp only [shapeCast_self]; rfl
theorem tile_12 : k0_pay12 (F := Ideal) u a b = chunk u a b := by unfold k0_pay12; simp only [shapeCast_self]; rfl
theorem tile_11 : k0_pay11 (F := Ideal) u a b = chunk u a b := by unfold k0_pay11; simp only [shapeCast_self]; rfl

variable (x : FVec Ideal S1024x1024 .f32) (g : FVec Ideal S1x1024 .f32)

theorem tile_10 : k0_pay10 (F := Ideal) (k0_pay7 (F := Ideal) x g a) (k0_pay8 (F := Ideal) x g b) (k0_pay9 (F := Ideal) x g a)
    = chunk (k0_pay5 (F := Ideal) x g) a b := by
  unfold k0_pay10 k0_pay7 k0_pay8 k0_pay9 k0_pay7; simp only [shapeCast_self]; rfl
theorem tile_6 : k0_pay6 (F := Ideal) x g a b = chunk (k0_pay5 (F := Ideal) x g) a b := by
  unfold k0_pay6; simp only [shapeCast_self]; rfl

end Tiles

/-! ## The run's pieces -/

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x2816 .bf16) (harg8 : arg8.IsWhole)
  (x0 : Vec Ideal S1024x1024 .f32) (x1 : Vec Ideal S1x1024 .f32) (x2 x3 : Vec Ideal S1024x2816 .bf16) (x4 : Vec Ideal S2816x1024 .bf16) (x5 : Vec Ideal S1x1024 .f32)

theorem rows_eq : kernelRun0_A.sl.r_1 (F := Ideal) c arg1 harg1 arg2 harg2 x0 x1 = k0_pay5 (F := Ideal) x0 x1 :=
  congrArg₂ (k0_pay5 (F := Ideal)) (load_whole harg1 x0 _ (by decide)) (load_whole harg2 x1 _ (by decide))

/-- Every tile the body stores is the activations' tile. -/
theorem tiles_ok : ∀ p ∈ kernelRun0_A.sl.HS0_11 (F := Ideal) c arg1 harg1 arg2 harg2 arg3 harg3 arg4 harg4 x0 x1 x2 x3,
    ∀ x : p.1.shape.Idx, p.2 x = acts (k0_pay5 (F := Ideal) x0 x1) x2 x3 (p.1.emb x) := by
  have hx := load_whole harg1 x0 inb_S1024x1024_S1024x1024_0_0 (by decide)
  have hg := load_whole harg2 x1 inb_S1x1024_S1x1024_0_0 (by decide)
  have hu := rows_eq c arg1 harg1 arg2 harg2 x0 x1
  unfold kernelRun0_A.sl.HS0_11
  refine List.forall_mem_cons.2 ⟨piece harg3 harg4 x2 x3 2560 inb_S1024x2816_S1024x256_0_2560 (k0_pay5 (F := Ideal) x0 x1) ?_, List.forall_mem_cons.2 ⟨piece harg3 harg4 x2 x3 2304 inb_S1024x2816_S1024x256_0_2304 (k0_pay5 (F := Ideal) x0 x1) ?_,
    List.forall_mem_cons.2 ⟨piece harg3 harg4 x2 x3 2048 inb_S1024x2816_S1024x256_0_2048 (k0_pay5 (F := Ideal) x0 x1) ?_, List.forall_mem_cons.2 ⟨piece harg3 harg4 x2 x3 1792 inb_S1024x2816_S1024x256_0_1792 (k0_pay5 (F := Ideal) x0 x1) ?_,
    List.forall_mem_cons.2 ⟨piece harg3 harg4 x2 x3 1536 inb_S1024x2816_S1024x256_0_1536 (k0_pay5 (F := Ideal) x0 x1) ?_, List.forall_mem_cons.2 ⟨piece harg3 harg4 x2 x3 1280 inb_S1024x2816_S1024x256_0_1280 (k0_pay5 (F := Ideal) x0 x1) ?_,
    List.forall_mem_cons.2 ⟨piece harg3 harg4 x2 x3 1024 inb_S1024x2816_S1024x256_0_1024 (k0_pay5 (F := Ideal) x0 x1) ?_, List.forall_mem_cons.2 ⟨piece harg3 harg4 x2 x3 768 inb_S1024x2816_S1024x256_0_768 (k0_pay5 (F := Ideal) x0 x1) ?_,
    List.forall_mem_cons.2 ⟨piece harg3 harg4 x2 x3 512 inb_S1024x2816_S1024x256_0_512 (k0_pay5 (F := Ideal) x0 x1) ?_, List.forall_mem_cons.2 ⟨piece harg3 harg4 x2 x3 256 inb_S1024x2816_S1024x256_0_256 (k0_pay5 (F := Ideal) x0 x1) ?_,
    List.forall_mem_cons.2 ⟨piece harg3 harg4 x2 x3 0 inb_S1024x2816_S1024x256_0_0 (k0_pay5 (F := Ideal) x0 x1) ?_, fun p hp => absurd hp List.not_mem_nil⟩⟩⟩⟩⟩⟩⟩⟩⟩⟩⟩
  · rw [hu]; exact tile_2 _ _ _
  · unfold kernelRun0_A.sl.r_6; rw [hu]; exact tile_1 _ _ _
  · rw [hu]; exact tile_18 _ _ _
  · rw [hu]; exact tile_17 _ _ _
  · rw [hu]; exact tile_16 _ _ _
  · rw [hu]; exact tile_15 _ _ _
  · unfold kernelRun0_A.sl.r_5; rw [hu]; exact tile_14 _ _ _
  · rw [hu]; exact tile_12 _ _ _
  · rw [hu]; exact tile_11 _ _ _
  · unfold kernelRun0_A.sl.r_2 kernelRun0_A.sl.r_3 kernelRun0_A.sl.r_4; rw [hx, hg]; exact tile_10 _ _ _ _
  · rw [hx, hg]; exact tile_6 _ _ _ _

/-- The eleven tiles cover the activations' buffer. -/
theorem tiles_cover (y : S1024x2816.Idx) :
    ∃ p ∈ kernelRun0_A.sl.HS0_11 (F := Ideal) c arg1 harg1 arg2 harg2 arg3 harg3 arg4 harg4 x0 x1 x2 x3, y ∈ p.1.set :=
  View.cover_of_tiledL (kernelRun0_A.sl.HS0_11 (F := Ideal) c arg1 harg1 arg2 harg2 arg3 harg3 arg4 harg4 x0 x1 x2 x3) S1024x256.size (by sl_kernel_rfl) y

/-- The activations as the body reads them back. -/
theorem read_acts : kernelRun0_A.sl.v160 (F := Ideal) c arg1 harg1 arg2 harg2 arg3 harg3 arg4 harg4 arg8 x0 x1 x2 x3
    = acts (k0_pay5 (F := Ideal) x0 x1) x2 x3 := by
  unfold kernelRun0_A.sl.v160
  rw [View.readCov_eq_canon']
  have hc : View.canon (kernelRun0_A.sl.HS0_11 (F := Ideal) c arg1 harg1 arg2 harg2 arg3 harg3 arg4 harg4 x0 x1 x2 x3)
      = acts (k0_pay5 (F := Ideal) x0 x1) x2 x3 := funext fun y =>
    View.canon_apply_of_pieces _ _ (tiles_ok c arg1 harg1 arg2 harg2 arg3 harg3 arg4 harg4 x0 x1 x2 x3) y
      (tiles_cover c arg1 harg1 arg2 harg2 arg3 harg3 arg4 harg4 x0 x1 x2 x3 y)
  rw [hc]
  exact View.ld_unit_lit (S := S1024x2816) (Val := Elt Ideal) (e := .bf16) inb_S1024x2816_S1024x2816_0_0
    (acts (k0_pay5 (F := Ideal) x0 x1) x2 x3) (by decide)

/-- What the body leaves in the output's block. -/
theorem out_eq : out0_A_6 (F := Ideal) c i arg1 harg1 arg2 harg2 arg3 harg3 arg4 harg4 arg5 harg5 arg6 harg6 arg7 harg7 arg8 harg8 x0 x1 x2 x3 x4 x5
    = k0_pay3 (F := Ideal) (k0_pay4 (F := Ideal) x0) (acts (k0_pay5 (F := Ideal) x0 x1) x2 x3) x4 := by
  have hL : (kernelRun0_A (F := Ideal) c i arg1 harg1 arg2 harg2 arg3 harg3 arg4 harg4 arg5 harg5 arg6 harg6 arg7 harg7 arg8 harg8 x0 x1 x2 x3 x4 x5).1
      = [⟨Rect.unit ![0, 0] S1024x1024.size inb_S1024x1024_S1024x1024_0_0, k0_pay3 (F := Ideal) (kernelRun0_A.sl.r (F := Ideal) c arg1 harg1 x0)
          (kernelRun0_A.sl.v160 (F := Ideal) c arg1 harg1 arg2 harg2 arg3 harg3 arg4 harg4 arg8 x0 x1 x2 x3)
          (View.readAt (Elt Ideal) arg5.view (Rect.unit ![0, 0] S2816x1024.size inb_S2816x1024_S2816x1024_0_0).toLoadRect (harg5.unread x4))⟩] := rfl
  unfold out0_A_6
  rw [hL, read_acts]
  have hr : kernelRun0_A.sl.r (F := Ideal) c arg1 harg1 x0 = k0_pay4 (F := Ideal) x0 :=
    congrArg (k0_pay4 (F := Ideal)) (load_whole harg1 x0 _ (by decide))
  rw [hr, load_whole harg5 x4 _ (by decide)]
  refine (funext fun y => View.read_writes_junk_apply_eq_canon VO0_6 y _).trans ?_
  exact View.canon_unit_zero (by decide) _ _

end Cert.Proof.Mix
-- ==== Proof.MixArray.lean ====
/-
  The channel mixer's array after the run: the mixer of every row of the argument.
-/
module

public import proofs.«01_k».proof.Proof.MixBlock

@[expose] public section

noncomputable section

namespace Cert.Proof.Mix

open Cert.FfnIdeal Cert.FfnIdeal.Gen Cert.FfnIdeal.Value
open Idealize.ShloMosaic Idealize.ShloMosaic.TcCoe Idealize.SL.Sem
open Idealize.ShloMosaic.Pipeline (Dat)
open Idealize.ShloMosaic.ValueIdx

/-- The mixer of every row. -/
def mixArr (x : FVec Ideal S65536x1024 .f32) (g : FVec Ideal S1x1024 .f32) (wg wu : FVec Ideal S1024x2816 .bf16)
    (wd : FVec Ideal S2816x1024 .bf16) : FVec Ideal S65536x1024 .f32 := fun j =>
  mixRow (fun e => x (ix2 (j 0) e)) (fun e => g (ix2 (0 : Fin 1) e)) (fun e f => wg (ix2 e f)) (fun e f => wu (ix2 e f))
    (fun f k => wd (ix2 f k)) (j 1)

variable (m : (ℓ : Loc nD τ sig) → Buf (Elt Ideal) ℓ) (ρ : Dev nD → PrngReg)

/-- The weights' blocks are the whole arrays at every point; the rows' blocks go along with the point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The row of the array that a block's row is. -/
def rowOf (t : Fin cfg0.N) (r : Fin 1024) : Fin 65536 :=
  ⟨t.val * 1024 + r.val, by have := t.isLt; have h : cfg0.N = 64 := N_0; omega⟩

theorem emb0 (t : Fin cfg0.N) (r e : Fin 1024) : ((cfg0.win 0).blk t).view.emb (ix2 r e) = ix2 (rowOf t r) e := by
  obtain ⟨h0, h1, -⟩ := idx_facts t
  funext a; apply Fin.ext
  match a with
  | ⟨0, _⟩ => show win0_0.index t (0 : Fin 2) * 1024 + 1 * r.val = t.val * 1024 + r.val; omega
  | ⟨1, _⟩ => show win0_0.index t (1 : Fin 2) * 1024 + 1 * e.val = e.val; omega

theorem emb6 (t : Fin cfg0.N) (r e : Fin 1024) : ((cfg0.win 6).blk t).view.emb (ix2 r e) = ix2 (rowOf t r) e := by
  obtain ⟨-, -, -, -, -, -, -, -, -, -, -, -, h0, h1⟩ := idx_facts t
  funext a; apply Fin.ext
  match a with
  | ⟨0, _⟩ => show win0_6.index t (0 : Fin 2) * 1024 + 1 * r.val = t.val * 1024 + r.val; omega
  | ⟨1, _⟩ => show win0_6.index t (1 : Fin 2) * 1024 + 1 * e.val = e.val; omega

theorem iblk1_eq (c : Dev nD) (t : Fin cfg0.N) : iblk m c 1 t = V m c main_v1 := by
  obtain ⟨-, -, h0, h1, -⟩ := idx_facts t
  funext j; refine congrArg (V m c main_v1) (funext fun a => Fin.ext ?_)
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem iblk2_eq (c : Dev nD) (t : Fin cfg0.N) : iblk m c 2 t = V m c main_v2 := by
  obtain ⟨-, -, -, -, h0, h1, -⟩ := idx_facts t
  funext j; refine congrArg (V m c main_v2) (funext fun a => Fin.ext ?_)
  match a with
  | ⟨0, _⟩ => show win0_2.index t (0 : Fin 2) * 1024 + 1 * (j 0).val = (j 0).val; omega
  | ⟨1, _⟩ => show win0_2.index t (1 : Fin 2) * 2816 + 1 * (j 1).val = (j 1).val; omega

theorem iblk3_eq (c : Dev nD) (t : Fin cfg0.N) : iblk m c 3 t = V m c main_v3 := by
  obtain ⟨-, -, -, -, -, -, h0, h1, -⟩ := idx_facts t
  funext j; refine congrArg (V m c main_v3) (funext fun a => Fin.ext ?_)
  match a with
  | ⟨0, _⟩ => show win0_3.index t (0 : Fin 2) * 1024 + 1 * (j 0).val = (j 0).val; omega
  | ⟨1, _⟩ => show win0_3.index t (1 : Fin 2) * 2816 + 1 * (j 1).val = (j 1).val; omega

theorem iblk4_eq (c : Dev nD) (t : Fin cfg0.N) : iblk m c 4 t = V m c main_v4 := by
  obtain ⟨-, -, -, -, -, -, -, -, h0, h1, -⟩ := idx_facts t
  funext j; refine congrArg (V m c main_v4) (funext fun a => Fin.ext ?_)
  match a with
  | ⟨0, _⟩ => show win0_4.index t (0 : Fin 2) * 2816 + 1 * (j 0).val = (j 0).val; omega
  | ⟨1, _⟩ => show win0_4.index t (1 : Fin 2) * 1024 + 1 * (j 1).val = (j 1).val; omega

/-- What a point writes back is its block of the mixed rows. -/
theorem flushed_mix (c : Dev nD) (t : Fin cfg0.N) : (dats m 0 c).flushed 6 t
    = ((cfg0.win 6).blk t).view.read (Elt Ideal) (mixArr (V m c main_v0) (V m c main_v1) (V m c main_v2) (V m c main_v3) (V m c main_v4)) := by
  rw [flushed6_A, out_eq, iblk1_eq, iblk2_eq, iblk3_eq, iblk4_eq]
  suffices h : ∀ r d : Fin 1024, k0_pay3 (F := Ideal) (k0_pay4 (F := Ideal) (iblk m c 0 t))
      (acts (k0_pay5 (F := Ideal) (iblk m c 0 t) (V m c main_v1)) (V m c main_v2) (V m c main_v3)) (V m c main_v4) (ix2 r d)
      = mixArr (V m c main_v0) (V m c main_v1) (V m c main_v2) (V m c main_v3) (V m c main_v4) (((cfg0.win 6).blk t).view.emb (ix2 r d)) by
    funext j
    have hj : j = ix2 (j 0 : Fin 1024) (j 1 : Fin 1024) := funext fun a => match a with | ⟨0, _⟩ => rfl | ⟨1, _⟩ => rfl
    rw [hj]; exact h (j 0) (j 1)
  intro r d
  refine ((block_apply _ _ _ _ _ r d).trans ?_).trans (congrArg (mixArr _ _ _ _ _) (emb6 t r d)).symm
  refine congrArg (fun x => mixRow x _ _ _ _ d) (funext fun e => ?_)
  exact congrArg (V m c main_v0) (emb0 t r e)

theorem mem_blk6 (t : Fin cfg0.N) (i : S65536x1024.Idx) : i ∈ ((cfg0.win 6).blk t).view.set ↔ ∀ a : Fin 2,
    win0_6.index t a * S1024x1024.size a ≤ (i a).val ∧ (i a).val < win0_6.index t a * S1024x1024.size a + S1024x1024.size a := by
  show i ∈ ((View.whole main_v6).slice (win0_6.rect t)).set ↔ _
  rw [View.set_slice_whole, Rect.mem_set_unit]
  exact Iff.rfl

/-- Every row is in some point's block. -/
theorem covered (i : S65536x1024.Idx) : ∃ t : Fin cfg0.N, (cfg0.win 6).flush t = true ∧ i ∈ ((cfg0.win 6).blk t).view.set := by
  have h0 : (i 0).val < 65536 := (i 0).isLt
  have h1 : (i 1).val < 1024 := (i 1).isLt
  have hN : cfg0.N = 64 := N_0
  refine ⟨⟨(i 0).val / 1024, by omega⟩, flush0_6 _, ?_⟩
  rw [mem_blk6]
  obtain ⟨-, -, -, -, -, -, -, -, -, -, -, -, e0, e1⟩ := idx_facts ⟨(i 0).val / 1024, by omega⟩
  intro a
  match a with
  | ⟨0, _⟩ => show win0_6.index _ (0 : Fin 2) * 1024 ≤ (i 0).val ∧ (i 0).val < win0_6.index _ (0 : Fin 2) * 1024 + 1024
              rw [e0]; dsimp only; omega
  | ⟨1, _⟩ => show win0_6.index _ (1 : Fin 2) * 1024 ≤ (i 1).val ∧ (i 1).val < win0_6.index _ (1 : Fin 2) * 1024 + 1024
              rw [e1]; omega

theorem arr_eq (c : Dev nD) : (dats m 0 c).arrAt 6 cfg0.N
    = mixArr (V m c main_v0) (V m c main_v1) (V m c main_v2) (V m c main_v3) (V m c main_v4) :=
  (dats m 0 c).arrAt_eq_of_cover 6 _ (fun t _ => flushed_mix m c t) covered

/-! ## The arrays as the region finds them -/

theorem rows_in (c : Dev nD) : V m c main_v0
    = shapeCast S65536x1024 (m ((c : Thread nD τ).loc main_arg0)) shapeCasts_S16x4096x1024_S65536x1024 := by
  unfold V; simp only [hostOps0]; after_results_simp <;> rfl

theorem norm_in (c : Dev nD) : V m c main_v1 = shapeCast S1x1024 (m ((c : Thread nD τ).loc main_arg1)) shapeCasts_S1024_S1x1024 := by
  unfold V; simp only [hostOps0]; after_results_simp <;> rfl

theorem gate_in (c : Dev nD) : V m c main_v2 = m ((c : Thread nD τ).loc main_arg2) := by
  unfold V; simp only [hostOps0]; after_results_simp <;> rfl

theorem up_in (c : Dev nD) : V m c main_v3 = m ((c : Thread nD τ).loc main_arg3) := by
  unfold V; simp only [hostOps0]; after_results_simp <;> rfl

theorem down_in (c : Dev nD) : V m c main_v4 = m ((c : Thread nD τ).loc main_arg4) := by
  unfold V; simp only [hostOps0]; after_results_simp <;> rfl

end Cert.Proof.Mix
-- ==== Proof.MixRef.lean ====
/-
  The channel mixer's mathematics over the whole array, as the reference writes it, is the mixer of every row.
-/
module

public import proofs.«01_k».proof.Proof.MixKernel
public import proofs.«01_k».proof.Proof.Gen.FfnReferenceIdeal.Run
public import Idealize.ShloMosaic.Lib.IdealHost
public import Idealize.ShloMosaic.Lib.StackMember

@[expose] public section

noncomputable section

namespace Cert.Proof.Mix

open Cert.FfnReferenceIdeal Cert.FfnReferenceIdeal.Gen
open Idealize.ShloMosaic Idealize.ShloMosaic.TcCoe
open Idealize.ShloMosaic.ValueIdx

/-- The mixer of every row. -/
def mixed (x : FVec Ideal S65536x1024 .f32) (g : FVec Ideal S1024 .f32) (wg wu : FVec Ideal S1024x2816 .f32)
    (wd : FVec Ideal S2816x1024 .f32) : FVec Ideal S65536x1024 .f32 := fun j =>
  mixRow (fun e => x (ix2 (j 0) e)) (fun e => g (ix1 e)) (fun e f => wg (ix2 e f)) (fun e f => wu (ix2 e f)) (fun f k => wd (ix2 f k)) (j 1)

/-- Every row normalised. -/
def refNorm (x : FVec Ideal S65536x1024 .f32) (g : FVec Ideal S1024 .f32) : FVec Ideal S65536x1024 .f32 :=
  mulf (mulf x (broadcastInDim S65536x1024 ![0, 1] bcast_S65536x1_S65536x1024_0_1 (Host.rsqrt (addf (Host.divf
    (broadcastInDim S65536x1 ![0] bcast_S65536_S65536x1_0 (Host.reduceAdd (mulf x x) (constant S_ .f32 0x00000000#32) reducesTo_S65536x1024_S65536_d1 h_S_))
    (broadcastInDim S65536x1 ![] bcast_S_S65536x1 (constant S_ .f32 0x44800000#32)))
    (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

/-- The activations of every row. -/
def refActs (u : FVec Ideal S65536x1024 .f32) (wg wu : FVec Ideal S1024x2816 .f32) : FVec Ideal S65536x2816 .f32 :=
  mulf (mulf (Host.dotGeneral dot_S65536x1024_S1024x2816_S65536x2816_1_0_0_1_n_n none u wg)
    (Host.divf (broadcastInDim S65536x2816 ![] bcast_S_S65536x2816 (constant S_ .f32 0x3F800000#32))
      (addf (broadcastInDim S65536x2816 ![] bcast_S_S65536x2816 (constant S_ .f32 0x3F800000#32))
        (Host.exp (Host.negf (Host.dotGeneral dot_S65536x1024_S1024x2816_S65536x2816_1_0_0_1_n_n none u wg))))))
    (Host.dotGeneral dot_S65536x1024_S1024x2816_S65536x2816_1_0_0_1_n_n none u wu)

/-- The half step. -/
def refMix (x : FVec Ideal S65536x1024 .f32) (g : FVec Ideal S1024 .f32) (wg wu : FVec Ideal S1024x2816 .f32)
    (wd : FVec Ideal S2816x1024 .f32) : FVec Ideal S65536x1024 .f32 :=
  addf x (mulf (broadcastInDim S65536x1024 ![] bcast_S_S65536x1024 (constant S_ .f32 0x3F000000#32))
    (Host.dotGeneral dot_S65536x2816_S2816x1024_S65536x1024_1_0_0_1_n_n none (refActs (refNorm x g) wg wu) wd))

theorem reduces_rows : S65536x1024.Reduces [1] S65536 := by decide

theorem refNorm_apply (x : FVec Ideal S65536x1024 .f32) (g : FVec Ideal S1024 .f32) (r : Fin 65536) (k : Fin 1024) :
    refNorm x g (ix2 r k) = normRow (fun e => x (ix2 r e)) (fun e => g (ix1 e)) k := by
  have hs : ∀ u : Fin 1, broadcastInDim S65536x1 ![0] bcast_S65536_S65536x1_0
      (Host.reduceAdd (mulf x x) (constant S_ .f32 0x00000000#32) reducesTo_S65536x1024_S65536_d1 h_S_) (ix2 r u)
      = ∑ e : Fin 1024, x (ix2 r e) * x (ix2 r e) := fun u => by
    rw [broadcastInDim_apply _ _ _ _ (ix1 r) (fun a => match a with | ⟨0, _⟩ => rfl), hostReduceAdd_apply]
    refine (Ideal.hostReduceAdd_single _ reduces_rows _ _ _).trans ?_
    refine (congrArg (· + _) Ideal.ofBits_zero_f32).trans ((zero_add _).trans ?_)
    refine Finset.sum_congr rfl fun e _ => ?_
    have hl : reduces_rows.lift (ix1 r) e = ix2 r e := funext fun a => Fin.ext (match a with
      | ⟨0, _⟩ => rfl
      | ⟨1, _⟩ => rfl)
    rw [hl]; rfl
  have hb : ∀ v : FVec Ideal S65536x1 .f32, broadcastInDim S65536x1024 ![0, 1] bcast_S65536x1_S65536x1024_0_1 v (ix2 r k) = v (ix2 r (0 : Fin 1)) :=
    fun v => broadcastInDim_apply _ _ v _ _ fun a => match a with
      | ⟨0, _⟩ => rfl
      | ⟨1, _⟩ => rfl
  have hg : broadcastInDim S65536x1024 ![0, 1] bcast_S1x1024_S65536x1024_0_1 (broadcastInDim S1x1024 ![1] bcast_S1024_S1x1024_1 g) (ix2 r k) = g (ix1 k) :=
    (broadcastInDim_apply _ _ _ _ (ix2 (0 : Fin 1) k) fun a => match a with
      | ⟨0, _⟩ => rfl
      | ⟨1, _⟩ => rfl).trans (broadcastInDim_apply _ _ g _ (ix1 k) fun a => match a with | ⟨0, _⟩ => rfl)
  refine (congrArg₂ (fun p q : EReal => x (ix2 r k) * p * q) (hb _) hg).trans ?_
  unfold normRow
  rw [← hs 0]; rfl

theorem refActs_apply (u : FVec Ideal S65536x1024 .f32) (wg wu : FVec Ideal S1024x2816 .f32) (r : Fin 65536) (f : Fin 2816) :
    refActs u wg wu (ix2 r f) = gated (fun e => u (ix2 r e)) (fun e f => wg (ix2 e f)) (fun e f => wu (ix2 e f)) f := by
  have hd : ∀ w : FVec Ideal S1024x2816 .f32, Host.dotGeneral dot_S65536x1024_S1024x2816_S65536x2816_1_0_0_1_n_n none u w (ix2 r f)
      = ∑ e : Fin 1024, u (ix2 r e) * w (ix2 e f) := fun w => Idealize.ShloMosaic.StackMember.dotGeneral_plain_apply none u w r f
  unfold gated Ideal.logistic
  rw [← hd wg, ← hd wu, ← Ideal.ofBits_one_f32]
  rfl

theorem refMix_eq (x : FVec Ideal S65536x1024 .f32) (g : FVec Ideal S1024 .f32) (wg wu : FVec Ideal S1024x2816 .f32)
    (wd : FVec Ideal S2816x1024 .f32) : refMix x g wg wu wd = mixed x g wg wu wd := by
  suffices h : ∀ (r : Fin 65536) (d : Fin 1024), refMix x g wg wu wd (ix2 r d) = mixed x g wg wu wd (ix2 r d) by
    funext j
    have hj : j = ix2 (j 0 : Fin 65536) (j 1 : Fin 1024) := funext fun a => match a with | ⟨0, _⟩ => rfl | ⟨1, _⟩ => rfl
    rw [hj]; exact h (j 0) (j 1)
  intro r d
  have hu : (fun e => refNorm x g (ix2 r e)) = normRow (fun e => x (ix2 r e)) (fun e => g (ix1 e)) := funext fun e => refNorm_apply x g r e
  have hd : Host.dotGeneral dot_S65536x2816_S2816x1024_S65536x1024_1_0_0_1_n_n none (refActs (refNorm x g) wg wu) wd (ix2 r d)
      = ∑ f : Fin 2816, gated (normRow (fun e => x (ix2 r e)) (fun e => g (ix1 e))) (fun e f => wg (ix2 e f)) (fun e f => wu (ix2 e f)) f * wd (ix2 f d) :=
    (Idealize.ShloMosaic.StackMember.dotGeneral_plain_apply none _ wd r d).trans (Finset.sum_congr rfl fun f _ => congrArg (· * _) (by rw [refActs_apply, hu]))
  exact congrArg (fun z : EReal => x (ix2 r d) + Ideal.ofBits .f32 0x3F000000#32 * z) hd

open Idealize.SL.Sem in
/-- The reference's run: the mixed rows, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = mixed (shapeCast _ (m ((c.tc : Thread nD τ).loc main_arg0)) shapeCasts_S16x4096x1024_S65536x1024)
          (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (refMix_eq _ _ _ _ _), (h c).2⟩) (Cert.FfnReferenceIdeal.Value.run m ρ)

end Cert.Proof.Mix
-- ==== Proof.MixTie.lean ====
/-
  The channel mixer against its reference: both leave the mixer of every row.
-/
module

public import proofs.«01_k».proof.Defs
public import proofs.«01_k».proof.Proof.MixArray
public import proofs.«01_k».proof.Proof.MixRef

@[expose] public section

noncomputable section

namespace Cert.Proof.Mix

open Idealize.ShloMosaic Idealize.ShloMosaic.TcCoe Idealize.SL.Sem
open Idealize.ShloMosaic.ValueIdx

open Cert.FfnIdeal Cert.FfnIdeal.Gen in
/-- A norm's weights as the one row of a matrix. -/
theorem weights_row (g : FVec Ideal S1024 .f32) (e : Fin 1024) :
    shapeCast S1x1024 g shapeCasts_S1024_S1x1024 (ix2 (0 : Fin 1) e) = g (ix1 e) :=
  shapeCast_a_1a_apply g _ 0 e

open Cert.FfnIdeal Cert.FfnIdeal.Gen in
theorem mixArr_eq (x : FVec Ideal S65536x1024 .f32) (g : FVec Ideal S1024 .f32) (wg wu : FVec Ideal S1024x2816 .f32)
    (wd : FVec Ideal S2816x1024 .f32) :
    mixArr x (shapeCast S1x1024 g shapeCasts_S1024_S1x1024) wg wu wd = mixed x g wg wu wd :=
  funext fun j => congrArg (fun w => mixRow (fun e => x (ix2 (j 0) e)) w (fun e f => wg (ix2 e f)) (fun e f => wu (ix2 e f))
    (fun f k => wd (ix2 f k)) (j 1)) (funext fun e => weights_row g e)

open Cert.FfnIdeal Cert.FfnIdeal.Gen in
/-- The kernel's run: the mixed rows, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = mixed (shapeCast S65536x1024 (m ((c.tc : Thread nD τ).loc main_arg0)) shapeCasts_S16x4096x1024_S65536x1024)
          (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((arr_eq m c).trans (by
    rw [rows_in, norm_in, gate_in, up_in, down_in]; exact mixArr_eq _ _ _ _ _)), (h c).2⟩) (Cert.FfnIdeal.Value.run_blocks m ρ)

theorem algebraic : algebraic_FfnIdeal_FfnReferenceIdeal := by
  intro m g m' g' _ hm
  refine ⟨fun c => mixed (shapeCast Cert.FfnIdeal.S65536x1024 (m ((c.tc : Thread Cert.FfnIdeal.nD Cert.FfnIdeal.τ).loc Cert.FfnIdeal.main_arg0))
      Cert.FfnIdeal.Gen.shapeCasts_S16x4096x1024_S65536x1024)
    (m ((c.tc : Thread Cert.FfnIdeal.nD Cert.FfnIdeal.τ).loc Cert.FfnIdeal.main_arg1)) (m ((c.tc : Thread Cert.FfnIdeal.nD Cert.FfnIdeal.τ).loc Cert.FfnIdeal.main_arg2))
    (m ((c.tc : Thread Cert.FfnIdeal.nD Cert.FfnIdeal.τ).loc Cert.FfnIdeal.main_arg3)) (m ((c.tc : Thread Cert.FfnIdeal.nD Cert.FfnIdeal.τ).loc Cert.FfnIdeal.main_arg4)),
    kernel_run m g, ?_⟩
  refine (θ_run _ _ _).mono (fun _ h c => ⟨(h c).1.trans ?_, (h c).2⟩) (ref_run m' g')
  obtain ⟨h0, h1, h2, h3, h4, -⟩ := hm c
  rw [h0, h1, h2, h3, h4]

end Cert.Proof.Mix
-- ==== Proof.LastBlock.lean ====
/-
  What a grid point of the last channel mixer leaves in its block: the mixer of the block's rows, normalised.
-/
module

public import proofs.«01_k».proof.Proof.MixKernel
public import proofs.«01_k».proof.Proof.Gen.LastIdeal.Value

@[expose] public section

noncomputable section

namespace Cert.Proof.Last

open Cert.LastIdeal Cert.LastIdeal.Gen
open Idealize.ShloMosaic Idealize.ShloMosaic.TcCoe
open Idealize.ShloMosaic.ValueIdx
open Cert.Proof.Mix (chunk acts load_whole piece)

/-! ## The column tiles -/

section Tiles

variable (u : FVec Ideal S1024x1024 .bf16) (a b : FVec Ideal S1024x256 .bf16)

theorem tile_18 : k0_pay18 (F := Ideal) u a b = chunk u a b := by unfold k0_pay18; simp only [shapeCast_self]; rfl
theorem tile_17 : k0_pay17 (F := Ideal) (k0_pay16 (F := Ideal) u a b) = chunk u a b := by
  unfold k0_pay17 k0_pay16; simp only [shapeCast_self]; rfl
theorem tile_15 : k0_pay15 (F := Ideal) u a b = chunk u a b := by unfold k0_pay15; simp only [shapeCast_self]; rfl
theorem tile_14 : k0_pay14 (F := Ideal) u a b = chunk u a b := by unfold k0_pay14; simp only [shapeCast_self]; rfl
theorem tile_13 : k0_pay13 (F := Ideal) u a b = chunk u a b := by unfold k0_pay13; simp only [shapeCast_self]; rfl
theorem tile_12 : k0_pay12 (F := Ideal) u a b = chunk u a b := by unfold k0_pay12; simp only [shapeCast_self]; rfl
theorem tile_11 : k0_pay11 (F := Ideal) u (k0_pay10 (F := Ideal) u a) b = chunk u a b := by
  unfold k0_pay11 k0_pay10; simp only [shapeCast_self]; rfl
theorem tile_9 : k0_pay9 (F := Ideal) u a b = chunk u a b := by unfold k0_pay9; simp only [shapeCast_self]; rfl
theorem tile_8 : k0_pay8 (F := Ideal) u a b = chunk u a b := by unfold k0_pay8; simp only [shapeCast_self]; rfl

variable (x : FVec Ideal S1024x1024 .f32) (g : FVec Ideal S1x1024 .f32)

theorem tile_7 : k0_pay7 (F := Ideal) (k0_pay4 (F := Ideal) x g a) (k0_pay5 (F := Ideal) x g b) (k0_pay6 (F := Ideal) x g a)
    = chunk (k0_pay2 (F := Ideal) x g) a b := by
  unfold k0_pay7 k0_pay4 k0_pay5 k0_pay6 k0_pay4; simp only [shapeCast_self]; rfl
theorem tile_3 : k0_pay3 (F := Ideal) x g a b = chunk (k0_pay2 (F := Ideal) x g) a b := by
  unfold k0_pay3; simp only [shapeCast_self]; rfl

end Tiles

/-! ## The run's pieces -/

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x2816 .bf16) (harg8 : arg8.IsWhole)
  (x0 : Vec Ideal S1024x1024 .f32) (x1 : Vec Ideal S1x1024 .f32) (x2 x3 : Vec Ideal S1024x2816 .bf16) (x4 : Vec Ideal S2816x1024 .bf16) (x5 : Vec Ideal S1x1024 .f32)

theorem rows_eq : kernelRun0_A.sl.r_1 (F := Ideal) c arg1 harg1 arg2 harg2 x0 x1 = k0_pay2 (F := Ideal) x0 x1 :=
  congrArg₂ (k0_pay2 (F := Ideal)) (load_whole harg1 x0 _ (by decide)) (load_whole harg2 x1 _ (by decide))

/-- Every tile the body stores is the activations' tile. -/
theorem tiles_ok : ∀ p ∈ kernelRun0_A.sl.HS0_11 (F := Ideal) c arg1 harg1 arg2 harg2 arg3 harg3 arg4 harg4 x0 x1 x2 x3,
    ∀ x : p.1.shape.Idx, p.2 x = acts (k0_pay2 (F := Ideal) x0 x1) x2 x3 (p.1.emb x) := by
  have hx := load_whole harg1 x0 inb_S1024x1024_S1024x1024_0_0 (by decide)
  have hg := load_whole harg2 x1 inb_S1x1024_S1x1024_0_0 (by decide)
  have hu := rows_eq c arg1 harg1 arg2 harg2 x0 x1
  unfold kernelRun0_A.sl.HS0_11
  refine List.forall_mem_cons.2 ⟨piece harg3 harg4 x2 x3 2560 inb_S1024x2816_S1024x256_0_2560 (k0_pay2 (F := Ideal) x0 x1) ?_, List.forall_mem_cons.2 ⟨piece harg3 harg4 x2 x3 2304 inb_S1024x2816_S1024x256_0_2304 (k0_pay2 (F := Ideal) x0 x1) ?_,
    List.forall_mem_cons.2 ⟨piece harg3 harg4 x2 x3 2048 inb_S1024x2816_S1024x256_0_2048 (k0_pay2 (F := Ideal) x0 x1) ?_, List.forall_mem_cons.2 ⟨piece harg3 harg4 x2 x3 1792 inb_S1024x2816_S1024x256_0_1792 (k0_pay2 (F := Ideal) x0 x1) ?_,
    List.forall_mem_cons.2 ⟨piece harg3 harg4 x2 x3 1536 inb_S1024x2816_S1024x256_0_1536 (k0_pay2 (F := Ideal) x0 x1) ?_, List.forall_mem_cons.2 ⟨piece harg3 harg4 x2 x3 1280 inb_S1024x2816_S1024x256_0_1280 (k0_pay2 (F := Ideal) x0 x1) ?_,
    List.forall_mem_cons.2 ⟨piece harg3 harg4 x2 x3 1024 inb_S1024x2816_S1024x256_0_1024 (k0_pay2 (F := Ideal) x0 x1) ?_, List.forall_mem_cons.2 ⟨piece harg3 harg4 x2 x3 768 inb_S1024x2816_S1024x256_0_768 (k0_pay2 (F := Ideal) x0 x1) ?_,
    List.forall_mem_cons.2 ⟨piece harg3 harg4 x2 x3 512 inb_S1024x2816_S1024x256_0_512 (k0_pay2 (F := Ideal) x0 x1) ?_, List.forall_mem_cons.2 ⟨piece harg3 harg4 x2 x3 256 inb_S1024x2816_S1024x256_0_256 (k0_pay2 (F := Ideal) x0 x1) ?_,
    List.forall_mem_cons.2 ⟨piece harg3 harg4 x2 x3 0 inb_S1024x2816_S1024x256_0_0 (k0_pay2 (F := Ideal) x0 x1) ?_, fun p hp => absurd hp List.not_mem_nil⟩⟩⟩⟩⟩⟩⟩⟩⟩⟩⟩
  · rw [hu]; exact tile_18 _ _ _
  · unfold kernelRun0_A.sl.r_6; rw [hu]; exact tile_17 _ _ _
  · rw [hu]; exact tile_15 _ _ _
  · rw [hu]; exact tile_14 _ _ _
  · rw [hu]; exact tile_13 _ _ _
  · rw [hu]; exact tile_12 _ _ _
  · unfold kernelRun0_A.sl.r_5; rw [hu]; exact tile_11 _ _ _
  · rw [hu]; exact tile_9 _ _ _
  · rw [hu]; exact tile_8 _ _ _
  · unfold kernelRun0_A.sl.r_2 kernelRun0_A.sl.r_3 kernelRun0_A.sl.r_4; rw [hx, hg]; exact tile_7 _ _ _ _
  · rw [hx, hg]; exact tile_3 _ _ _ _

/-- The eleven tiles cover the activations' buffer. -/
theorem tiles_cover (y : S1024x2816.Idx) :
    ∃ p ∈ kernelRun0_A.sl.HS0_11 (F := Ideal) c arg1 harg1 arg2 harg2 arg3 harg3 arg4 harg4 x0 x1 x2 x3, y ∈ p.1.set :=
  View.cover_of_tiledL (kernelRun0_A.sl.HS0_11 (F := Ideal) c arg1 harg1 arg2 harg2 arg3 harg3 arg4 harg4 x0 x1 x2 x3) S1024x256.size (by sl_kernel_rfl) y

/-- The activations as the body reads them back. -/
theorem read_acts : kernelRun0_A.sl.v160 (F := Ideal) c arg1 harg1 arg2 harg2 arg3 harg3 arg4 harg4 arg8 x0 x1 x2 x3
    = acts (k0_pay2 (F := Ideal) x0 x1) x2 x3 := by
  unfold kernelRun0_A.sl.v160
  rw [View.readCov_eq_canon']
  have hc : View.canon (kernelRun0_A.sl.HS0_11 (F := Ideal) c arg1 harg1 arg2 harg2 arg3 harg3 arg4 harg4 x0 x1 x2 x3)
      = acts (k0_pay2 (F := Ideal) x0 x1) x2 x3 := funext fun y =>
    View.canon_apply_of_pieces _ _ (tiles_ok c arg1 harg1 arg2 harg2 arg3 harg3 arg4 harg4 x0 x1 x2 x3) y
      (tiles_cover c arg1 harg1 arg2 harg2 arg3 harg3 arg4 harg4 x0 x1 x2 x3 y)
  rw [hc]
  exact View.ld_unit_lit (S := S1024x2816) (Val := Elt Ideal) (e := .bf16) inb_S1024x2816_S1024x2816_0_0
    (acts (k0_pay2 (F := Ideal) x0 x1) x2 x3) (by decide)

/-- The half step, then the final norm. -/
theorem tail_eq (x : FVec Ideal S1024x1024 .f32) (a : FVec Ideal S1024x2816 .bf16) (wd : FVec Ideal S2816x1024 .bf16) (fg : FVec Ideal S1x1024 .f32) :
    k0_pay19 (F := Ideal) x a wd fg = Cert.FfnIdeal.Gen.k0_pay5 (F := Ideal) (Cert.FfnIdeal.Gen.k0_pay3 (F := Ideal) x a wd) fg := by
  unfold Cert.FfnIdeal.Gen.k0_pay5 Cert.FfnIdeal.Gen.k0_pay4 Cert.FfnIdeal.Gen.k0_pay3 k0_pay19
  simp only [shapeCast_self]
  rfl

/-- What the body leaves in the output's block. -/
theorem out_eq : out0_A_6 (F := Ideal) c i arg1 harg1 arg2 harg2 arg3 harg3 arg4 harg4 arg5 harg5 arg6 harg6 arg7 harg7 arg8 harg8 x0 x1 x2 x3 x4 x5
    = Cert.FfnIdeal.Gen.k0_pay5 (F := Ideal) (Cert.FfnIdeal.Gen.k0_pay3 (F := Ideal) (Cert.FfnIdeal.Gen.k0_pay4 (F := Ideal) x0)
        (acts (Cert.FfnIdeal.Gen.k0_pay5 (F := Ideal) x0 x1) x2 x3) x4) x5 := by
  have hL : (kernelRun0_A (F := Ideal) c i arg1 harg1 arg2 harg2 arg3 harg3 arg4 harg4 arg5 harg5 arg6 harg6 arg7 harg7 arg8 harg8 x0 x1 x2 x3 x4 x5).1
      = [⟨Rect.unit ![0, 0] S1024x1024.size inb_S1024x1024_S1024x1024_0_0, k0_pay19 (F := Ideal) (kernelRun0_A.sl.r (F := Ideal) c arg1 harg1 x0)
          (kernelRun0_A.sl.v160 (F := Ideal) c arg1 harg1 arg2 harg2 arg3 harg3 arg4 harg4 arg8 x0 x1 x2 x3)
          (View.readAt (Elt Ideal) arg5.view (Rect.unit ![0, 0] S2816x1024.size inb_S2816x1024_S2816x1024_0_0).toLoadRect (harg5.unread x4))
          (View.readAt (Elt Ideal) arg6.view (Rect.unit ![0, 0] S1x1024.size inb_S1x1024_S1x1024_0_0).toLoadRect (harg6.unread x5))⟩] := rfl
  unfold out0_A_6
  rw [hL, read_acts]
  have hr : kernelRun0_A.sl.r (F := Ideal) c arg1 harg1 x0 = k0_pay1 (F := Ideal) x0 :=
    congrArg (k0_pay1 (F := Ideal)) (load_whole harg1 x0 _ (by decide))
  rw [hr, load_whole harg5 x4 _ (by decide), load_whole harg6 x5 _ (by decide)]
  refine (funext fun y => View.read_writes_junk_apply_eq_canon VO0_6 y _).trans ?_
  exact (View.canon_unit_zero (by decide) _ _).trans (tail_eq _ _ _ _)

end Cert.Proof.Last
-- ==== Proof.LastArray.lean ====
/-
  The last channel mixer's array after the run: the mixer of every row of the argument, normalised.
-/
module

public import proofs.«01_k».proof.Proof.LastBlock

@[expose] public section

noncomputable section

namespace Cert.Proof.Last

open Cert.LastIdeal Cert.LastIdeal.Gen Cert.LastIdeal.Value
open Idealize.ShloMosaic Idealize.ShloMosaic.TcCoe Idealize.SL.Sem
open Idealize.ShloMosaic.Pipeline (Dat)
open Idealize.ShloMosaic.ValueIdx
open Cert.Proof.Mix (chunk acts mixRow normRow norm_apply block_apply)

/-- The mixer of every row, normalised. -/
def lastArr (x : FVec Ideal S65536x1024 .f32) (g : FVec Ideal S1x1024 .f32) (wg wu : FVec Ideal S1024x2816 .bf16)
    (wd : FVec Ideal S2816x1024 .bf16) (fg : FVec Ideal S1x1024 .f32) : FVec Ideal S65536x1024 .f32 := fun j =>
  normRow (mixRow (fun e => x (ix2 (j 0) e)) (fun e => g (ix2 (0 : Fin 1) e)) (fun e f => wg (ix2 e f)) (fun e f => wu (ix2 e f))
    (fun f k => wd (ix2 f k))) (fun e => fg (ix2 (0 : Fin 1) e)) (j 1)

variable (m : (ℓ : Loc nD τ sig) → Buf (Elt Ideal) ℓ) (ρ : Dev nD → PrngReg)

/-- The weights' blocks are the whole arrays at every point; the rows' blocks go along with the point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The row of the array that a block's row is. -/
def rowOf (t : Fin cfg0.N) (r : Fin 1024) : Fin 65536 :=
  ⟨t.val * 1024 + r.val, by have := t.isLt; have h : cfg0.N = 64 := N_0; omega⟩

theorem emb0 (t : Fin cfg0.N) (r e : Fin 1024) : ((cfg0.win 0).blk t).view.emb (ix2 r e) = ix2 (rowOf t r) e := by
  obtain ⟨h0, h1, -⟩ := idx_facts t
  funext a; apply Fin.ext
  match a with
  | ⟨0, _⟩ => show win0_0.index t (0 : Fin 2) * 1024 + 1 * r.val = t.val * 1024 + r.val; omega
  | ⟨1, _⟩ => show win0_0.index t (1 : Fin 2) * 1024 + 1 * e.val = e.val; omega

theorem emb6 (t : Fin cfg0.N) (r e : Fin 1024) : ((cfg0.win 6).blk t).view.emb (ix2 r e) = ix2 (rowOf t r) e := by
  obtain ⟨-, -, -, -, -, -, -, -, -, -, -, -, h0, h1⟩ := idx_facts t
  funext a; apply Fin.ext
  match a with
  | ⟨0, _⟩ => show win0_6.index t (0 : Fin 2) * 1024 + 1 * r.val = t.val * 1024 + r.val; omega
  | ⟨1, _⟩ => show win0_6.index t (1 : Fin 2) * 1024 + 1 * e.val = e.val; omega

theorem iblk1_eq (c : Dev nD) (t : Fin cfg0.N) : iblk m c 1 t = V m c main_v1 := by
  obtain ⟨-, -, h0, h1, -⟩ := idx_facts t
  funext j; refine congrArg (V m c main_v1) (funext fun a => Fin.ext ?_)
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem iblk2_eq (c : Dev nD) (t : Fin cfg0.N) : iblk m c 2 t = V m c main_v2 := by
  obtain ⟨-, -, -, -, h0, h1, -⟩ := idx_facts t
  funext j; refine congrArg (V m c main_v2) (funext fun a => Fin.ext ?_)
  match a with
  | ⟨0, _⟩ => show win0_2.index t (0 : Fin 2) * 1024 + 1 * (j 0).val = (j 0).val; omega
  | ⟨1, _⟩ => show win0_2.index t (1 : Fin 2) * 2816 + 1 * (j 1).val = (j 1).val; omega

theorem iblk3_eq (c : Dev nD) (t : Fin cfg0.N) : iblk m c 3 t = V m c main_v3 := by
  obtain ⟨-, -, -, -, -, -, h0, h1, -⟩ := idx_facts t
  funext j; refine congrArg (V m c main_v3) (funext fun a => Fin.ext ?_)
  match a with
  | ⟨0, _⟩ => show win0_3.index t (0 : Fin 2) * 1024 + 1 * (j 0).val = (j 0).val; omega
  | ⟨1, _⟩ => show win0_3.index t (1 : Fin 2) * 2816 + 1 * (j 1).val = (j 1).val; omega

theorem iblk4_eq (c : Dev nD) (t : Fin cfg0.N) : iblk m c 4 t = V m c main_v4 := by
  obtain ⟨-, -, -, -, -, -, -, -, h0, h1, -⟩ := idx_facts t
  funext j; refine congrArg (V m c main_v4) (funext fun a => Fin.ext ?_)
  match a with
  | ⟨0, _⟩ => show win0_4.index t (0 : Fin 2) * 2816 + 1 * (j 0).val = (j 0).val; omega
  | ⟨1, _⟩ => show win0_4.index t (1 : Fin 2) * 1024 + 1 * (j 1).val = (j 1).val; omega

theorem iblk5_eq (c : Dev nD) (t : Fin cfg0.N) : iblk m c 5 t = V m c main_v5 := by
  obtain ⟨-, -, -, -, -, -, -, -, -, -, h0, h1, -⟩ := idx_facts t
  funext j; refine congrArg (V m c main_v5) (funext fun a => Fin.ext ?_)
  match a with
  | ⟨0, _⟩ => show win0_5.index t (0 : Fin 2) * 1 + 1 * (j 0).val = (j 0).val; omega
  | ⟨1, _⟩ => show win0_5.index t (1 : Fin 2) * 1024 + 1 * (j 1).val = (j 1).val; omega

/-- What a point writes back is its block of the mixed rows, normalised. -/
theorem flushed_last (c : Dev nD) (t : Fin cfg0.N) : (dats m 0 c).flushed 6 t
    = ((cfg0.win 6).blk t).view.read (Elt Ideal)
        (lastArr (V m c main_v0) (V m c main_v1) (V m c main_v2) (V m c main_v3) (V m c main_v4) (V m c main_v5)) := by
  rw [flushed6_A, out_eq, iblk1_eq, iblk2_eq, iblk3_eq, iblk4_eq, iblk5_eq]
  suffices h : ∀ r d : Fin 1024, Cert.FfnIdeal.Gen.k0_pay5 (F := Ideal) (Cert.FfnIdeal.Gen.k0_pay3 (F := Ideal) (Cert.FfnIdeal.Gen.k0_pay4 (F := Ideal) (iblk m c 0 t))
      (acts (Cert.FfnIdeal.Gen.k0_pay5 (F := Ideal) (iblk m c 0 t) (V m c main_v1)) (V m c main_v2) (V m c main_v3)) (V m c main_v4)) (V m c main_v5) (ix2 r d)
      = lastArr (V m c main_v0) (V m c main_v1) (V m c main_v2) (V m c main_v3) (V m c main_v4) (V m c main_v5) (((cfg0.win 6).blk t).view.emb (ix2 r d)) by
    funext j
    have hj : j = ix2 (j 0 : Fin 1024) (j 1 : Fin 1024) := funext fun a => match a with | ⟨0, _⟩ => rfl | ⟨1, _⟩ => rfl
    rw [hj]; exact h (j 0) (j 1)
  intro r d
  refine ((norm_apply _ _ r d).trans ?_).trans (congrArg (lastArr _ _ _ _ _ _) (emb6 t r d)).symm
  refine congrArg (fun x => normRow x _ d) (funext fun k => (block_apply _ _ _ _ _ r k).trans ?_)
  refine congrArg (fun x => mixRow x _ _ _ _ k) (funext fun e => ?_)
  exact congrArg (V m c main_v0) (emb0 t r e)

theorem mem_blk6 (t : Fin cfg0.N) (i : S65536x1024.Idx) : i ∈ ((cfg0.win 6).blk t).view.set ↔ ∀ a : Fin 2,
    win0_6.index t a * S1024x1024.size a ≤ (i a).val ∧ (i a).val < win0_6.index t a * S1024x1024.size a + S1024x1024.size a := by
  show i ∈ ((View.whole main_v6).slice (win0_6.rect t)).set ↔ _
  rw [View.set_slice_whole, Rect.mem_set_unit]
  exact Iff.rfl

/-- Every row is in some point's block. -/
theorem covered (i : S65536x1024.Idx) : ∃ t : Fin cfg0.N, (cfg0.win 6).flush t = true ∧ i ∈ ((cfg0.win 6).blk t).view.set := by
  have h0 : (i 0).val < 65536 := (i 0).isLt
  have h1 : (i 1).val < 1024 := (i 1).isLt
  have hN : cfg0.N = 64 := N_0
  refine ⟨⟨(i 0).val / 1024, by omega⟩, flush0_6 _, ?_⟩
  rw [mem_blk6]
  obtain ⟨-, -, -, -, -, -, -, -, -, -, -, -, e0, e1⟩ := idx_facts ⟨(i 0).val / 1024, by omega⟩
  intro a
  match a with
  | ⟨0, _⟩ => show win0_6.index _ (0 : Fin 2) * 1024 ≤ (i 0).val ∧ (i 0).val < win0_6.index _ (0 : Fin 2) * 1024 + 1024
              rw [e0]; dsimp only; omega
  | ⟨1, _⟩ => show win0_6.index _ (1 : Fin 2) * 1024 ≤ (i 1).val ∧ (i 1).val < win0_6.index _ (1 : Fin 2) * 1024 + 1024
              rw [e1]; omega

theorem arr_eq (c : Dev nD) : (dats m 0 c).arrAt 6 cfg0.N
    = lastArr (V m c main_v0) (V m c main_v1) (V m c main_v2) (V m c main_v3) (V m c main_v4) (V m c main_v5) :=
  (dats m 0 c).arrAt_eq_of_cover 6 _ (fun t _ => flushed_last m c t) covered

/-! ## The arrays as the region finds them -/

theorem rows_in (c : Dev nD) : V m c main_v0
    = shapeCast S65536x1024 (m ((c : Thread nD τ).loc main_arg0)) shapeCasts_S16x4096x1024_S65536x1024 := by
  unfold V; simp only [hostOps0]; after_results_simp <;> rfl

theorem norm_in (c : Dev nD) : V m c main_v1 = shapeCast S1x1024 (m ((c : Thread nD τ).loc main_arg1)) shapeCasts_S1024_S1x1024 := by
  unfold V; simp only [hostOps0]; after_results_simp <;> rfl

theorem gate_in (c : Dev nD) : V m c main_v2 = m ((c : Thread nD τ).loc main_arg2) := by
  unfold V; simp only [hostOps0]; after_results_simp <;> rfl

theorem up_in (c : Dev nD) : V m c main_v3 = m ((c : Thread nD τ).loc main_arg3) := by
  unfold V; simp only [hostOps0]; after_results_simp <;> rfl

theorem down_in (c : Dev nD) : V m c main_v4 = m ((c : Thread nD τ).loc main_arg4) := by
  unfold V; simp only [hostOps0]; after_results_simp <;> rfl

theorem final_in (c : Dev nD) : V m c main_v5 = shapeCast S1x1024 (m ((c : Thread nD τ).loc main_arg5)) shapeCasts_S1024_S1x1024 := by
  unfold V; simp only [hostOps0]; after_results_simp <;> rfl

end Cert.Proof.Last
-- ==== Proof.LastTie.lean ====
/-
  The last channel mixer against its reference: both leave the mixer of every row, normalised.
-/
module

public import proofs.«01_k».proof.Defs
public import proofs.«01_k».proof.Proof.LastArray
public import proofs.«01_k».proof.Proof.MixTie
public import proofs.«01_k».proof.Proof.Gen.LastReferenceIdeal.Run

@[expose] public section

noncomputable section

namespace Cert.Proof.Last

open Idealize.ShloMosaic Idealize.ShloMosaic.TcCoe Idealize.SL.Sem
open Idealize.ShloMosaic.ValueIdx
open Cert.Proof.Mix (mixRow normRow mixed refNorm refMix refMix_eq refNorm_apply weights_row)

section Rows

open Cert.LastIdeal Cert.LastIdeal.Gen

/-- The mixer of every row, normalised. -/
def lasted (x : FVec Ideal S65536x1024 .f32) (g : FVec Ideal S1024 .f32) (wg wu : FVec Ideal S1024x2816 .f32)
    (wd : FVec Ideal S2816x1024 .f32) (fg : FVec Ideal S1024 .f32) : FVec Ideal S65536x1024 .f32 := fun j =>
  normRow (mixRow (fun e => x (ix2 (j 0) e)) (fun e => g (ix1 e)) (fun e f => wg (ix2 e f)) (fun e f => wu (ix2 e f)) (fun f k => wd (ix2 f k)))
    (fun e => fg (ix1 e)) (j 1)

variable (x : FVec Ideal S65536x1024 .f32) (g fg : FVec Ideal S1024 .f32) (wg wu : FVec Ideal S1024x2816 .f32) (wd : FVec Ideal S2816x1024 .f32)

theorem lastArr_eq : lastArr x (shapeCast S1x1024 g shapeCasts_S1024_S1x1024) wg wu wd (shapeCast S1x1024 fg shapeCasts_S1024_S1x1024)
    = lasted x g wg wu wd fg :=
  funext fun j => congrArg₂ (fun w z => normRow (mixRow (fun e => x (ix2 (j 0) e)) w (fun e f => wg (ix2 e f)) (fun e f => wu (ix2 e f))
    (fun f k => wd (ix2 f k))) z (j 1)) (funext fun e => weights_row g e) (funext fun e => weights_row fg e)

theorem refLast_eq : refNorm (refMix x g wg wu wd) fg = lasted x g wg wu wd fg := by
  suffices h : ∀ (r : Fin 65536) (d : Fin 1024), refNorm (refMix x g wg wu wd) fg (ix2 r d) = lasted x g wg wu wd fg (ix2 r d) by
    funext j
    have hj : j = ix2 (j 0 : Fin 65536) (j 1 : Fin 1024) := funext fun a => match a with | ⟨0, _⟩ => rfl | ⟨1, _⟩ => rfl
    rw [hj]; exact h (j 0) (j 1)
  intro r d
  rw [refNorm_apply, refMix_eq]
  rfl

end Rows

open Cert.LastIdeal Cert.LastIdeal.Gen in
/-- The kernel's run: the mixed rows, normalised, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = lasted (shapeCast S65536x1024 (m ((c.tc : Thread nD τ).loc main_arg0)) shapeCasts_S16x4096x1024_S65536x1024)
          (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((arr_eq m c).trans (by
    rw [rows_in, norm_in, gate_in, up_in, down_in, final_in]; exact lastArr_eq _ _ _ _ _ _)), (h c).2⟩) (Cert.LastIdeal.Value.run_blocks m ρ)

open Cert.LastReferenceIdeal Cert.LastReferenceIdeal.Gen in
/-- The reference's run: the same. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = lasted (shapeCast S65536x1024 (m ((c.tc : Thread nD τ).loc main_arg0)) shapeCasts_S16x4096x1024_S65536x1024)
          (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((show Cert.LastReferenceIdeal.Value.res_main_v34 m c = refNorm (refMix _ _ _ _ _) _ from by
    unfold Cert.LastReferenceIdeal.Value.res_main_v34; rfl).trans (refLast_eq _ _ _ _ _ _)), (h c).2⟩) (Cert.LastReferenceIdeal.Value.run m ρ)

theorem algebraic : algebraic_LastIdeal_LastReferenceIdeal := by
  intro m g m' g' _ hm
  refine ⟨fun c => lasted (shapeCast Cert.LastIdeal.S65536x1024 (m ((c.tc : Thread Cert.LastIdeal.nD Cert.LastIdeal.τ).loc Cert.LastIdeal.main_arg0))
      Cert.LastIdeal.Gen.shapeCasts_S16x4096x1024_S65536x1024)
    (m ((c.tc : Thread Cert.LastIdeal.nD Cert.LastIdeal.τ).loc Cert.LastIdeal.main_arg1)) (m ((c.tc : Thread Cert.LastIdeal.nD Cert.LastIdeal.τ).loc Cert.LastIdeal.main_arg2))
    (m ((c.tc : Thread Cert.LastIdeal.nD Cert.LastIdeal.τ).loc Cert.LastIdeal.main_arg3)) (m ((c.tc : Thread Cert.LastIdeal.nD Cert.LastIdeal.τ).loc Cert.LastIdeal.main_arg4))
    (m ((c.tc : Thread Cert.LastIdeal.nD Cert.LastIdeal.τ).loc Cert.LastIdeal.main_arg5)), kernel_run m g, ?_⟩
  refine (θ_run _ _ _).mono (fun _ h c => ⟨(h c).1.trans ?_, (h c).2⟩) (ref_run m' g')
  obtain ⟨h0, h1, h2, h3, h4, h5⟩ := hm c
  rw [h0, h1, h2, h3, h4, h5]

end Cert.Proof.Last
-- ==== Proof.AttRow.lean ====
/-
  One row of the output projection and the cross-attention: the four mixers' outputs projected and added, the row
  normalised, its four heads attending over the memory, and the result projected and added. Where the scores are
  finite it does not matter whether the weights or the attended row are divided by the weights' sum.
-/
module

public import proofs.«01_k».proof.Proof.MixKernel

@[expose] public section

noncomputable section

namespace Cert.Proof.Att

open Idealize.ShloMosaic Idealize.ShloMosaic.TcCoe
open Cert.Proof.Mix (normRow)

/-! ## The row -/

/-- A head's channel among all the channels. -/
def col (h : Fin 4) (c : Fin 256) : Fin 1024 := ⟨h.val * 256 + c.val, by omega⟩

/-- The head a channel is in. -/
def hd (e : Fin 1024) : Fin 4 := ⟨e.val / 256, by omega⟩

/-- A channel's place in its head. -/
def ch (e : Fin 1024) : Fin 256 := ⟨e.val % 256, by omega⟩

theorem col_hd_ch (e : Fin 1024) : col (hd e) (ch e) = e :=
  Fin.ext (by show e.val / 256 * 256 + e.val % 256 = e.val; omega)

theorem hd_col (h : Fin 4) (c : Fin 256) : hd (col h c) = h :=
  Fin.ext (by show (h.val * 256 + c.val) / 256 = h.val; omega)

theorem ch_col (h : Fin 4) (c : Fin 256) : ch (col h c) = c :=
  Fin.ext (by show (h.val * 256 + c.val) % 256 = c.val; omega)

/-- The residual row with the four groups' projections added. -/
def joinRow (x : Fin 1024 → EReal) (y : Fin 4 → Fin 256 → EReal) (w : Fin 1024 → Fin 1024 → EReal) (d : Fin 1024) : EReal :=
  x d + (∑ c, y 0 c * w (col 0 c) d) + (∑ c, y 1 c * w (col 1 c) d) + (∑ c, y 2 c * w (col 2 c) d) + ∑ c, y 3 c * w (col 3 c) d

/-- A head's query. -/
def query (u : Fin 1024 → EReal) (wq : Fin 1024 → Fin 1024 → EReal) (h : Fin 4) (c : Fin 256) : EReal :=
  ∑ e, u e * wq e (col h c)

/-- A head's scores over the memory. -/
def score (q : Fin 256 → EReal) (k : Fin 256 → Fin 256 → EReal) (m : Fin 256) : EReal :=
  (∑ c, q c * k m c) * Ideal.ofBits .f32 0x3D800000#32

/-- The largest score. -/
def top (s : Fin 256 → EReal) : EReal := (Finset.univ : Finset (Fin 256)).fold max ⊥ s

/-- A score's weight, before the division. -/
def wt (s : Fin 256 → EReal) (m : Fin 256) : EReal := Ideal.exp (s m - top s)

/-- The values weighted and divided by the weights' sum. -/
def attend (s v : Fin 256 → EReal) : EReal := Ideal.div (∑ m, wt s m * v m) (∑ m, wt s m)

/-- What a normalised row attends to, at a channel. -/
def attRow (u : Fin 1024 → EReal) (wq : Fin 1024 → Fin 1024 → EReal) (k v : Fin 256 → Fin 1024 → EReal) (e : Fin 1024) : EReal :=
  attend (score (query u wq (hd e)) fun m c => k m (col (hd e) c)) fun m => v m e

/-- The whole row. -/
def outRow (x g : Fin 1024 → EReal) (wq : Fin 1024 → Fin 1024 → EReal) (k v : Fin 256 → Fin 1024 → EReal)
    (wo : Fin 1024 → Fin 1024 → EReal) (d : Fin 1024) : EReal :=
  x d + ∑ e, attRow (normRow x g) wq k v e * wo e d

/-! ## A sum over all the channels, head by head -/

theorem sum_cols (f : Fin 1024 → EReal) : ∑ e, f e = (∑ c, f (col 0 c)) + (∑ c, f (col 1 c)) + (∑ c, f (col 2 c)) + ∑ c, f (col 3 c) := by
  have h : ∑ e, f e = ∑ p : Fin 4 × Fin 256, f (col p.1 p.2) := by
    refine (Fintype.sum_equiv ⟨fun p : Fin 4 × Fin 256 => col p.1 p.2, fun e => (hd e, ch e), fun p => ?_, fun e => col_hd_ch e⟩ _ _ fun p => rfl).symm
    exact Prod.ext (hd_col p.1 p.2) (ch_col p.1 p.2)
  rw [h, Fintype.sum_prod_type, Fin.sum_univ_four]

/-- The groups' projections are the joined row's. -/
theorem joinRow_eq (x : Fin 1024 → EReal) (y : Fin 4 → Fin 256 → EReal) (w : Fin 1024 → Fin 1024 → EReal) (d : Fin 1024) :
    x d + (∑ e, y (hd e) (ch e) * w e d) = joinRow x y w d := by
  rw [sum_cols]
  simp only [hd_col, ch_col]
  unfold joinRow
  simp only [add_assoc]

/-! ## Finite numbers -/

/-- A finite number. -/
def Fin' (a : EReal) : Prop := ∃ r : ℝ, a = r

theorem fin_mul {a b : EReal} (ha : Fin' a) (hb : Fin' b) : Fin' (a * b) := by
  obtain ⟨r, rfl⟩ := ha; obtain ⟨t, rfl⟩ := hb; exact ⟨r * t, (EReal.coe_mul r t).symm⟩

theorem coe_sum {n : ℕ} (g : Fin n → ℝ) : ((∑ k, g k : ℝ) : EReal) = ∑ k, (g k : EReal) :=
  map_sum (⟨⟨Real.toEReal, rfl⟩, EReal.coe_add⟩ : ℝ →+ EReal) g Finset.univ

theorem fin_sum {n : ℕ} {f : Fin n → EReal} (h : ∀ k, Fin' (f k)) : Fin' (∑ k, f k) := by
  choose g hg using h
  exact ⟨∑ k, g k, by rw [coe_sum]; exact Finset.sum_congr rfl fun k _ => hg k⟩

theorem fin_of_ne {a : EReal} (h : a ≠ ⊥) (h' : a ≠ ⊤) : Fin' a := ⟨a.toReal, (EReal.coe_toReal h' h).symm⟩

/-- The values over a finite sum: a positive finite number comes out of a sum. -/
theorem sum_mul_fin {n : ℕ} (f : Fin n → EReal) (c : ℝ) (hc : 0 ≤ c) : (∑ k, f k) * (c : EReal) = ∑ k, f k * (c : EReal) := by
  have h : ∀ t : Finset (Fin n), (∑ k ∈ t, f k) * (c : EReal) = ∑ k ∈ t, f k * (c : EReal) := fun t => by
    induction t using Finset.induction_on with
    | empty => simp
    | insert a t ha ih =>
      rw [Finset.sum_insert ha, Finset.sum_insert ha, ← ih]
      rw [mul_comm, EReal.left_distrib_of_nonneg_of_ne_top (by exact_mod_cast hc) (EReal.coe_ne_top c), mul_comm, mul_comm (c : EReal)]
  exact h _

theorem fin_top {s : Fin 256 → EReal} (h : ∀ m, Fin' (s m)) : Fin' (top s) := by
  refine fin_of_ne (ne_of_gt ?_) (ne_of_lt ?_)
  · obtain ⟨r, hr⟩ := h 0
    exact (Finset.lt_fold_max _).2 (Or.inr ⟨0, Finset.mem_univ _, by rw [hr]; exact EReal.bot_lt_coe r⟩)
  · refine (Finset.fold_max_lt _).2 ⟨bot_lt_top, fun m _ => ?_⟩
    obtain ⟨r, hr⟩ := h m
    rw [hr]; exact EReal.coe_lt_top r

/-- Where the scores are finite, dividing the weights is dividing the attended row. -/
theorem attend_eq {s : Fin 256 → EReal} (h : ∀ m, Fin' (s m)) (v : Fin 256 → EReal) :
    (∑ m, v m * Ideal.div (wt s m) (∑ m, wt s m)) = attend s v := by
  obtain ⟨t, ht⟩ := fin_top h
  choose r hr using h
  have hw : ∀ m, wt s m = (Real.exp (r m - t) : ℝ) := fun m => by
    unfold wt; rw [ht, hr m, ← EReal.coe_sub]; rfl
  have hl : ∑ m, wt s m = ((∑ m, Real.exp (r m - t) : ℝ) : EReal) := by
    rw [coe_sum]; exact Finset.sum_congr rfl fun m _ => hw m
  have hp : 0 < ∑ m, Real.exp (r m - t) := Finset.sum_pos (fun m _ => Real.exp_pos _) ⟨0, Finset.mem_univ _⟩
  have hd : ∀ a : EReal, Ideal.div a (∑ m, wt s m) = a * (((∑ m, Real.exp (r m - t))⁻¹ : ℝ) : EReal) := fun a => by
    unfold Ideal.div
    rw [hl, if_neg (by exact_mod_cast hp.ne'), ← EReal.coe_inv]
  unfold attend
  rw [hd, sum_mul_fin _ _ (inv_nonneg.2 hp.le)]
  refine Finset.sum_congr rfl fun m _ => ?_
  rw [hd, ← mul_assoc, mul_comm (v m)]

/-! ## A normalised row is finite -/

theorem sq_nonneg' (a : EReal) : 0 ≤ a * a := by
  rcases le_total 0 a with h | h
  · exact mul_nonneg h h
  · have := mul_nonneg (EReal.neg_nonneg.2 h) (EReal.neg_nonneg.2 h)
    rwa [neg_mul_neg] at this

theorem count_pos : ∃ n : ℝ, 0 < n ∧ Ideal.ofBits .f32 0x44800000#32 = n := by
  refine ⟨1024, by norm_num, ?_⟩
  simp [Ideal.ofBits, Ideal.ieee, -EReal.coe_mul]; norm_num

theorem eps_pos : ∃ n : ℝ, 0 < n ∧ Ideal.ofBits .f32 0x358637BD#32 = n := by
  refine ⟨_, ?_, by simp [Ideal.ofBits, Ideal.ieee]; rfl⟩
  norm_num

theorem scale_fin : Fin' (Ideal.ofBits .f32 0x3D800000#32) :=
  ⟨_, by simp [Ideal.ofBits, Ideal.ieee]; rfl⟩

theorem fin_norm (x g : Fin 1024 → EReal) (hg : ∀ k, Fin' (g k)) (k : Fin 1024) : Fin' (normRow x g k) := by
  unfold normRow
  refine fin_mul ?_ (hg k)
  have hn : 0 ≤ ∑ e, x e * x e := Finset.sum_nonneg fun e _ => sq_nonneg' _
  by_cases ht : ∑ e, x e * x e = ⊤
  · have hz : Ideal.rsqrt (Ideal.div (∑ e, x e * x e) (Ideal.ofBits .f32 0x44800000#32) + Ideal.ofBits .f32 0x358637BD#32) = 0 := by
      obtain ⟨n, hn0, hn1⟩ := count_pos
      obtain ⟨p, hp0, hp1⟩ := eps_pos
      unfold Ideal.div
      rw [ht, hn1, hp1, if_neg (by exact_mod_cast hn0.ne'), ← EReal.coe_inv, EReal.top_mul_coe_of_pos (inv_pos.2 hn0), EReal.top_add_coe]
      rfl
    rw [hz, mul_zero]; exact ⟨0, rfl⟩
  · have hx : Fin' (x k) := by
      have hk : x k * x k ≤ ∑ e, x e * x e := Finset.single_le_sum (f := fun e => x e * x e) (fun e _ => sq_nonneg' _) (Finset.mem_univ k)
      refine fin_of_ne (fun h => ht (top_le_iff.1 ?_)) (fun h => ht (top_le_iff.1 ?_))
      · rw [h, EReal.bot_mul_bot] at hk; exact hk
      · rw [h, EReal.top_mul_top] at hk; exact hk
    refine fin_mul hx ?_
    obtain ⟨n, hn0, hn1⟩ := count_pos
    obtain ⟨p, hp0, hp1⟩ := eps_pos
    obtain ⟨q, hq⟩ := fin_of_ne (ne_of_gt (lt_of_lt_of_le EReal.bot_lt_zero hn)) ht
    have hq0 : 0 ≤ q := by rw [hq] at hn; exact_mod_cast hn
    have hv : 0 < q * n⁻¹ + p := by positivity
    unfold Ideal.div
    rw [hq, hn1, hp1, if_neg (by exact_mod_cast hn0.ne'), ← EReal.coe_inv, ← EReal.coe_mul, ← EReal.coe_add]
    refine ⟨(Real.sqrt (q * n⁻¹ + p))⁻¹, ?_⟩
    show (if q * n⁻¹ + p < 0 then (⊥ : EReal) else if q * n⁻¹ + p = 0 then ⊤ else _) = _
    rw [if_neg (not_lt.2 hv.le), if_neg hv.ne']

/-- Every score of a normalised row is finite. -/
theorem fin_score (x g : Fin 1024 → EReal) (wq : Fin 1024 → Fin 1024 → EReal) (k : Fin 256 → Fin 1024 → EReal) (hg : ∀ e, Fin' (g e))
    (hq : ∀ e d, Fin' (wq e d)) (hk : ∀ m e, Fin' (k m e)) (h : Fin 4) (m : Fin 256) :
    Fin' (score (query (normRow x g) wq h) (fun m c => k m (col h c)) m) :=
  fin_mul (fin_sum fun c => fin_mul (fin_sum fun e => fin_mul (fin_norm x g hg e) (hq e _)) (hk m _)) scale_fin

end Cert.Proof.Att
-- ==== Proof.AttKernel.lean ====
/-
  The output projection and the cross-attention on a block of rows: what the kernel body's pieces are at an index.
-/
module

public import proofs.«01_k».proof.Proof.AttRow
public import proofs.«01_k».proof.Proof.Gen.XattnIdeal.Skeleton

@[expose] public section

noncomputable section

namespace Cert.Proof.Att

open Cert.XattnIdeal Cert.XattnIdeal.Gen
open Idealize.ShloMosaic Idealize.ShloMosaic.TcCoe
open Idealize.ShloMosaic.ValueIdx
open Cert.Proof.Mix (normRow)

/-! ## The joined rows -/

/-- The rows of a block with the four groups' projections added. -/
def joined (x : FVec Ideal S1x1024x1024 .f32) (ya yb yc yd : FVec Ideal S1x1024x256 .bf16) (w : FVec Ideal S1024x1024 .bf16) :
    FVec Ideal S1024x1024 .f32 := fun j =>
  joinRow (fun e => x (ix3 (0 : Fin 1) (j 0) e)) (fun g c => (![ya, yb, yc, yd] g : FVec Ideal S1x1024x256 .bf16) (ix3 (0 : Fin 1) (j 0) c))
    (fun e d => w (ix2 e d)) (j 1)

theorem group_apply (y : FVec Ideal S1x1024x256 .bf16) (w : FVec Ideal S256x1024 .bf16) (r d : Fin 1024) :
    matmul dot_S1024x256_S256x1024_S1024x1024_1_0_0_1_n_n none (shapeCast S1024x256 y shapeCasts_S1x1024x256_S1024x256) w
      (constant S1024x1024 .f32 0x00000000#32) (ix2 r d) = ∑ c : Fin 256, y (ix3 (0 : Fin 1) r c) * w (ix2 c d) := by
  refine (Ideal.matmul_plain_apply (M := 1024) (K := 256) (N := 1024) none _ w _ r d).trans ?_
  refine ((congrArg (· + _) Ideal.ofBits_zero_f32).trans (zero_add _)).trans ?_
  exact Finset.sum_congr rfl fun c _ => congrArg (· * w (ix2 c d)) (shapeCast_1ab_ab_apply y _ r c)

/-- A group's rows of the output projection. -/
def wRows (w : FVec Ideal S1024x1024 .bf16) (k : Nat) (inb : ∀ a, (![k, 0] : Fin 2 → Nat) a + S256x1024.size a ≤ S1024x1024.size a) :
    FVec Ideal S256x1024 .bf16 := fun y => w ((Rect.unit (s := S1024x1024) ![k, 0] S256x1024.size inb).idx y)

theorem wRows_apply (w : FVec Ideal S1024x1024 .bf16) (h : Fin 4) (inb : ∀ a, (![h.val * 256, 0] : Fin 2 → Nat) a + S256x1024.size a ≤ S1024x1024.size a)
    (c : Fin 256) (d : Fin 1024) : wRows w (h.val * 256) inb (ix2 c d) = w (ix2 (col h c) d) :=
  congrArg w (funext fun a => Fin.ext (by
    rw [Rect.idx_unit_val]; match a with
    | ⟨0, _⟩ => rfl
    | ⟨1, _⟩ => exact Nat.zero_add _))

theorem joined_eq (x : FVec Ideal S1x1024x1024 .f32) (ya yb yc yd : FVec Ideal S1x1024x256 .bf16) (w : FVec Ideal S1024x1024 .bf16) :
    k0_pay1 (F := Ideal) x ya (wRows w 0 inb_S1024x1024_S256x1024_0_0) yb (wRows w 256 inb_S1024x1024_S256x1024_256_0)
      yc (wRows w 512 inb_S1024x1024_S256x1024_512_0) yd (wRows w 768 inb_S1024x1024_S256x1024_768_0) = joined x ya yb yc yd w := by
  suffices h : ∀ r d : Fin 1024, k0_pay1 (F := Ideal) x ya (wRows w 0 inb_S1024x1024_S256x1024_0_0) yb (wRows w 256 inb_S1024x1024_S256x1024_256_0)
      yc (wRows w 512 inb_S1024x1024_S256x1024_512_0) yd (wRows w 768 inb_S1024x1024_S256x1024_768_0) (ix2 r d) = joined x ya yb yc yd w (ix2 r d) by
    funext j
    have hj : j = ix2 (j 0 : Fin 1024) (j 1 : Fin 1024) := funext fun a => match a with | ⟨0, _⟩ => rfl | ⟨1, _⟩ => rfl
    rw [hj]; exact h (j 0) (j 1)
  intro r d
  unfold k0_pay1
  simp only [shapeCast_self]
  have h0 := group_apply ya (wRows w 0 inb_S1024x1024_S256x1024_0_0) r d
  have h1 := group_apply yb (wRows w 256 inb_S1024x1024_S256x1024_256_0) r d
  have h2 := group_apply yc (wRows w 512 inb_S1024x1024_S256x1024_512_0) r d
  have h3 := group_apply yd (wRows w 768 inb_S1024x1024_S256x1024_768_0) r d
  have e0 : ∀ c, wRows w 0 inb_S1024x1024_S256x1024_0_0 (ix2 c d) = w (ix2 (col 0 c) d) := fun c => wRows_apply w 0 _ c d
  have e1 : ∀ c, wRows w 256 inb_S1024x1024_S256x1024_256_0 (ix2 c d) = w (ix2 (col 1 c) d) := fun c => wRows_apply w 1 _ c d
  have e2 : ∀ c, wRows w 512 inb_S1024x1024_S256x1024_512_0 (ix2 c d) = w (ix2 (col 2 c) d) := fun c => wRows_apply w 2 _ c d
  have e3 : ∀ c, wRows w 768 inb_S1024x1024_S256x1024_768_0 (ix2 c d) = w (ix2 (col 3 c) d) := fun c => wRows_apply w 3 _ c d
  simp only [e0] at h0; simp only [e1] at h1; simp only [e2] at h2; simp only [e3] at h3
  have hx : shapeCast S1024x1024 x shapeCasts_S1x1024x1024_S1024x1024 (ix2 r d) = x (ix3 (0 : Fin 1) r d) := shapeCast_1ab_ab_apply x _ r d
  exact congrArg₂ (fun a b : EReal => a + b) (congrArg₂ (fun a b : EReal => a + b) (congrArg₂ (fun a b : EReal => a + b)
    (congrArg₂ (fun a b : EReal => a + b) hx h0) h1) h2) h3

/-! ## The normalised rows -/

theorem norm_apply (x : FVec Ideal S1024x1024 .f32) (g : FVec Ideal S1x1024 .f32) (r k : Fin 1024) :
    k0_pay4 (F := Ideal) x (k0_pay2 (F := Ideal) g) (mulf x x) (ix2 r k) = normRow (fun e => x (ix2 r e)) (fun e => g (ix2 (0 : Fin 1) e)) k := by
  unfold k0_pay4 k0_pay2
  simp only [shapeCast_self]
  have hs : ∀ (y : FVec Ideal S1024x1024 .f32) (u : Fin 1), shapeCast S1024x1 (multiReduction .add [1] S1024 (mulf y y) 0x00000000#32
        reduces_S1024x1024_S1024 (.inl rfl) rfl) shapeCasts_S1024_S1024x1 (ix2 r u) = ∑ e : Fin 1024, y (ix2 r e) * y (ix2 r e) := fun y u => by
    rw [shapeCast_a_a1_apply]
    refine (Ideal.multiReduction_add_single _ _ _ _ _ _).trans ?_
    refine Finset.sum_congr rfl fun e _ => ?_
    have hl : reduces_S1024x1024_S1024.lift (ix1 r) e = ix2 r e := funext fun a => Fin.ext (match a with
      | ⟨0, _⟩ => rfl
      | ⟨1, _⟩ => rfl)
    rw [hl]; rfl
  have hb : ∀ (v : FVec Ideal S1024x1 .f32), broadcastTo S1024x1024 v broadcasts_S1024x1_S1024x1024 (ix2 r k) = v (ix2 r (0 : Fin 1)) :=
    fun v => broadcastTo_apply v _ (ix2 r k) (ix2 r (0 : Fin 1)) fun a => match a with
      | ⟨0, _⟩ => rfl
      | ⟨1, _⟩ => rfl
  have hg : broadcastTo S1024x1024 g broadcasts_S1x1024_S1024x1024 (ix2 r k) = g (ix2 (0 : Fin 1) k) :=
    broadcastTo_1b_ab_apply g _ r k
  refine (congrArg₂ (fun p q : EReal => x (ix2 r k) * p * q) (hb _) hg).trans ?_
  unfold normRow
  rw [← hs x 0]; rfl

/-! ## The queries -/

/-- A head's tile of the queries. -/
def qTile (u : FVec Ideal S1024x1024 .bf16) (a : FVec Ideal S1024x256 .bf16) : FVec Ideal S1024x256 .bf16 :=
  truncf .bf16 (matmul dot_S1024x1024_S1024x256_S1024x256_1_0_0_1_n_n none u a (constant S1024x256 .f32 0x00000000#32)) bitsLt_bf16_f32

/-- All the queries of a block. -/
def qAll (u w : FVec Ideal S1024x1024 .bf16) : FVec Ideal S1024x1024 .bf16 := fun j => ∑ e : Fin 1024, u (ix2 (j 0) e) * w (ix2 e (j 1))

/-- The columns of a head in a matrix's rows. -/
def cols (w : FVec Ideal S1024x1024 .bf16) (k : Nat) (inb : ∀ a, (![0, k] : Fin 2 → Nat) a + S1024x256.size a ≤ S1024x1024.size a) :
    FVec Ideal S1024x256 .bf16 := fun y => w ((Rect.unit (s := S1024x1024) ![0, k] S1024x256.size inb).idx y)

theorem idx_cols (h : Fin 4) (inb : ∀ a, (![0, h.val * 256] : Fin 2 → Nat) a + S1024x256.size a ≤ S1024x1024.size a)
    (r : Fin 1024) (c : Fin 256) : (Rect.unit (s := S1024x1024) ![0, h.val * 256] S1024x256.size inb).idx (ix2 r c) = ix2 r (col h c) :=
  funext fun a => Fin.ext (by
    rw [Rect.idx_unit_val]; match a with
    | ⟨0, _⟩ => exact Nat.zero_add _
    | ⟨1, _⟩ => rfl)

theorem qTile_eq (u w : FVec Ideal S1024x1024 .bf16) (h : Fin 4)
    (inb : ∀ a, (![0, h.val * 256] : Fin 2 → Nat) a + S1024x256.size a ≤ S1024x1024.size a) (x : S1024x256.Idx) :
    qTile u (cols w (h.val * 256) inb) x = qAll u w ((Rect.unit (s := S1024x1024) ![0, h.val * 256] S1024x256.size inb).emb x) := by
  suffices hh : ∀ (r : Fin 1024) (c : Fin 256), qTile u (cols w (h.val * 256) inb) (ix2 r c)
      = qAll u w ((Rect.unit (s := S1024x1024) ![0, h.val * 256] S1024x256.size inb).idx (ix2 r c)) by
    have hx : x = ix2 (x 0) (x 1) := funext fun a => match a with | ⟨0, _⟩ => rfl | ⟨1, _⟩ => rfl
    rw [hx]; exact hh (x 0) (x 1)
  intro r c
  rw [idx_cols h inb r c]
  refine (Ideal.matmul_plain_apply (M := 1024) (K := 1024) (N := 256) none u _ _ r c).trans ?_
  refine ((congrArg (· + _) Ideal.ofBits_zero_f32).trans (zero_add _)).trans ?_
  refine Finset.sum_congr rfl fun e _ => congrArg (u (ix2 r e) * ·) ?_
  exact congrArg w (idx_cols h inb e c)

/-! ## A head -/

/-- A head's scores. -/
def hScore (q : FVec Ideal S1024x256 .bf16) (k : FVec Ideal S1x256x256 .bf16) : FVec Ideal S1024x256 .f32 :=
  mulf (matmul dot_S1024x256_S256x256_S1024x256_1_1_0_0_n_n none q (shapeCast S256x256 k shapeCasts_S1x256x256_S256x256) (constant S1024x256 .f32 0x00000000#32))
    (broadcast S1024x256 (Scalar.ofBits .f32 0x3D800000#32))

theorem hScore_apply (q : FVec Ideal S1024x256 .bf16) (k : FVec Ideal S1x256x256 .bf16) (r : Fin 1024) (m : Fin 256) :
    hScore q k (ix2 r m) = score (fun c => q (ix2 r c)) (fun m c => k (ix3 (0 : Fin 1) m c)) m := by
  refine congrArg (fun z : EReal => z * Ideal.ofBits .f32 0x3D800000#32) ?_
  refine (Ideal.matmul_transposedRhs_apply (M := 1024) (K := 256) (N := 256) none q _ _ r m).trans ?_
  refine ((congrArg (· + _) Ideal.ofBits_zero_f32).trans (zero_add _)).trans ?_
  exact Finset.sum_congr rfl fun c _ => congrArg (q (ix2 r c) * ·) (shapeCast_1ab_ab_apply k _ m c)

/-- The weights of a block's scores, before the division. -/
def hWt (s : FVec Ideal S1024x256 .f32) : FVec Ideal S1024x256 .f32 :=
  exp (subf s (broadcastTo S1024x256 (shapeCast S1024x1 (multiReduction .maximumf [1] S1024 s 0xFF800000#32 reduces_S1024x256_S1024 (.inl rfl) rfl)
    shapeCasts_S1024_S1024x1) broadcasts_S1024x1_S1024x256))

theorem lift_row (r : Fin 1024) (m : Fin 256) : reduces_S1024x256_S1024.lift (ix1 r) m = ix2 r m :=
  funext fun a => Fin.ext (match a with
    | ⟨0, _⟩ => rfl
    | ⟨1, _⟩ => rfl)

theorem row_bcast (v : FVec Ideal S1024x1 .f32) (r : Fin 1024) (m : Fin 256) :
    broadcastTo S1024x256 v broadcasts_S1024x1_S1024x256 (ix2 r m) = v (ix2 r (0 : Fin 1)) :=
  broadcastTo_apply v _ (ix2 r m) (ix2 r (0 : Fin 1)) fun a => match a with
    | ⟨0, _⟩ => rfl
    | ⟨1, _⟩ => rfl

theorem bot_bits : (FloatOps.ofBits FTy.f32 0xFF800000#32 : Ideal .f32) = (⊥ : EReal) := by
  simp [Ideal.ofBits_def, Ideal.ofBits, Ideal.ieee]

theorem hWt_apply (s : FVec Ideal S1024x256 .f32) (r : Fin 1024) (m : Fin 256) : hWt s (ix2 r m) = wt (fun m => s (ix2 r m)) m := by
  refine congrArg (fun z : EReal => Ideal.exp (s (ix2 r m) - z)) ?_
  rw [row_bcast, shapeCast_a_a1_apply]
  refine (Ideal.multiReduction_maximumf_single s _ _ _ _ _).trans ?_
  rw [bot_bits]
  exact congrArg (fun f => (Finset.univ : Finset (Fin 256)).fold max ⊥ f) (funext fun m => congrArg s (lift_row r m))

/-- A head's tile of the attended rows. -/
def hTile (s : FVec Ideal S1024x256 .f32) (v : FVec Ideal S1x256x256 .bf16) : FVec Ideal S1024x256 .bf16 :=
  truncf .bf16 (divf
    (matmul dot_S1024x256_S256x256_S1024x256_1_0_0_1_n_n none (truncf .bf16 (hWt s) bitsLt_bf16_f32) (shapeCast S256x256 v shapeCasts_S1x256x256_S256x256)
      (constant S1024x256 .f32 0x00000000#32))
    (broadcastTo S1024x256 (shapeCast S1024x1 (multiReduction .add [1] S1024 (hWt s) 0x00000000#32 reduces_S1024x256_S1024 (.inl rfl) rfl)
      shapeCasts_S1024_S1024x1) broadcasts_S1024x1_S1024x256)) bitsLt_bf16_f32

theorem hTile_apply (s : FVec Ideal S1024x256 .f32) (v : FVec Ideal S1x256x256 .bf16) (r : Fin 1024) (c : Fin 256) :
    hTile s v (ix2 r c) = attend (fun m => s (ix2 r m)) (fun m => v (ix3 (0 : Fin 1) m c)) := by
  refine congrArg₂ (fun a b : EReal => Ideal.div a b) ?_ ?_
  · refine (Ideal.matmul_plain_apply (M := 1024) (K := 256) (N := 256) none _ _ _ r c).trans ?_
    refine ((congrArg (· + _) Ideal.ofBits_zero_f32).trans (zero_add _)).trans ?_
    exact Finset.sum_congr rfl fun m _ => congrArg₂ (fun a b : EReal => a * b) (hWt_apply s r m) (shapeCast_1ab_ab_apply v _ m c)
  · rw [row_bcast, shapeCast_a_a1_apply]
    refine (Ideal.multiReduction_add_single _ _ _ _ _ _).trans ?_
    exact Finset.sum_congr rfl fun m _ => (congrArg (hWt s) (lift_row r m)).trans (hWt_apply s r m)

/-! ## All the heads -/

/-- All the attended rows of a block. -/
def aAll (q : FVec Ideal S1024x1024 .bf16) (k v : FVec Ideal S1x256x1024 .bf16) : FVec Ideal S1024x1024 .bf16 := fun j =>
  attend (score (fun c => q (ix2 (j 0) (col (hd (j 1)) c))) fun m c => k (ix3 (0 : Fin 1) m (col (hd (j 1)) c))) fun m => v (ix3 (0 : Fin 1) m (j 1))

/-- The columns of a head in the memory. -/
def memCols (k : FVec Ideal S1x256x1024 .bf16) (o : Nat) (inb : ∀ a, (![0, 0, o] : Fin 3 → Nat) a + S1x256x256.size a ≤ S1x256x1024.size a) :
    FVec Ideal S1x256x256 .bf16 := fun y => k ((Rect.unit (s := S1x256x1024) ![0, 0, o] S1x256x256.size inb).idx y)

theorem memCols_apply (k : FVec Ideal S1x256x1024 .bf16) (h : Fin 4)
    (inb : ∀ a, (![0, 0, h.val * 256] : Fin 3 → Nat) a + S1x256x256.size a ≤ S1x256x1024.size a) (m c : Fin 256) :
    memCols k (h.val * 256) inb (ix3 (0 : Fin 1) m c) = k (ix3 (0 : Fin 1) m (col h c)) :=
  congrArg k (funext fun a => Fin.ext (by
    rw [Rect.idx_unit_val]; match a with
    | ⟨0, _⟩ => rfl
    | ⟨1, _⟩ => exact Nat.zero_add _
    | ⟨2, _⟩ => rfl))

theorem aTile_eq (q : FVec Ideal S1024x1024 .bf16) (k v : FVec Ideal S1x256x1024 .bf16) (h : Fin 4)
    (inb : ∀ a, (![0, h.val * 256] : Fin 2 → Nat) a + S1024x256.size a ≤ S1024x1024.size a)
    (inb' : ∀ a, (![0, 0, h.val * 256] : Fin 3 → Nat) a + S1x256x256.size a ≤ S1x256x1024.size a) (x : S1024x256.Idx) :
    hTile (hScore (cols q (h.val * 256) inb) (memCols k (h.val * 256) inb')) (memCols v (h.val * 256) inb') x
      = aAll q k v ((Rect.unit (s := S1024x1024) ![0, h.val * 256] S1024x256.size inb).emb x) := by
  suffices hh : ∀ (r : Fin 1024) (c : Fin 256), hTile (hScore (cols q (h.val * 256) inb) (memCols k (h.val * 256) inb')) (memCols v (h.val * 256) inb') (ix2 r c)
      = aAll q k v ((Rect.unit (s := S1024x1024) ![0, h.val * 256] S1024x256.size inb).idx (ix2 r c)) by
    have hx : x = ix2 (x 0) (x 1) := funext fun a => match a with | ⟨0, _⟩ => rfl | ⟨1, _⟩ => rfl
    rw [hx]; exact hh (x 0) (x 1)
  intro r c
  rw [idx_cols h inb r c, hTile_apply]
  show _ = attend (score (fun c' => q (ix2 r (col (hd (col h c)) c'))) fun m c' => k (ix3 (0 : Fin 1) m (col (hd (col h c)) c')))
    fun m => v (ix3 (0 : Fin 1) m (col h c))
  rw [hd_col]
  refine congrArg₂ attend (funext fun m => ?_) (funext fun m => memCols_apply v h inb' m c)
  rw [hScore_apply]
  exact congrArg₂ (fun a b => score a b m) (funext fun c' => congrArg q (idx_cols h inb r c')) (funext fun m => funext fun c' => memCols_apply k h inb' m c')

/-- The last projection. -/
theorem last_apply (x : FVec Ideal S1024x1024 .f32) (a w : FVec Ideal S1024x1024 .bf16) (r d : Fin 1024) :
    k0_pay16 (F := Ideal) x a w (ix3 (0 : Fin 1) r d) = x (ix2 r d) + ∑ e : Fin 1024, a (ix2 r e) * w (ix2 e d) := by
  unfold k0_pay16
  simp only [shapeCast_self]
  refine (shapeCast_ab_1ab_apply _ _ 0 r d).trans ?_
  refine congrArg (fun z : EReal => x (ix2 r d) + z) ?_
  refine (Ideal.matmul_plain_apply (M := 1024) (K := 1024) (N := 1024) none a w _ r d).trans ?_
  exact (congrArg (· + _) Ideal.ofBits_zero_f32).trans (zero_add _)

/-- The whole block. -/
theorem block_apply (x : FVec Ideal S1024x1024 .f32) (g : FVec Ideal S1x1024 .f32) (wq : FVec Ideal S1024x1024 .bf16)
    (k v : FVec Ideal S1x256x1024 .bf16) (wo : FVec Ideal S1024x1024 .bf16) (r d : Fin 1024) :
    k0_pay16 (F := Ideal) x (aAll (qAll (k0_pay4 (F := Ideal) x (k0_pay2 (F := Ideal) g) (mulf x x)) wq) k v) wo (ix3 (0 : Fin 1) r d)
      = outRow (fun e => x (ix2 r e)) (fun e => g (ix2 (0 : Fin 1) e)) (fun e d => wq (ix2 e d)) (fun m e => k (ix3 (0 : Fin 1) m e))
          (fun m e => v (ix3 (0 : Fin 1) m e)) (fun e d => wo (ix2 e d)) d := by
  rw [last_apply]
  have hu : (fun e => k0_pay4 (F := Ideal) x (k0_pay2 (F := Ideal) g) (mulf x x) (ix2 r e))
      = normRow (fun e => x (ix2 r e)) (fun e => g (ix2 (0 : Fin 1) e)) := funext fun e => norm_apply x g r e
  unfold outRow
  rw [← hu]
  rfl

end Cert.Proof.Att
-- ==== Proof.AttBlock.lean ====
/-
  What a grid point of the output projection and the cross-attention leaves in its block.
-/
module

public import proofs.«01_k».proof.Proof.AttKernel
public import proofs.«01_k».proof.Proof.Gen.XattnIdeal.Value

@[expose] public section

noncomputable section

namespace Cert.Proof.Att

open Cert.XattnIdeal Cert.XattnIdeal.Gen
open Idealize.ShloMosaic Idealize.ShloMosaic.TcCoe
open Idealize.ShloMosaic.ValueIdx
open Cert.Proof.Mix (load_whole)

/-- A load from a buffer that holds `X` reads `X` at the loaded places. -/
theorem load_at {sg : RefSig} {s : Shape} {e : EltTy} {m : Memref sg .tc .vmem s e} (h : m.IsWhole) (X : s.Idx → Elt Ideal e) (R : LoadRect s) :
    View.readAt (Elt Ideal) m.view R (h.unread X) = fun y => X (R.idx y) :=
  funext fun y => h.readAt_unread X R y

/-! ## The tiles -/

section Tiles

variable (x : FVec Ideal S1024x1024 .f32) (g : FVec Ideal S1x1024 .f32) (a : FVec Ideal S1024x256 .bf16)

theorem q_5 : k0_pay5 (F := Ideal) x (k0_pay2 (F := Ideal) g) (mulf x x) a
    = qTile (k0_pay4 (F := Ideal) x (k0_pay2 (F := Ideal) g) (mulf x x)) a := by unfold k0_pay5; simp only [shapeCast_self]; rfl
theorem q_6 : k0_pay6 (F := Ideal) x (k0_pay2 (F := Ideal) g) (mulf x x) a
    = qTile (k0_pay4 (F := Ideal) x (k0_pay2 (F := Ideal) g) (mulf x x)) a := by unfold k0_pay6; simp only [shapeCast_self]; rfl
theorem q_7 : k0_pay7 (F := Ideal) x (k0_pay2 (F := Ideal) g) (mulf x x) a
    = qTile (k0_pay4 (F := Ideal) x (k0_pay2 (F := Ideal) g) (mulf x x)) a := by unfold k0_pay7; simp only [shapeCast_self]; rfl
theorem q_9 : k0_pay9 (F := Ideal) (k0_pay8 (F := Ideal) x (k0_pay2 (F := Ideal) g) (mulf x x) a)
    = qTile (k0_pay4 (F := Ideal) x (k0_pay2 (F := Ideal) g) (mulf x x)) a := by unfold k0_pay9 k0_pay8; simp only [shapeCast_self]; rfl

variable (k v : FVec Ideal S1x256x256 .bf16)

theorem a_10 : k0_pay10 (F := Ideal) a k v = hTile (hScore a k) v := by unfold k0_pay10; simp only [shapeCast_self]; rfl
theorem a_12 : k0_pay12 (F := Ideal) (k0_pay11 (F := Ideal) a k) v = hTile (hScore a k) v := by
  unfold k0_pay12 k0_pay11; simp only [shapeCast_self]; rfl
theorem a_14 : k0_pay14 (F := Ideal) (k0_pay13 (F := Ideal) a k v) = hTile (hScore a k) v := by
  unfold k0_pay14 k0_pay13; simp only [shapeCast_self]; rfl
theorem a_15 : k0_pay15 (F := Ideal) a k v = hTile (hScore a k) v := by unfold k0_pay15; simp only [shapeCast_self]; rfl

end Tiles

/-! ## The run's pieces -/

variable (c : Dev nD) (i : grid0.Coords) (arg2 : Memref sig .tc .vmem S1x1024x1024 .f32) (harg2 : arg2.IsWhole) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S1024x1024 .bf16) (harg12 : arg12.IsWhole) (arg13 : Memref sig .tc .vmem S1x1024x1024 .f32) (harg13 : arg13.IsWhole) (arg14 : Memref sig .tc .vmem S1024x1024 .bf16) (harg14 : arg14.IsWhole) (arg15 : Memref sig .tc .vmem S1024x1024 .bf16) (harg15 : arg15.IsWhole)
  (x0 : Vec Ideal S1x1024x1024 .f32) (x1 : Vec Ideal S1x1024x256 .bf16) (x2 : Vec Ideal S1x1024x256 .bf16) (x3 : Vec Ideal S1x1024x256 .bf16) (x4 : Vec Ideal S1x1024x256 .bf16) (x5 : Vec Ideal S1024x1024 .bf16) (x6 : Vec Ideal S1x1024 .f32) (x7 : Vec Ideal S1024x1024 .bf16) (x8 : Vec Ideal S1x256x1024 .bf16) (x9 : Vec Ideal S1x256x1024 .bf16) (x10 : Vec Ideal S1024x1024 .bf16)

theorem rows_eq : kernelRun0_A.sl.r (F := Ideal) c arg2 harg2 arg3 harg3 arg4 harg4 arg5 harg5 arg6 harg6 arg7 harg7 x0 x1 x2 x3 x4 x5 = joined x0 x1 x2 x3 x4 x5 := by
  unfold kernelRun0_A.sl.r
  rw [load_whole harg2 x0 _ (by decide), load_whole harg3 x1 _ (by decide), load_whole harg4 x2 _ (by decide), load_whole harg5 x3 _ (by decide),
    load_whole harg6 x4 _ (by decide), load_at harg7 x5, load_at harg7 x5, load_at harg7 x5, load_at harg7 x5]
  exact joined_eq x0 x1 x2 x3 x4 x5

theorem squares_eq : kernelRun0_A.sl.r_2 (F := Ideal) c arg2 harg2 arg3 harg3 arg4 harg4 arg5 harg5 arg6 harg6 arg7 harg7 x0 x1 x2 x3 x4 x5
    = mulf (joined x0 x1 x2 x3 x4 x5) (joined x0 x1 x2 x3 x4 x5) := by
  rw [← rows_eq c arg2 harg2 arg3 harg3 arg4 harg4 arg5 harg5 arg6 harg6 arg7 harg7 x0 x1 x2 x3 x4 x5]; rfl

theorem weights_eq : kernelRun0_A.sl.r_1 (F := Ideal) c arg8 harg8 x6 = k0_pay2 (F := Ideal) x6 :=
  congrArg (k0_pay2 (F := Ideal)) (load_whole harg8 x6 _ (by decide))

/-- The normalised rows of the block. -/
def unit (x : FVec Ideal S1024x1024 .f32) (g : FVec Ideal S1x1024 .f32) : FVec Ideal S1024x1024 .bf16 :=
  k0_pay4 (F := Ideal) x (k0_pay2 (F := Ideal) g) (mulf x x)

/-- Every tile of the queries the body stores. -/
theorem q_ok : ∀ p ∈ kernelRun0_A.sl.HS0_4 (F := Ideal) c arg2 harg2 arg3 harg3 arg4 harg4 arg5 harg5 arg6 harg6 arg7 harg7 arg8 harg8 arg9 harg9 x0 x1 x2 x3 x4 x5 x6 x7,
    ∀ x : p.1.shape.Idx, p.2 x = qAll (unit (joined x0 x1 x2 x3 x4 x5) x6) x7 (p.1.emb x) := by
  have hr := rows_eq c arg2 harg2 arg3 harg3 arg4 harg4 arg5 harg5 arg6 harg6 arg7 harg7 x0 x1 x2 x3 x4 x5
  have hs := squares_eq c arg2 harg2 arg3 harg3 arg4 harg4 arg5 harg5 arg6 harg6 arg7 harg7 x0 x1 x2 x3 x4 x5
  have hw := weights_eq c arg8 harg8 x6
  unfold kernelRun0_A.sl.HS0_4
  refine List.forall_mem_cons.2 ⟨fun x => ?_, List.forall_mem_cons.2 ⟨fun x => ?_, List.forall_mem_cons.2 ⟨fun x => ?_,
    List.forall_mem_cons.2 ⟨fun x => ?_, fun p hp => absurd hp List.not_mem_nil⟩⟩⟩⟩
  · unfold kernelRun0_A.sl.r_3
    rw [hr, hs, hw, load_at harg9 x7]
    exact (congrFun (q_9 _ _ _) x).trans (qTile_eq _ x7 3 inb_S1024x1024_S1024x256_0_768 x)
  · dsimp only
    rw [hr, hs, hw, load_at harg9 x7]
    exact (congrFun (q_7 _ _ _) x).trans (qTile_eq _ x7 2 inb_S1024x1024_S1024x256_0_512 x)
  · dsimp only
    rw [hr, hs, hw, load_at harg9 x7]
    exact (congrFun (q_6 _ _ _) x).trans (qTile_eq _ x7 1 inb_S1024x1024_S1024x256_0_256 x)
  · dsimp only
    rw [hr, hs, hw, load_at harg9 x7]
    exact (congrFun (q_5 _ _ _) x).trans (qTile_eq _ x7 0 inb_S1024x1024_S1024x256_0_0 x)

theorem q_canon : View.canon (kernelRun0_A.sl.HS0_4 (F := Ideal) c arg2 harg2 arg3 harg3 arg4 harg4 arg5 harg5 arg6 harg6 arg7 harg7 arg8 harg8 arg9 harg9 x0 x1 x2 x3 x4 x5 x6 x7)
    = qAll (unit (joined x0 x1 x2 x3 x4 x5) x6) x7 := funext fun y =>
  View.canon_apply_of_pieces _ _ (q_ok c arg2 harg2 arg3 harg3 arg4 harg4 arg5 harg5 arg6 harg6 arg7 harg7 arg8 harg8 arg9 harg9 x0 x1 x2 x3 x4 x5 x6 x7) y
    (View.cover_of_tiledL (kernelRun0_A.sl.HS0_4 (F := Ideal) c arg2 harg2 arg3 harg3 arg4 harg4 arg5 harg5 arg6 harg6 arg7 harg7 arg8 harg8 arg9 harg9 x0 x1 x2 x3 x4 x5 x6 x7) S1024x256.size (by sl_kernel_rfl) y)

theorem q_v69 : kernelRun0_A.sl.v69 (F := Ideal) c arg2 harg2 arg3 harg3 arg4 harg4 arg5 harg5 arg6 harg6 arg7 harg7 arg8 harg8 arg9 harg9 arg14 x0 x1 x2 x3 x4 x5 x6 x7
    = cols (qAll (unit (joined x0 x1 x2 x3 x4 x5) x6) x7) 0 inb_S1024x1024_S1024x256_0_0 := by
  unfold kernelRun0_A.sl.v69
  rw [View.readCov_eq_canon', q_canon]; rfl

theorem q_v92 : kernelRun0_A.sl.v92 (F := Ideal) c arg2 harg2 arg3 harg3 arg4 harg4 arg5 harg5 arg6 harg6 arg7 harg7 arg8 harg8 arg9 harg9 arg14 x0 x1 x2 x3 x4 x5 x6 x7
    = cols (qAll (unit (joined x0 x1 x2 x3 x4 x5) x6) x7) 256 inb_S1024x1024_S1024x256_0_256 := by
  unfold kernelRun0_A.sl.v92
  rw [View.readCov_eq_canon', q_canon]; rfl

theorem q_v115 : kernelRun0_A.sl.v115 (F := Ideal) c arg2 harg2 arg3 harg3 arg4 harg4 arg5 harg5 arg6 harg6 arg7 harg7 arg8 harg8 arg9 harg9 arg14 x0 x1 x2 x3 x4 x5 x6 x7
    = cols (qAll (unit (joined x0 x1 x2 x3 x4 x5) x6) x7) 512 inb_S1024x1024_S1024x256_0_512 := by
  unfold kernelRun0_A.sl.v115
  rw [View.readCov_eq_canon', q_canon]; rfl

theorem q_v138 : kernelRun0_A.sl.v138 (F := Ideal) c arg2 harg2 arg3 harg3 arg4 harg4 arg5 harg5 arg6 harg6 arg7 harg7 arg8 harg8 arg9 harg9 arg14 x0 x1 x2 x3 x4 x5 x6 x7
    = cols (qAll (unit (joined x0 x1 x2 x3 x4 x5) x6) x7) 768 inb_S1024x1024_S1024x256_0_768 := by
  unfold kernelRun0_A.sl.v138
  rw [View.readCov_eq_canon', q_canon]; rfl

/-- Every tile of the attended rows the body stores. -/
theorem a_ok : ∀ p ∈ kernelRun0_A.sl.HS1_4 (F := Ideal) c arg2 harg2 arg3 harg3 arg4 harg4 arg5 harg5 arg6 harg6 arg7 harg7 arg8 harg8 arg9 harg9 arg10 harg10 arg11 harg11 arg14 x0 x1 x2 x3 x4 x5 x6 x7 x8 x9,
    ∀ x : p.1.shape.Idx, p.2 x = aAll (qAll (unit (joined x0 x1 x2 x3 x4 x5) x6) x7) x8 x9 (p.1.emb x) := by
  unfold kernelRun0_A.sl.HS1_4
  refine List.forall_mem_cons.2 ⟨fun x => ?_, List.forall_mem_cons.2 ⟨fun x => ?_, List.forall_mem_cons.2 ⟨fun x => ?_,
    List.forall_mem_cons.2 ⟨fun x => ?_, fun p hp => absurd hp List.not_mem_nil⟩⟩⟩⟩
  · dsimp only
    rw [q_v138 c arg2 harg2 arg3 harg3 arg4 harg4 arg5 harg5 arg6 harg6 arg7 harg7 arg8 harg8 arg9 harg9 arg14 x0 x1 x2 x3 x4 x5 x6 x7, load_at harg10 x8, load_at harg11 x9]
    exact (congrFun (a_15 _ _ _) x).trans (aTile_eq _ x8 x9 3 inb_S1024x1024_S1024x256_0_768 inb_S1x256x1024_S1x256x256_0_0_768 x)
  · unfold kernelRun0_A.sl.r_5
    dsimp only
    rw [q_v115 c arg2 harg2 arg3 harg3 arg4 harg4 arg5 harg5 arg6 harg6 arg7 harg7 arg8 harg8 arg9 harg9 arg14 x0 x1 x2 x3 x4 x5 x6 x7, load_at harg10 x8, load_at harg11 x9]
    exact (congrFun (a_14 _ _ _) x).trans (aTile_eq _ x8 x9 2 inb_S1024x1024_S1024x256_0_512 inb_S1x256x1024_S1x256x256_0_0_512 x)
  · unfold kernelRun0_A.sl.r_4
    dsimp only
    rw [q_v92 c arg2 harg2 arg3 harg3 arg4 harg4 arg5 harg5 arg6 harg6 arg7 harg7 arg8 harg8 arg9 harg9 arg14 x0 x1 x2 x3 x4 x5 x6 x7, load_at harg10 x8, load_at harg11 x9]
    exact (congrFun (a_12 _ _ _) x).trans (aTile_eq _ x8 x9 1 inb_S1024x1024_S1024x256_0_256 inb_S1x256x1024_S1x256x256_0_0_256 x)
  · dsimp only
    rw [q_v69 c arg2 harg2 arg3 harg3 arg4 harg4 arg5 harg5 arg6 harg6 arg7 harg7 arg8 harg8 arg9 harg9 arg14 x0 x1 x2 x3 x4 x5 x6 x7, load_at harg10 x8, load_at harg11 x9]
    exact (congrFun (a_10 _ _ _) x).trans (aTile_eq _ x8 x9 0 inb_S1024x1024_S1024x256_0_0 inb_S1x256x1024_S1x256x256_0_0_0 x)

/-- The attended rows as the body reads them back. -/
theorem read_att : kernelRun0_A.sl.v161 (F := Ideal) c arg2 harg2 arg3 harg3 arg4 harg4 arg5 harg5 arg6 harg6 arg7 harg7 arg8 harg8 arg9 harg9 arg10 harg10 arg11 harg11 arg14 arg15 x0 x1 x2 x3 x4 x5 x6 x7 x8 x9
    = aAll (qAll (unit (joined x0 x1 x2 x3 x4 x5) x6) x7) x8 x9 := by
  unfold kernelRun0_A.sl.v161
  rw [View.readCov_eq_canon']
  have hc : View.canon (kernelRun0_A.sl.HS1_4 (F := Ideal) c arg2 harg2 arg3 harg3 arg4 harg4 arg5 harg5 arg6 harg6 arg7 harg7 arg8 harg8 arg9 harg9 arg10 harg10 arg11 harg11 arg14 x0 x1 x2 x3 x4 x5 x6 x7 x8 x9)
      = aAll (qAll (unit (joined x0 x1 x2 x3 x4 x5) x6) x7) x8 x9 := funext fun y =>
    View.canon_apply_of_pieces _ _ (a_ok c arg2 harg2 arg3 harg3 arg4 harg4 arg5 harg5 arg6 harg6 arg7 harg7 arg8 harg8 arg9 harg9 arg10 harg10 arg11 harg11 arg14 x0 x1 x2 x3 x4 x5 x6 x7 x8 x9) y
      (View.cover_of_tiledL (kernelRun0_A.sl.HS1_4 (F := Ideal) c arg2 harg2 arg3 harg3 arg4 harg4 arg5 harg5 arg6 harg6 arg7 harg7 arg8 harg8 arg9 harg9 arg10 harg10 arg11 harg11 arg14 x0 x1 x2 x3 x4 x5 x6 x7 x8 x9) S1024x256.size (by sl_kernel_rfl) y)
  rw [hc]
  exact View.ld_unit_lit (S := S1024x1024) (Val := Elt Ideal) (e := .bf16) inb_S1024x1024_S1024x1024_0_0
    (aAll (qAll (unit (joined x0 x1 x2 x3 x4 x5) x6) x7) x8 x9) (by decide)

/-- What the body leaves in the output's block. -/
theorem out_eq : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10
    = k0_pay16 (F := Ideal) (joined x0 x1 x2 x3 x4 x5) (aAll (qAll (unit (joined x0 x1 x2 x3 x4 x5) x6) x7) x8 x9) x10 := by
  have hL : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10).1
      = [⟨Rect.unit ![0, 0, 0] S1x1024x1024.size inb_S1x1024x1024_S1x1024x1024_0_0_0, k0_pay16 (F := Ideal) (kernelRun0_A.sl.r (F := Ideal) c arg2 harg2 arg3 harg3 arg4 harg4 arg5 harg5 arg6 harg6 arg7 harg7 x0 x1 x2 x3 x4 x5)
          (kernelRun0_A.sl.v161 (F := Ideal) c arg2 harg2 arg3 harg3 arg4 harg4 arg5 harg5 arg6 harg6 arg7 harg7 arg8 harg8 arg9 harg9 arg10 harg10 arg11 harg11 arg14 arg15 x0 x1 x2 x3 x4 x5 x6 x7 x8 x9)
          (View.readAt (Elt Ideal) arg12.view (Rect.unit ![0, 0] S1024x1024.size inb_S1024x1024_S1024x1024_0_0).toLoadRect (harg12.unread x10))⟩] := rfl
  unfold out0_A_11
  rw [hL, read_att, rows_eq, load_whole harg12 x10 _ (by decide)]
  refine (funext fun y => View.read_writes_junk_apply_eq_canon VO0_11 y _).trans ?_
  exact View.canon_unit_zero (by decide) _ _

end Cert.Proof.Att
-- ==== Proof.AttArray.lean ====
/-
  The output projection and the cross-attention's array after the run: every row of the argument.
-/
module

public import proofs.«01_k».proof.Proof.AttBlock

@[expose] public section

noncomputable section

namespace Cert.Proof.Att

open Cert.XattnIdeal Cert.XattnIdeal.Gen Cert.XattnIdeal.Value
open Idealize.ShloMosaic Idealize.ShloMosaic.TcCoe Idealize.SL.Sem
open Idealize.ShloMosaic.Pipeline (Dat)
open Idealize.ShloMosaic.ValueIdx

/-- Every row projected, normalised and attended over its batch's memory. -/
def attArr (x : FVec Ideal S16x4096x1024 .f32) (ya yb yc yd : FVec Ideal S16x4096x256 .f32) (w : FVec Ideal S1024x1024 .f32)
    (g : FVec Ideal S1x1024 .f32) (wq : FVec Ideal S1024x1024 .f32) (k v : FVec Ideal S16x256x1024 .f32) (wo : FVec Ideal S1024x1024 .f32) :
    FVec Ideal S16x4096x1024 .f32 := fun j =>
  outRow (joinRow (fun e => x (ix3 (j 0) (j 1) e)) (fun g c => (![ya, yb, yc, yd] g : FVec Ideal S16x4096x256 .f32) (ix3 (j 0) (j 1) c)) (fun e d => w (ix2 e d)))
    (fun e => g (ix2 (0 : Fin 1) e)) (fun e d => wq (ix2 e d)) (fun m e => k (ix3 (j 0) m e)) (fun m e => v (ix3 (j 0) m e)) (fun e d => wo (ix2 e d)) (j 2)

variable (m : (ℓ : Loc nD τ sig) → Buf (Elt Ideal) ℓ) (ρ : Dev nD → PrngReg)

/-! ## Where a point's blocks are -/

theorem idx_0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx_1 : ∀ t : Fin cfg0.N, win0_1.index t (0 : Fin 3) = t.val / 4 ∧ win0_1.index t (1 : Fin 3) = t.val % 4 ∧ win0_1.index t (2 : Fin 3) = 0 :=
  (by decide +kernel : ∀ t : Fin grid0.N, _)
theorem idx_2 : ∀ t : Fin cfg0.N, win0_2.index t (0 : Fin 3) = t.val / 4 ∧ win0_2.index t (1 : Fin 3) = t.val % 4 ∧ win0_2.index t (2 : Fin 3) = 0 :=
  (by decide +kernel : ∀ t : Fin grid0.N, _)
theorem idx_3 : ∀ t : Fin cfg0.N, win0_3.index t (0 : Fin 3) = t.val / 4 ∧ win0_3.index t (1 : Fin 3) = t.val % 4 ∧ win0_3.index t (2 : Fin 3) = 0 :=
  (by decide +kernel : ∀ t : Fin grid0.N, _)
theorem idx_4 : ∀ t : Fin cfg0.N, win0_4.index t (0 : Fin 3) = t.val / 4 ∧ win0_4.index t (1 : Fin 3) = t.val % 4 ∧ win0_4.index t (2 : Fin 3) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 3) = t.val / 4 ∧ win0_8.index t (1 : Fin 3) = 0 ∧ win0_8.index t (2 : Fin 3) = 0 :=
  (by decide +kernel : ∀ t : Fin grid0.N, _)
theorem idx_9 : ∀ t : Fin cfg0.N, win0_9.index t (0 : Fin 3) = t.val / 4 ∧ win0_9.index t (1 : Fin 3) = 0 ∧ win0_9.index t (2 : Fin 3) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 3) = t.val / 4 ∧ win0_11.index t (1 : Fin 3) = t.val % 4 ∧ win0_11.index t (2 : Fin 3) = 0 :=
  (by decide +kernel : ∀ t : Fin grid0.N, _)

/-- The batch a point is in. -/
def batchOf (t : Fin cfg0.N) : Fin 16 := ⟨t.val / 4, by have := t.isLt; have h : cfg0.N = 64 := N_0; omega⟩

/-- The row of its batch that a block's row is. -/
def rowOf (t : Fin cfg0.N) (r : Fin 1024) : Fin 4096 := ⟨t.val % 4 * 1024 + r.val, by omega⟩

theorem emb0 (t : Fin cfg0.N) (r : Fin 1024) (e : Fin 1024) : ((cfg0.win 0).blk t).view.emb (ix3 (0 : Fin 1) r e) = ix3 (batchOf t) (rowOf t r) e := by
  obtain ⟨h0, h1, h2⟩ := idx_0 t
  funext a; apply Fin.ext
  match a with
  | ⟨0, _⟩ => show win0_0.index t (0 : Fin 3) * 1 + 1 * 0 = t.val / 4; omega
  | ⟨1, _⟩ => show win0_0.index t (1 : Fin 3) * 1024 + 1 * r.val = t.val % 4 * 1024 + r.val; omega
  | ⟨2, _⟩ => show win0_0.index t (2 : Fin 3) * 1024 + 1 * e.val = e.val; omega

theorem emb1 (t : Fin cfg0.N) (r : Fin 1024) (e : Fin 256) : ((cfg0.win 1).blk t).view.emb (ix3 (0 : Fin 1) r e) = ix3 (batchOf t) (rowOf t r) e := by
  obtain ⟨h0, h1, h2⟩ := idx_1 t
  funext a; apply Fin.ext
  match a with
  | ⟨0, _⟩ => show win0_1.index t (0 : Fin 3) * 1 + 1 * 0 = t.val / 4; omega
  | ⟨1, _⟩ => show win0_1.index t (1 : Fin 3) * 1024 + 1 * r.val = t.val % 4 * 1024 + r.val; omega
  | ⟨2, _⟩ => show win0_1.index t (2 : Fin 3) * 256 + 1 * e.val = e.val; omega

theorem emb2 (t : Fin cfg0.N) (r : Fin 1024) (e : Fin 256) : ((cfg0.win 2).blk t).view.emb (ix3 (0 : Fin 1) r e) = ix3 (batchOf t) (rowOf t r) e := by
  obtain ⟨h0, h1, h2⟩ := idx_2 t
  funext a; apply Fin.ext
  match a with
  | ⟨0, _⟩ => show win0_2.index t (0 : Fin 3) * 1 + 1 * 0 = t.val / 4; omega
  | ⟨1, _⟩ => show win0_2.index t (1 : Fin 3) * 1024 + 1 * r.val = t.val % 4 * 1024 + r.val; omega
  | ⟨2, _⟩ => show win0_2.index t (2 : Fin 3) * 256 + 1 * e.val = e.val; omega

theorem emb3 (t : Fin cfg0.N) (r : Fin 1024) (e : Fin 256) : ((cfg0.win 3).blk t).view.emb (ix3 (0 : Fin 1) r e) = ix3 (batchOf t) (rowOf t r) e := by
  obtain ⟨h0, h1, h2⟩ := idx_3 t
  funext a; apply Fin.ext
  match a with
  | ⟨0, _⟩ => show win0_3.index t (0 : Fin 3) * 1 + 1 * 0 = t.val / 4; omega
  | ⟨1, _⟩ => show win0_3.index t (1 : Fin 3) * 1024 + 1 * r.val = t.val % 4 * 1024 + r.val; omega
  | ⟨2, _⟩ => show win0_3.index t (2 : Fin 3) * 256 + 1 * e.val = e.val; omega

theorem emb4 (t : Fin cfg0.N) (r : Fin 1024) (e : Fin 256) : ((cfg0.win 4).blk t).view.emb (ix3 (0 : Fin 1) r e) = ix3 (batchOf t) (rowOf t r) e := by
  obtain ⟨h0, h1, h2⟩ := idx_4 t
  funext a; apply Fin.ext
  match a with
  | ⟨0, _⟩ => show win0_4.index t (0 : Fin 3) * 1 + 1 * 0 = t.val / 4; omega
  | ⟨1, _⟩ => show win0_4.index t (1 : Fin 3) * 1024 + 1 * r.val = t.val % 4 * 1024 + r.val; omega
  | ⟨2, _⟩ => show win0_4.index t (2 : Fin 3) * 256 + 1 * e.val = e.val; omega

theorem emb8 (t : Fin cfg0.N) (r : Fin 256) (e : Fin 1024) : ((cfg0.win 8).blk t).view.emb (ix3 (0 : Fin 1) r e) = ix3 (batchOf t) r e := by
  obtain ⟨h0, h1, h2⟩ := idx_8 t
  funext a; apply Fin.ext
  match a with
  | ⟨0, _⟩ => show win0_8.index t (0 : Fin 3) * 1 + 1 * 0 = t.val / 4; omega
  | ⟨1, _⟩ => show win0_8.index t (1 : Fin 3) * 256 + 1 * r.val = r.val; omega
  | ⟨2, _⟩ => show win0_8.index t (2 : Fin 3) * 1024 + 1 * e.val = e.val; omega

theorem emb9 (t : Fin cfg0.N) (r : Fin 256) (e : Fin 1024) : ((cfg0.win 9).blk t).view.emb (ix3 (0 : Fin 1) r e) = ix3 (batchOf t) r e := by
  obtain ⟨h0, h1, h2⟩ := idx_9 t
  funext a; apply Fin.ext
  match a with
  | ⟨0, _⟩ => show win0_9.index t (0 : Fin 3) * 1 + 1 * 0 = t.val / 4; omega
  | ⟨1, _⟩ => show win0_9.index t (1 : Fin 3) * 256 + 1 * r.val = r.val; omega
  | ⟨2, _⟩ => show win0_9.index t (2 : Fin 3) * 1024 + 1 * e.val = e.val; omega

theorem emb11 (t : Fin cfg0.N) (r : Fin 1024) (e : Fin 1024) : ((cfg0.win 11).blk t).view.emb (ix3 (0 : Fin 1) r e) = ix3 (batchOf t) (rowOf t r) e := by
  obtain ⟨h0, h1, h2⟩ := idx_11 t
  funext a; apply Fin.ext
  match a with
  | ⟨0, _⟩ => show win0_11.index t (0 : Fin 3) * 1 + 1 * 0 = t.val / 4; omega
  | ⟨1, _⟩ => show win0_11.index t (1 : Fin 3) * 1024 + 1 * r.val = t.val % 4 * 1024 + r.val; omega
  | ⟨2, _⟩ => show win0_11.index t (2 : Fin 3) * 1024 + 1 * e.val = e.val; omega

theorem iblk5_eq (c : Dev nD) (t : Fin cfg0.N) : iblk m c 5 t = V m c main_v4 := by
  obtain ⟨h0, h1⟩ := idx_5 t
  funext j; refine congrArg (V m c main_v4) (funext fun a => Fin.ext ?_)
  match a with
  | ⟨0, _⟩ => show win0_5.index t (0 : Fin 2) * 1024 + 1 * (j 0).val = (j 0).val; omega
  | ⟨1, _⟩ => show win0_5.index t (1 : Fin 2) * 1024 + 1 * (j 1).val = (j 1).val; omega

theorem iblk6_eq (c : Dev nD) (t : Fin cfg0.N) : iblk m c 6 t = V m c main_v5 := by
  obtain ⟨h0, h1⟩ := idx_6 t
  funext j; refine congrArg (V m c main_v5) (funext fun a => Fin.ext ?_)
  match a with
  | ⟨0, _⟩ => show win0_6.index t (0 : Fin 2) * 1 + 1 * (j 0).val = (j 0).val; omega
  | ⟨1, _⟩ => show win0_6.index t (1 : Fin 2) * 1024 + 1 * (j 1).val = (j 1).val; omega

theorem iblk7_eq (c : Dev nD) (t : Fin cfg0.N) : iblk m c 7 t = V m c main_v6 := by
  obtain ⟨h0, h1⟩ := idx_7 t
  funext j; refine congrArg (V m c main_v6) (funext fun a => Fin.ext ?_)
  match a with
  | ⟨0, _⟩ => show win0_7.index t (0 : Fin 2) * 1024 + 1 * (j 0).val = (j 0).val; omega
  | ⟨1, _⟩ => show win0_7.index t (1 : Fin 2) * 1024 + 1 * (j 1).val = (j 1).val; omega

theorem iblk10_eq (c : Dev nD) (t : Fin cfg0.N) : iblk m c 10 t = V m c main_v9 := by
  obtain ⟨h0, h1⟩ := idx_10 t
  funext j; refine congrArg (V m c main_v9) (funext fun a => Fin.ext ?_)
  match a with
  | ⟨0, _⟩ => show win0_10.index t (0 : Fin 2) * 1024 + 1 * (j 0).val = (j 0).val; omega
  | ⟨1, _⟩ => show win0_10.index t (1 : Fin 2) * 1024 + 1 * (j 1).val = (j 1).val; omega

/-- What a point writes back is its block of the rows. -/
theorem flushed_att (c : Dev nD) (t : Fin cfg0.N) : (dats m 0 c).flushed 11 t
    = ((cfg0.win 11).blk t).view.read (Elt Ideal) (attArr (V m c main_arg0) (V m c main_v0) (V m c main_v1) (V m c main_v2) (V m c main_v3) (V m c main_v4) (V m c main_v5) (V m c main_v6) (V m c main_v7) (V m c main_v8) (V m c main_v9)) := by
  rw [flushed11_A, out_eq, iblk5_eq, iblk6_eq, iblk7_eq, iblk10_eq]
  suffices h : ∀ r d : Fin 1024, k0_pay16 (F := Ideal) (joined (iblk m c 0 t) (iblk m c 1 t) (iblk m c 2 t) (iblk m c 3 t) (iblk m c 4 t) (V m c main_v4))
      (aAll (qAll (unit (joined (iblk m c 0 t) (iblk m c 1 t) (iblk m c 2 t) (iblk m c 3 t) (iblk m c 4 t) (V m c main_v4)) (V m c main_v5)) (V m c main_v6)) (iblk m c 8 t) (iblk m c 9 t)) (V m c main_v9) (ix3 (0 : Fin 1) r d)
      = attArr (V m c main_arg0) (V m c main_v0) (V m c main_v1) (V m c main_v2) (V m c main_v3) (V m c main_v4) (V m c main_v5) (V m c main_v6) (V m c main_v7) (V m c main_v8) (V m c main_v9) (((cfg0.win 11).blk t).view.emb (ix3 (0 : Fin 1) r d)) by
    funext j
    have hj : j = ix3 (0 : Fin 1) (j 1 : Fin 1024) (j 2 : Fin 1024) := funext fun a => match a with
      | ⟨0, _⟩ => Fin.ext (by have : (j 0).val < 1 := (j 0).isLt; show (j 0).val = 0; omega)
      | ⟨1, _⟩ => rfl
      | ⟨2, _⟩ => rfl
    rw [hj]; exact h (j 1) (j 2)
  intro r d
  have hx : (fun e => (joined (iblk m c 0 t) (iblk m c 1 t) (iblk m c 2 t) (iblk m c 3 t) (iblk m c 4 t) (V m c main_v4)) (ix2 r e)) = joinRow (fun e => (V m c main_arg0) (ix3 (batchOf t) (rowOf t r) e))
      (fun g k => (![V m c main_v0, V m c main_v1, V m c main_v2, V m c main_v3] g : FVec Ideal S16x4096x256 .f32) (ix3 (batchOf t) (rowOf t r) k))
      (fun e d => (V m c main_v4) (ix2 e d)) := by
    have ha : (fun e => (iblk m c 0 t) (ix3 (0 : Fin 1) r e)) = fun e => (V m c main_arg0) (ix3 (batchOf t) (rowOf t r) e) :=
      funext fun e => congrArg (V m c main_arg0) (emb0 t r e)
    have hb : (fun g k => (![iblk m c 1 t, iblk m c 2 t, iblk m c 3 t, iblk m c 4 t] g : FVec Ideal S1x1024x256 .bf16) (ix3 (0 : Fin 1) r k))
        = fun g k => (![V m c main_v0, V m c main_v1, V m c main_v2, V m c main_v3] g : FVec Ideal S16x4096x256 .f32) (ix3 (batchOf t) (rowOf t r) k) :=
      funext fun g => funext fun k => match g with
        | ⟨0, _⟩ => congrArg (V m c main_v0) (emb1 t r k)
        | ⟨1, _⟩ => congrArg (V m c main_v1) (emb2 t r k)
        | ⟨2, _⟩ => congrArg (V m c main_v2) (emb3 t r k)
        | ⟨3, _⟩ => congrArg (V m c main_v3) (emb4 t r k)
    exact funext fun e => congrArg₂ (fun p q => joinRow p q (fun e d => (V m c main_v4) (ix2 e d)) e) ha hb
  have hk : (fun n e => (iblk m c 8 t) (ix3 (0 : Fin 1) n e)) = fun n e => (V m c main_v7) (ix3 (batchOf t) n e) :=
    funext fun n => funext fun e => congrArg (V m c main_v7) (emb8 t n e)
  have hv : (fun n e => (iblk m c 9 t) (ix3 (0 : Fin 1) n e)) = fun n e => (V m c main_v8) (ix3 (batchOf t) n e) :=
    funext fun n => funext fun e => congrArg (V m c main_v8) (emb9 t n e)
  refine ((block_apply _ _ _ _ _ _ r d).trans ?_).trans (congrArg (attArr _ _ _ _ _ _ _ _ _ _ _) (emb11 t r d)).symm
  refine (congrArg (fun x => outRow x _ _ _ _ _ d) hx).trans ?_
  exact congrArg₂ (fun a b => outRow _ _ _ a b _ d) hk hv

theorem mem_blk11 (t : Fin cfg0.N) (i : S16x4096x1024.Idx) : i ∈ ((cfg0.win 11).blk t).view.set ↔ ∀ a : Fin 3,
    win0_11.index t a * S1x1024x1024.size a ≤ (i a).val ∧ (i a).val < win0_11.index t a * S1x1024x1024.size a + S1x1024x1024.size a := by
  show i ∈ ((View.whole main_v10).slice (win0_11.rect t)).set ↔ _
  rw [View.set_slice_whole, Rect.mem_set_unit]
  exact Iff.rfl

/-- Every row is in some point's block. -/
theorem covered (i : S16x4096x1024.Idx) : ∃ t : Fin cfg0.N, (cfg0.win 11).flush t = true ∧ i ∈ ((cfg0.win 11).blk t).view.set := by
  have h0 : (i 0).val < 16 := (i 0).isLt
  have h1 : (i 1).val < 4096 := (i 1).isLt
  have h2 : (i 2).val < 1024 := (i 2).isLt
  have hN : cfg0.N = 64 := N_0
  refine ⟨⟨(i 0).val * 4 + (i 1).val / 1024, by omega⟩, flush0_11 _, ?_⟩
  rw [mem_blk11]
  obtain ⟨e0, e1, e2⟩ := idx_11 ⟨(i 0).val * 4 + (i 1).val / 1024, by omega⟩
  intro a
  match a with
  | ⟨0, _⟩ => show win0_11.index _ (0 : Fin 3) * 1 ≤ (i 0).val ∧ (i 0).val < win0_11.index _ (0 : Fin 3) * 1 + 1
              rw [e0]; dsimp only; omega
  | ⟨1, _⟩ => show win0_11.index _ (1 : Fin 3) * 1024 ≤ (i 1).val ∧ (i 1).val < win0_11.index _ (1 : Fin 3) * 1024 + 1024
              rw [e1]; dsimp only; omega
  | ⟨2, _⟩ => show win0_11.index _ (2 : Fin 3) * 1024 ≤ (i 2).val ∧ (i 2).val < win0_11.index _ (2 : Fin 3) * 1024 + 1024
              rw [e2]; omega

theorem arr_eq (c : Dev nD) : (dats m 0 c).arrAt 11 cfg0.N
    = attArr (V m c main_arg0) (V m c main_v0) (V m c main_v1) (V m c main_v2) (V m c main_v3) (V m c main_v4) (V m c main_v5) (V m c main_v6) (V m c main_v7) (V m c main_v8) (V m c main_v9) :=
  (dats m 0 c).arrAt_eq_of_cover 11 _ (fun t _ => flushed_att m c t) covered

/-! ## The arrays as the region finds them -/

theorem norm_in (c : Dev nD) : V m c main_v5 = shapeCast S1x1024 (m ((c : Thread nD τ).loc main_arg6)) shapeCasts_S1024_S1x1024 := by
  unfold V; simp only [hostOps0]; after_results_simp <;> rfl

theorem in_arg0 (c : Dev nD) : V m c main_arg0 = m ((c : Thread nD τ).loc main_arg0) := by
  unfold V; simp only [hostOps0]; after_results_simp <;> rfl
theorem in_v0 (c : Dev nD) : V m c main_v0 = m ((c : Thread nD τ).loc main_arg1) := by
  unfold V; simp only [hostOps0]; after_results_simp <;> rfl
theorem in_v1 (c : Dev nD) : V m c main_v1 = m ((c : Thread nD τ).loc main_arg2) := by
  unfold V; simp only [hostOps0]; after_results_simp <;> rfl
theorem in_v2 (c : Dev nD) : V m c main_v2 = m ((c : Thread nD τ).loc main_arg3) := by
  unfold V; simp only [hostOps0]; after_results_simp <;> rfl
theorem in_v3 (c : Dev nD) : V m c main_v3 = m ((c : Thread nD τ).loc main_arg4) := by
  unfold V; simp only [hostOps0]; after_results_simp <;> rfl
theorem in_v4 (c : Dev nD) : V m c main_v4 = m ((c : Thread nD τ).loc main_arg5) := by
  unfold V; simp only [hostOps0]; after_results_simp <;> rfl
theorem in_v6 (c : Dev nD) : V m c main_v6 = m ((c : Thread nD τ).loc main_arg7) := by
  unfold V; simp only [hostOps0]; after_results_simp <;> rfl
theorem in_v7 (c : Dev nD) : V m c main_v7 = m ((c : Thread nD τ).loc main_arg8) := by
  unfold V; simp only [hostOps0]; after_results_simp <;> rfl
theorem in_v8 (c : Dev nD) : V m c main_v8 = m ((c : Thread nD τ).loc main_arg9) := by
  unfold V; simp only [hostOps0]; after_results_simp <;> rfl
theorem in_v9 (c : Dev nD) : V m c main_v9 = m ((c : Thread nD τ).loc main_arg10) := by
  unfold V; simp only [hostOps0]; after_results_simp <;> rfl

end Cert.Proof.Att
-- ==== Proof.AttDots.lean ====
/-
  The products of the cross-attention's reference at an index.
-/
module

public import proofs.«01_k».proof.Proof.AttRow
public import proofs.«01_k».proof.Proof.Gen.XattnReferenceIdeal.Run
public import Idealize.ShloMosaic.Lib.Pointwise
public import Idealize.ShloMosaic.Lib.IdealHost

@[expose] public section

noncomputable section

namespace Cert.Proof.Att

open Cert.XattnReferenceIdeal Cert.XattnReferenceIdeal.Gen
open Idealize.ShloMosaic Idealize.ShloMosaic.TcCoe
open Idealize.ShloMosaic.ValueIdx hiding ix1 ix2 ix3 ix4

theorem dot_apply (x : FVec Ideal S16x4096x1024 .f32) (w : FVec Ideal S1024x1024 .f32) (b : Fin 16) (r : Fin 4096) (d : Fin 1024) :
    Host.dotGeneral dot_S16x4096x1024_S1024x1024_S16x4096x1024_2_0_01_1_n_n none x w (ValueIdx.ix3 b r d)
      = ∑ e : Fin 1024, x (ValueIdx.ix3 b r e) * w (ValueIdx.ix2 e d) := by
  have h : Host.dotGeneral dot_S16x4096x1024_S1024x1024_S16x4096x1024_2_0_01_1_n_n none x w (ix3 b r d)
      = ∑ e : Fin 1024, x (ix3 b r e) * w (ix2 e d) := by pointwise
  exact h

theorem score_dot (q : FVec Ideal S16x4096x4x256 .f32) (k : FVec Ideal S16x256x4x256 .f32) (b : Fin 16) (h : Fin 4) (r : Fin 4096) (m : Fin 256) :
    Host.dotGeneral dot_S16x4096x4x256_S16x256x4x256_S16x4x4096x256_3_3_1_1_02_02 none q k (ValueIdx.ix4 b h r m)
      = ∑ e : Fin 256, q (ValueIdx.ix4 b r h e) * k (ValueIdx.ix4 b m h e) := by
  have h : Host.dotGeneral dot_S16x4096x4x256_S16x256x4x256_S16x4x4096x256_3_3_1_1_02_02 none q k (ix4 b h r m)
      = ∑ e : Fin 256, q (ix4 b r h e) * k (ix4 b m h e) := by pointwise
  exact h

theorem value_dot (v : FVec Ideal S16x256x4x256 .f32) (p : FVec Ideal S16x4x4096x256 .f32) (b : Fin 16) (h : Fin 4) (d : Fin 256) (r : Fin 4096) :
    Host.dotGeneral dot_S16x256x4x256_S16x4x4096x256_S16x4x256x4096_1_3_3_2_02_01 none v p (ValueIdx.ix4 b h d r)
      = ∑ m : Fin 256, v (ValueIdx.ix4 b m h d) * p (ValueIdx.ix4 b h r m) := by
  have h : Host.dotGeneral dot_S16x256x4x256_S16x4x4096x256_S16x4x256x4096_1_3_3_2_02_01 none v p (ix4 b h d r)
      = ∑ m : Fin 256, v (ix4 b m h d) * p (ix4 b h r m) := by pointwise
  exact h

end Cert.Proof.Att
-- ==== Proof.AttRef.lean ====
/-
  The output projection and the cross-attention over the whole array, as the reference writes them, are every row's.
-/
module

public import proofs.«01_k».proof.Proof.AttDots
public import Idealize.ShloMosaic.Lib.StackMember
public import Idealize.ShloMosaic.PureOps.Ideal.Laws

@[expose] public section

noncomputable section

namespace Cert.Proof.Att

open Cert.XattnReferenceIdeal Cert.XattnReferenceIdeal.Gen
open Idealize.ShloMosaic hiding ix1 ix2 ix3 ix4
open Idealize.ShloMosaic.TcCoe Idealize.ShloMosaic.ValueIdx
open Cert.Proof.Mix (normRow)

/-! ## The stages -/

/-- The four groups side by side, projected and added. -/
def refJoin (x : FVec Ideal S16x4096x1024 .f32) (ya yb yc yd : FVec Ideal S16x4096x256 .f32) (w : FVec Ideal S1024x1024 .f32) : FVec Ideal S16x4096x1024 .f32 :=
  addf x (Host.dotGeneral dot_S16x4096x1024_S1024x1024_S16x4096x1024_2_0_01_1_n_n none
    (concatenate S16x4096x1024 2 [⟨S16x4096x256, ya⟩, ⟨S16x4096x256, yb⟩, ⟨S16x4096x256, yc⟩, ⟨S16x4096x256, yd⟩]
      concatenates_S16x4096x256_S16x4096x256_S16x4096x256_S16x4096x256_S16x4096x1024_d2) w)

/-- Every row normalised. -/
def refUnit (x : FVec Ideal S16x4096x1024 .f32) (g : FVec Ideal S1024 .f32) : FVec Ideal S16x4096x1024 .f32 :=
  mulf (mulf x (broadcastInDim S16x4096x1024 ![0, 1, 2] bcast_S16x4096x1_S16x4096x1024_0_1_2 (Host.rsqrt (addf (Host.divf
    (broadcastInDim S16x4096x1 ![0, 1] bcast_S16x4096_S16x4096x1_0_1 (Host.reduceAdd (mulf x x) (constant S_ .f32 0x00000000#32) reducesTo_S16x4096x1024_S16x4096_d2 h_S_))
    (broadcastInDim S16x4096x1 ![] bcast_S_S16x4096x1 (constant S_ .f32 0x44800000#32)))
    (broadcastInDim S16x4096x1 ![] bcast_S_S16x4096x1 (constant S_ .f32 0x358637BD#32))))))
    (broadcastInDim S16x4096x1024 ![0, 1, 2] bcast_S1x1x1024_S16x4096x1024_0_1_2 (broadcastInDim S1x1x1024 ![2] bcast_S1024_S1x1x1024_2 g))

/-- Every head's scores. -/
def refScore (u : FVec Ideal S16x4096x1024 .f32) (wq : FVec Ideal S1024x1024 .f32) (k : FVec Ideal S16x256x1024 .f32) : FVec Ideal S16x4x4096x256 .f32 :=
  mulf (Host.dotGeneral dot_S16x4096x4x256_S16x256x4x256_S16x4x4096x256_3_3_1_1_02_02 none
      (shapeCast S16x4096x4x256 (Host.dotGeneral dot_S16x4096x1024_S1024x1024_S16x4096x1024_2_0_01_1_n_n none u wq) shapeCasts_S16x4096x1024_S16x4096x4x256)
      (shapeCast S16x256x4x256 k shapeCasts_S16x256x1024_S16x256x4x256))
    (broadcastInDim S16x4x4096x256 ![] bcast_S_S16x4x4096x256 (constant S_ .f32 0x3D800000#32))

/-- The weights, before the division. -/
def refWt (s : FVec Ideal S16x4x4096x256 .f32) : FVec Ideal S16x4x4096x256 .f32 :=
  Host.exp (subf s (broadcastInDim S16x4x4096x256 ![0, 1, 2, 3] bcast_S16x4x4096x1_S16x4x4096x256_0_1_2_3
    (broadcastInDim S16x4x4096x1 ![0, 1, 2] bcast_S16x4x4096_S16x4x4096x1_0_1_2
      (maximumf (broadcastInDim S16x4x4096 ![] bcast_S_S16x4x4096 (constant S_ .f32 0xFF800000#32))
        (Host.reduce FloatOps.maximumf s (constant S_ .f32 0xFF800000#32) reducesTo_S16x4x4096x256_S16x4x4096_d3 h_S_)))))

/-- The weights. -/
def refProb (e : FVec Ideal S16x4x4096x256 .f32) : FVec Ideal S16x4x4096x256 .f32 :=
  Host.divf e (broadcastInDim S16x4x4096x256 ![0, 1, 2, 3] bcast_S16x4x4096x1_S16x4x4096x256_0_1_2_3
    (broadcastInDim S16x4x4096x1 ![0, 1, 2] bcast_S16x4x4096_S16x4x4096x1_0_1_2
      (Host.reduceAdd e (constant S_ .f32 0x00000000#32) reducesTo_S16x4x4096x256_S16x4x4096_d3 h_S_)))

/-- The attended rows. -/
def refAtt (p : FVec Ideal S16x4x4096x256 .f32) (v : FVec Ideal S16x256x1024 .f32) : FVec Ideal S16x4096x1024 .f32 :=
  shapeCast S16x4096x1024 (transpose S16x4096x4x256 [0, 3, 1, 2]
    (Host.dotGeneral dot_S16x256x4x256_S16x4x4096x256_S16x4x256x4096_1_3_3_2_02_01 none (shapeCast S16x256x4x256 v shapeCasts_S16x256x1024_S16x256x4x256) p)
    transposes_S16x4x256x4096_S16x4096x4x256_0_3_1_2) shapeCasts_S16x4096x4x256_S16x4096x1024

/-- The whole array, from the joined rows. -/
def refOut (x : FVec Ideal S16x4096x1024 .f32) (g : FVec Ideal S1024 .f32) (wq : FVec Ideal S1024x1024 .f32) (k v : FVec Ideal S16x256x1024 .f32)
    (wo : FVec Ideal S1024x1024 .f32) : FVec Ideal S16x4096x1024 .f32 :=
  addf x (Host.dotGeneral dot_S16x4096x1024_S1024x1024_S16x4096x1024_2_0_01_1_n_n none
    (refAtt (refProb (refWt (refScore (refUnit x g) wq k))) v) wo)

/-! ## The stages at an index -/

section
variable (b : Fin 16) (r : Fin 4096)

/-- The four groups side by side. -/
theorem cat_apply (y : Fin 4 → FVec Ideal S16x4096x256 .f32) (e : Fin 1024) :
    concatenate S16x4096x1024 2 [⟨S16x4096x256, y 0⟩, ⟨S16x4096x256, y 1⟩, ⟨S16x4096x256, y 2⟩, ⟨S16x4096x256, y 3⟩]
      concatenates_S16x4096x256_S16x4096x256_S16x4096x256_S16x4096x256_S16x4096x1024_d2 (ix3 b r e) = y (hd e) (ix3 b r (ch e)) := by
  have hq : ∀ (h : Fin 4) (c : Fin 256), concatenate S16x4096x1024 2 [⟨S16x4096x256, y 0⟩, ⟨S16x4096x256, y 1⟩, ⟨S16x4096x256, y 2⟩, ⟨S16x4096x256, y 3⟩]
      concatenates_S16x4096x256_S16x4096x256_S16x4096x256_S16x4096x256_S16x4096x1024_d2 (ix3 b r (col h c)) = y h (ix3 b r c) := fun h c => by
    have hi : ∀ a : Fin 3, (a.cast rfl : Fin 3) ≠ 2 → (ix3 b r c a).val = (ix3 b r (col h c) (a.cast rfl)).val := fun a ha => match a with
      | ⟨0, _⟩ => rfl
      | ⟨1, _⟩ => rfl
      | ⟨2, _⟩ => absurd rfl ha
    match h with
    | ⟨0, _⟩ => exact concatenate_apply_piece (t := S16x4096x1024) 2 _ _ _ 0 (by show 0 < 4; decide) S16x4096x256 (y 0) rfl rfl 0 rfl (ix3 b r c) hi rfl
    | ⟨1, _⟩ => exact concatenate_apply_piece (t := S16x4096x1024) 2 _ _ _ 1 (by show 1 < 4; decide) S16x4096x256 (y 1) rfl rfl 256 rfl (ix3 b r c) hi rfl
    | ⟨2, _⟩ => exact concatenate_apply_piece (t := S16x4096x1024) 2 _ _ _ 2 (by show 2 < 4; decide) S16x4096x256 (y 2) rfl rfl 512 rfl (ix3 b r c) hi rfl
    | ⟨3, _⟩ => exact concatenate_apply_piece (t := S16x4096x1024) 2 _ _ _ 3 (by show 3 < 4; decide) S16x4096x256 (y 3) rfl rfl 768 rfl (ix3 b r c) hi rfl
  have h := hq (hd e) (ch e)
  rwa [col_hd_ch] at h

theorem refJoin_apply (x : FVec Ideal S16x4096x1024 .f32) (ya yb yc yd : FVec Ideal S16x4096x256 .f32) (w : FVec Ideal S1024x1024 .f32) (d : Fin 1024) :
    refJoin x ya yb yc yd w (ix3 b r d) = joinRow (fun e => x (ix3 b r e)) (fun g c => (![ya, yb, yc, yd] g : FVec Ideal S16x4096x256 .f32) (ix3 b r c))
      (fun e d => w (ix2 e d)) d := by
  rw [← joinRow_eq]
  refine congrArg (fun z : EReal => x (ix3 b r d) + z) ((dot_apply _ w b r d).trans (Finset.sum_congr rfl fun e _ => congrArg (· * w (ix2 e d)) ?_))
  exact cat_apply b r ![ya, yb, yc, yd] e

theorem reduces_last : S16x4096x1024.Reduces [2] S16x4096 := by decide

theorem refUnit_apply (x : FVec Ideal S16x4096x1024 .f32) (g : FVec Ideal S1024 .f32) (k : Fin 1024) :
    refUnit x g (ix3 b r k) = normRow (fun e => x (ix3 b r e)) (fun e => g (ix1 e)) k := by
  have hs : ∀ u : Fin 1, broadcastInDim S16x4096x1 ![0, 1] bcast_S16x4096_S16x4096x1_0_1
      (Host.reduceAdd (mulf x x) (constant S_ .f32 0x00000000#32) reducesTo_S16x4096x1024_S16x4096_d2 h_S_) (ix3 b r u)
      = ∑ e : Fin 1024, x (ix3 b r e) * x (ix3 b r e) := fun u => by
    rw [broadcastInDim_apply _ _ _ _ (ix2 b r) (fun a => match a with | ⟨0, _⟩ => rfl | ⟨1, _⟩ => rfl), hostReduceAdd_apply]
    refine (Ideal.hostReduceAdd_single _ reduces_last _ _ _).trans ?_
    refine (congrArg (· + _) Ideal.ofBits_zero_f32).trans ((zero_add _).trans ?_)
    refine Finset.sum_congr rfl fun e _ => ?_
    have hl : reduces_last.lift (ix2 b r) e = ix3 b r e := funext fun a => Fin.ext (match a with
      | ⟨0, _⟩ => rfl
      | ⟨1, _⟩ => rfl
      | ⟨2, _⟩ => rfl)
    rw [hl]; rfl
  have hb : ∀ v : FVec Ideal S16x4096x1 .f32, broadcastInDim S16x4096x1024 ![0, 1, 2] bcast_S16x4096x1_S16x4096x1024_0_1_2 v (ix3 b r k) = v (ix3 b r (0 : Fin 1)) :=
    fun v => broadcastInDim_apply _ _ v _ _ fun a => match a with
      | ⟨0, _⟩ => rfl
      | ⟨1, _⟩ => rfl
      | ⟨2, _⟩ => rfl
  have hg : broadcastInDim S16x4096x1024 ![0, 1, 2] bcast_S1x1x1024_S16x4096x1024_0_1_2 (broadcastInDim S1x1x1024 ![2] bcast_S1024_S1x1x1024_2 g) (ix3 b r k) = g (ix1 k) :=
    (broadcastInDim_apply _ _ _ _ (ix3 (0 : Fin 1) (0 : Fin 1) k) fun a => match a with
      | ⟨0, _⟩ => rfl
      | ⟨1, _⟩ => rfl
      | ⟨2, _⟩ => rfl).trans (broadcastInDim_apply _ _ g _ (ix1 k) fun a => match a with | ⟨0, _⟩ => rfl)
  refine (congrArg₂ (fun p q : EReal => x (ix3 b r k) * p * q) (hb _) hg).trans ?_
  unfold normRow
  rw [← hs 0]; rfl

/-- The heads' channels side by side, apart. -/
theorem apart_rows (x : FVec Ideal S16x4096x1024 .f32) (h : Fin 4) (c : Fin 256) :
    shapeCast S16x4096x4x256 x shapeCasts_S16x4096x1024_S16x4096x4x256 (ix4 b r h c) = x (ix3 b r (col h c)) :=
  shapeCast_apply _ _ _ _ (by
    rw [Shape.rowMajor_val_four, Shape.rowMajor_val_three]
    show (b.val * 4096 + r.val) * 1024 + (h.val * 256 + c.val) = ((b.val * 4096 + r.val) * 4 + h.val) * 256 + c.val; omega)

theorem apart_mem (x : FVec Ideal S16x256x1024 .f32) (m : Fin 256) (h : Fin 4) (c : Fin 256) :
    shapeCast S16x256x4x256 x shapeCasts_S16x256x1024_S16x256x4x256 (ix4 b m h c) = x (ix3 b m (col h c)) :=
  shapeCast_apply _ _ _ _ (by
    rw [Shape.rowMajor_val_four, Shape.rowMajor_val_three]
    show (b.val * 256 + m.val) * 1024 + (h.val * 256 + c.val) = ((b.val * 256 + m.val) * 4 + h.val) * 256 + c.val; omega)

theorem refScore_apply (u : FVec Ideal S16x4096x1024 .f32) (wq : FVec Ideal S1024x1024 .f32) (k : FVec Ideal S16x256x1024 .f32) (h : Fin 4) (m : Fin 256) :
    refScore u wq k (ix4 b h r m) = score (query (fun e => u (ix3 b r e)) (fun e d => wq (ix2 e d)) h) (fun m c => k (ix3 b m (col h c))) m := by
  refine congrArg (fun z : EReal => z * Ideal.ofBits .f32 0x3D800000#32) ((score_dot _ _ b h r m).trans (Finset.sum_congr rfl fun c _ => ?_))
  rw [apart_rows, apart_mem, dot_apply]; rfl

theorem reduces_mem : S16x4x4096x256.Reduces [3] S16x4x4096 := by decide

theorem lift_mem (h : Fin 4) (m : Fin 256) : reduces_mem.lift (ix3 b h r) m = ix4 b h r m :=
  funext fun a => Fin.ext (match a with
    | ⟨0, _⟩ => rfl
    | ⟨1, _⟩ => rfl
    | ⟨2, _⟩ => rfl
    | ⟨3, _⟩ => rfl)

theorem over_mem (v : FVec Ideal S16x4x4096 .f32) (h : Fin 4) (m : Fin 256) :
    broadcastInDim S16x4x4096x256 ![0, 1, 2, 3] bcast_S16x4x4096x1_S16x4x4096x256_0_1_2_3
      (broadcastInDim S16x4x4096x1 ![0, 1, 2] bcast_S16x4x4096_S16x4x4096x1_0_1_2 v) (ix4 b h r m) = v (ix3 b h r) :=
  (broadcastInDim_apply _ _ _ _ (ix4 b h r (0 : Fin 1)) fun a => match a with
    | ⟨0, _⟩ => rfl
    | ⟨1, _⟩ => rfl
    | ⟨2, _⟩ => rfl
    | ⟨3, _⟩ => rfl).trans (broadcastInDim_apply _ _ v _ (ix3 b h r) fun a => match a with
      | ⟨0, _⟩ => rfl
      | ⟨1, _⟩ => rfl
      | ⟨2, _⟩ => rfl)

theorem lowest : (Ideal.ofBits .f32 0xFF800000#32 : EReal) = ⊥ := by simp [Ideal.ofBits, Ideal.ieee]

/-- The host's greatest over any finite set, from the lowest value, is the plain one. -/
theorem fold_top {n : Nat} (i : EReal) (hi : i = ⊥) (f g : Fin n → EReal) (hf : ∀ m, f m = g m) :
    (Finset.univ : Finset (Fin n)).fold (FloatOps.maximumf (F := Ideal) (φ := .f32)) i f = (Finset.univ : Finset (Fin n)).fold max ⊥ g := by
  obtain rfl := hi
  obtain rfl : f = g := funext hf
  rfl

/-- The host's greatest over the memory. -/
def refMax (s : FVec Ideal S16x4x4096x256 .f32) : FVec Ideal S16x4x4096 .f32 :=
  Host.reduce FloatOps.maximumf s (constant S_ .f32 0xFF800000#32) reducesTo_S16x4x4096x256_S16x4x4096_d3 h_S_

theorem refMax_apply (s : FVec Ideal S16x4x4096x256 .f32) (h : Fin 4) : refMax s (ix3 b h r) = top fun m => s (ix4 b h r m) := by
  unfold refMax top
  rw [Host.reduce_eq_fold_single FloatOps.maximumf s _ _ reduces_mem h_S_]
  exact fold_top (n := 256) _ lowest _ _ fun m => congrArg s (lift_mem b r h m)

/-- The greatest of the lowest value and a whole array, at an index. -/
theorem max_low (v : FVec Ideal S16x4x4096 .f32) (j : S16x4x4096.Idx) :
    maximumf (broadcastInDim S16x4x4096 ![] bcast_S_S16x4x4096 (constant S_ .f32 0xFF800000#32)) v j = v j :=
  (congrArg (fun z : EReal => max z (v j)) lowest).trans (max_eq_right bot_le)

/-- The exponentials of a whole array less another, at an index. -/
theorem exp_sub (s t : FVec Ideal S16x4x4096x256 .f32) (j : S16x4x4096x256.Idx) : Host.exp (subf s t) j = Ideal.exp (s j - t j) := rfl

theorem refWt_apply (s : FVec Ideal S16x4x4096x256 .f32) (h : Fin 4) (m : Fin 256) :
    refWt s (ix4 b h r m) = wt (fun m => s (ix4 b h r m)) m := by
  unfold refWt wt
  rw [exp_sub, over_mem, max_low]
  exact congrArg (fun z : EReal => Ideal.exp (s (ix4 b h r m) - z)) (refMax_apply b r s h)

theorem refProb_apply (e : FVec Ideal S16x4x4096x256 .f32) (h : Fin 4) (m : Fin 256) :
    refProb e (ix4 b h r m) = Ideal.div (e (ix4 b h r m)) (∑ m, e (ix4 b h r m)) := by
  refine congrArg (fun z : EReal => Ideal.div (e (ix4 b h r m)) z) ((over_mem b r _ h m).trans ?_)
  rw [hostReduceAdd_apply]
  refine (Ideal.hostReduceAdd_single _ reduces_mem _ _ _).trans ?_
  refine (congrArg (· + _) Ideal.ofBits_zero_f32).trans ((zero_add _).trans ?_)
  exact Finset.sum_congr rfl fun m _ => congrArg e (lift_mem b r h m)

theorem refAtt_apply (p : FVec Ideal S16x4x4096x256 .f32) (v : FVec Ideal S16x256x1024 .f32) (e : Fin 1024) :
    refAtt p v (ix3 b r e) = ∑ m : Fin 256, v (ix3 b m e) * p (ix4 b (hd e) r m) := by
  unfold refAtt
  rw [shapeCast_apply _ _ (ix3 b r e) (ix4 b r (hd e) (ch e)) (by
    rw [Shape.rowMajor_val_four, Shape.rowMajor_val_three]
    show ((b.val * 4096 + r.val) * 4 + e.val / 256) * 256 + e.val % 256 = (b.val * 4096 + r.val) * 1024 + e.val; omega)]
  rw [transpose_apply _ _ _ _ (ix4 b (hd e) (ch e) r) (fun a => match a with
    | ⟨0, _⟩ => rfl
    | ⟨1, _⟩ => rfl
    | ⟨2, _⟩ => rfl
    | ⟨3, _⟩ => rfl), value_dot]
  refine Finset.sum_congr rfl fun m _ => ?_
  rw [apart_mem, col_hd_ch]

end

/-! ## The whole array -/

/-- Every row projected, normalised and attended over its batch's memory. -/
def attended (x : FVec Ideal S16x4096x1024 .f32) (ya yb yc yd : FVec Ideal S16x4096x256 .f32) (w : FVec Ideal S1024x1024 .f32)
    (g : FVec Ideal S1024 .f32) (wq : FVec Ideal S1024x1024 .f32) (k v : FVec Ideal S16x256x1024 .f32) (wo : FVec Ideal S1024x1024 .f32) :
    FVec Ideal S16x4096x1024 .f32 := fun j =>
  outRow (joinRow (fun e => x (ix3 (j 0) (j 1) e)) (fun g c => (![ya, yb, yc, yd] g : FVec Ideal S16x4096x256 .f32) (ix3 (j 0) (j 1) c)) (fun e d => w (ix2 e d)))
    (fun e => g (ix1 e)) (fun e d => wq (ix2 e d)) (fun m e => k (ix3 (j 0) m e)) (fun m e => v (ix3 (j 0) m e)) (fun e d => wo (ix2 e d)) (j 2)

theorem refOut_eq (x : FVec Ideal S16x4096x1024 .f32) (ya yb yc yd : FVec Ideal S16x4096x256 .f32) (w : FVec Ideal S1024x1024 .f32)
    (g : FVec Ideal S1024 .f32) (wq : FVec Ideal S1024x1024 .f32) (k v : FVec Ideal S16x256x1024 .f32) (wo : FVec Ideal S1024x1024 .f32)
    (hg : ∀ e, Fin' (g (ix1 e))) (hq : ∀ e d, Fin' (wq (ix2 e d))) (hk : ∀ b m e, Fin' (k (ix3 b m e))) :
    refOut (refJoin x ya yb yc yd w) g wq k v wo = attended x ya yb yc yd w g wq k v wo := by
  suffices h : ∀ (b : Fin 16) (r : Fin 4096) (d : Fin 1024), refOut (refJoin x ya yb yc yd w) g wq k v wo (ix3 b r d)
      = attended x ya yb yc yd w g wq k v wo (ix3 b r d) by
    funext j
    have hj : j = ix3 (j 0 : Fin 16) (j 1 : Fin 4096) (j 2 : Fin 1024) := funext fun a => match a with
      | ⟨0, _⟩ => rfl
      | ⟨1, _⟩ => rfl
      | ⟨2, _⟩ => rfl
    rw [hj]; exact h (j 0) (j 1) (j 2)
  intro b r d
  have hx : (fun e => refJoin x ya yb yc yd w (ix3 b r e)) = joinRow (fun e => x (ix3 b r e))
      (fun g c => (![ya, yb, yc, yd] g : FVec Ideal S16x4096x256 .f32) (ix3 b r c)) (fun e d => w (ix2 e d)) :=
    funext fun e => refJoin_apply b r x ya yb yc yd w e
  show _ = outRow _ _ _ _ _ _ d
  rw [← hx]
  have hu : (fun e => refUnit (refJoin x ya yb yc yd w) g (ix3 b r e)) = normRow (fun e => refJoin x ya yb yc yd w (ix3 b r e)) (fun e => g (ix1 e)) :=
    funext fun e => refUnit_apply b r _ g e
  refine congrArg (fun z : EReal => refJoin x ya yb yc yd w (ix3 b r d) + z) ((dot_apply _ wo b r d).trans
    (Finset.sum_congr rfl fun e _ => congrArg (· * wo (ix2 e d)) ?_))
  rw [refAtt_apply]
  have hs : (fun m => refScore (refUnit (refJoin x ya yb yc yd w) g) wq k (ix4 b (hd e) r m))
      = score (query (normRow (fun e => refJoin x ya yb yc yd w (ix3 b r e)) (fun e => g (ix1 e))) (fun e d => wq (ix2 e d)) (hd e)) (fun m c => k (ix3 b m (col (hd e) c))) :=
    funext fun m => by rw [refScore_apply, hu]
  simp only [refProb_apply, refWt_apply, hs]
  exact attend_eq (fun m => fin_score _ _ _ (fun m e => k (ix3 b m e)) hg hq (fun m e => hk b m e) (hd e) m) fun m => v (ix3 b m e)

section
open Cert.XattnReferenceIdeal.Value

theorem res_eq (m : (ℓ : Loc nD τ sig) → Buf (Elt Ideal) ℓ) (c : Dev nD) : res_main_v38 m c
    = refOut (refJoin (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) := rfl

end

end Cert.Proof.Att
-- ==== Proof.AttTie.lean ====
/-
  The output projection and the cross-attention against their reference: both leave every row attended, where the norm's
  weights, the query projection and the memory's keys are finite.
-/
module

public import proofs.«01_k».proof.Defs
public import proofs.«01_k».proof.Proof.AttArray
public import proofs.«01_k».proof.Proof.AttRef

@[expose] public section

noncomputable section

namespace Cert.Proof.Att

open Idealize.ShloMosaic hiding ix1 ix2 ix3 ix4
open Idealize.ShloMosaic.TcCoe Idealize.SL.Sem
open Idealize.ShloMosaic.ValueIdx

open Cert.XattnIdeal Cert.XattnIdeal.Gen in
theorem weights_row (g : FVec Ideal S1024 .f32) (e : Fin 1024) :
    shapeCast S1x1024 g shapeCasts_S1024_S1x1024 (ix2 (0 : Fin 1) e) = g (ix1 e) :=
  shapeCast_a_1a_apply g _ 0 e

open Cert.XattnIdeal Cert.XattnIdeal.Gen in
theorem attArr_eq (x : FVec Ideal S16x4096x1024 .f32) (ya yb yc yd : FVec Ideal S16x4096x256 .f32) (w : FVec Ideal S1024x1024 .f32)
    (g : FVec Ideal S1024 .f32) (wq : FVec Ideal S1024x1024 .f32) (k v : FVec Ideal S16x256x1024 .f32) (wo : FVec Ideal S1024x1024 .f32) :
    attArr x ya yb yc yd w (shapeCast S1x1024 g shapeCasts_S1024_S1x1024) wq k v wo = attended x ya yb yc yd w g wq k v wo :=
  funext fun j => congrArg (fun g => outRow (joinRow (fun e => x (ix3 (j 0) (j 1) e))
      (fun g c => (![ya, yb, yc, yd] g : FVec Ideal S16x4096x256 .f32) (ix3 (j 0) (j 1) c)) (fun e d => w (ix2 e d)))
    g (fun e d => wq (ix2 e d)) (fun m e => k (ix3 (j 0) m e)) (fun m e => v (ix3 (j 0) m e)) (fun e d => wo (ix2 e d)) (j 2))
    (funext fun e => weights_row g e)

open Cert.XattnIdeal Cert.XattnIdeal.Gen in
/-- The kernel's run: every row attended, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = attended (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans ((arr_eq m c).trans (by
    rw [in_arg0, in_v0, in_v1, in_v2, in_v3, in_v4, norm_in, in_v6, in_v7, in_v8, in_v9]; exact attArr_eq _ _ _ _ _ _ _ _ _ _ _)), (h c).2⟩)
    (Cert.XattnIdeal.Value.run_blocks m ρ)

/-! ## The precondition -/

theorem pre_facts : Cert.Pre_finite.Facts where
  bcast_S_S1024 := by decide
  bcast_S_S1024x1024 := by decide
  bcast_S_S16x256x1024 := by decide

theorem greatest : (Ideal.ofBits .f32 0x7F800000#32 : EReal) = ⊤ := by simp [Ideal.ofBits, Ideal.ieee]

/-- An extended real whose absolute value compares below plus infinity is finite. -/
theorem fin_of_bit (a : EReal) (h : Ideal.cmp .olt (max a (-a)) (Ideal.ofBits .f32 0x7F800000#32) = 1#1) : Fin' a := by
  rw [greatest] at h
  have hl : max a (-a) < ⊤ := by
    by_contra hn
    simp [Ideal.cmp, hn] at h
  refine fin_of_ne (fun ha => ?_) (fun ha => ?_)
  · rw [ha] at hl; simp at hl
  · rw [ha] at hl; simp at hl

open Cert.XattnIdeal in
/-- What the precondition says of the three arrays. -/
theorem pre_fin (m : (ℓ : Loc nD τ sig) → Buf (Elt Ideal) ℓ) (h : Cert.Pre_XattnIdeal_finite (hPre_finite := pre_facts) m) (c : Dev nD) :
    (∀ i : S1024.Idx, Fin' ((m ((c.tc : Thread nD τ).loc main_arg6) : FVec Ideal S1024 .f32) i))
    ∧ (∀ i : S1024x1024.Idx, Fin' ((m ((c.tc : Thread nD τ).loc main_arg7) : FVec Ideal S1024x1024 .f32) i))
    ∧ (∀ i : S16x256x1024.Idx, Fin' ((m ((c.tc : Thread nD τ).loc main_arg8) : FVec Ideal S16x256x1024 .f32) i)) := by
  obtain ⟨h6, h7, h8⟩ := h c
  exact ⟨fun i => fin_of_bit _ (congrFun h6 i), fun i => fin_of_bit _ (congrFun h7 i), fun i => fin_of_bit _ (congrFun h8 i)⟩

theorem algebraic : algebraic_XattnIdeal_XattnReferenceIdeal_pre_finite (hPre_finite := pre_facts) := by
  intro m g m' g' hp hm
  refine ⟨fun c => attended (m ((c.tc : Thread Cert.XattnIdeal.nD Cert.XattnIdeal.τ).loc Cert.XattnIdeal.main_arg0))
      (m ((c.tc : Thread Cert.XattnIdeal.nD Cert.XattnIdeal.τ).loc Cert.XattnIdeal.main_arg1))
      (m ((c.tc : Thread Cert.XattnIdeal.nD Cert.XattnIdeal.τ).loc Cert.XattnIdeal.main_arg2))
      (m ((c.tc : Thread Cert.XattnIdeal.nD Cert.XattnIdeal.τ).loc Cert.XattnIdeal.main_arg3))
      (m ((c.tc : Thread Cert.XattnIdeal.nD Cert.XattnIdeal.τ).loc Cert.XattnIdeal.main_arg4))
      (m ((c.tc : Thread Cert.XattnIdeal.nD Cert.XattnIdeal.τ).loc Cert.XattnIdeal.main_arg5))
      (m ((c.tc : Thread Cert.XattnIdeal.nD Cert.XattnIdeal.τ).loc Cert.XattnIdeal.main_arg6))
      (m ((c.tc : Thread Cert.XattnIdeal.nD Cert.XattnIdeal.τ).loc Cert.XattnIdeal.main_arg7))
      (m ((c.tc : Thread Cert.XattnIdeal.nD Cert.XattnIdeal.τ).loc Cert.XattnIdeal.main_arg8))
      (m ((c.tc : Thread Cert.XattnIdeal.nD Cert.XattnIdeal.τ).loc Cert.XattnIdeal.main_arg9))
      (m ((c.tc : Thread Cert.XattnIdeal.nD Cert.XattnIdeal.τ).loc Cert.XattnIdeal.main_arg10)),
    kernel_run m g, ?_⟩
  refine (θ_run _ _ _).mono (fun _ h c => ⟨(h c).1.trans ?_, (h c).2⟩) (Cert.XattnReferenceIdeal.Value.run m' g')
  obtain ⟨h0, h1, h2, h3, h4, h5, h6, h7, h8, h9, h10⟩ := hm c
  obtain ⟨hg, hq, hk⟩ := pre_fin m hp c
  rw [res_eq, h0, h1, h2, h3, h4, h5, h6, h7, h8, h9, h10]
  exact refOut_eq _ _ _ _ _ _ _ _ _ _ _ (fun e => hg (ix1 e)) (fun e d => hq (ix2 e d)) (fun b m e => hk (ix3 b m e))

end Cert.Proof.Att
-- ==== Proof.ProjKernel.lean ====
/-
  The input projection on a block of rows: each row normalised by its root mean square, times the weights' columns.
-/
module

public import proofs.«01_k».proof.Proof.MixKernel
public import proofs.«01_k».proof.Proof.Gen.ProjIdeal.Skeleton

@[expose] public section

noncomputable section

namespace Cert.Proof.Proj

open Cert.ProjIdeal Cert.ProjIdeal.Gen
open Idealize.ShloMosaic Idealize.ShloMosaic.TcCoe
open Idealize.ShloMosaic.ValueIdx
open Cert.Proof.Mix (normRow load_whole)

/-- A row times one column of the weights. -/
def projRow (u : Fin 1024 → EReal) (w : Fin 1024 → Fin 3072 → EReal) (j : Fin 3072) : EReal := ∑ e, u e * w e j

/-- A block's rows times the columns from `o` on. -/
def cols {n o : Nat} (hn : o + n ≤ 3072) (u : FVec Ideal S1024x1024 .bf16) (w : FVec Ideal S1024x3072 .bf16) :
    (⟨2, ![1024, n]⟩ : Shape).Idx → EReal := fun j =>
  projRow (fun e => u (ix2 (j 0) e)) (fun e f => w (ix2 e f)) ⟨o + (j 1).val, by have h : (j 1).val < n := (j 1).isLt; omega⟩

/-- One column tile. -/
def tile (u : FVec Ideal S1024x1024 .bf16) (a : FVec Ideal S1024x256 .bf16) : FVec Ideal S1024x256 .f32 :=
  matmul dot_S1024x1024_S1024x256_S1024x256_1_0_0_1_n_n none u a (constant S1024x256 .f32 0x00000000#32)

theorem tile_apply (u : FVec Ideal S1024x1024 .bf16) (a : FVec Ideal S1024x256 .bf16) (r : Fin 1024) (c : Fin 256) :
    tile u a (ix2 r c) = ∑ e : Fin 1024, u (ix2 r e) * a (ix2 e c) := by
  refine (Ideal.matmul_plain_apply (M := 1024) (K := 1024) (N := 256) none u a _ r c).trans ?_
  exact (congrArg (· + _) Ideal.ofBits_zero_f32).trans (zero_add _)

/-- A column tile made from the weights' columns is the rows' product there. -/
theorem cols_tile {n o : Nat} (hn : o + n ≤ 3072) (k q : Nat) (hq : q = o + k)
    (inb : ∀ a, (![0, k] : Fin 2 → Nat) a + (![1024, 256] : Fin 2 → Nat) a ≤ (⟨2, ![1024, n]⟩ : Shape).size a)
    (inw : ∀ a, (![0, q] : Fin 2 → Nat) a + (![1024, 256] : Fin 2 → Nat) a ≤ S1024x3072.size a)
    (u : FVec Ideal S1024x1024 .bf16) (w : FVec Ideal S1024x3072 .bf16) (x : S1024x256.Idx) :
    tile u (fun y => w ((Rect.unit (s := S1024x3072) ![0, q] ![1024, 256] inw).idx y)) x
      = cols hn u w ((Rect.unit (s := (⟨2, ![1024, n]⟩ : Shape)) ![0, k] ![1024, 256] inb).emb x) := by
  have hw : q + 256 ≤ 3072 := inw 1
  have hk : k + 256 ≤ n := inb 1
  have hi : ∀ (e : Fin 1024) (c : Fin 256), (Rect.unit (s := S1024x3072) ![0, q] ![1024, 256] inw).idx (ix2 e c)
      = ix2 e (⟨q + c.val, by omega⟩ : Fin 3072) := fun e c => funext fun a => Fin.ext (by
    rw [Rect.idx_unit_val]; match a with
    | ⟨0, _⟩ => exact Nat.zero_add _
    | ⟨1, _⟩ => rfl)
  have hj : ∀ (r : Fin 1024) (c : Fin 256), (Rect.unit (s := (⟨2, ![1024, n]⟩ : Shape)) ![0, k] ![1024, 256] inb).idx (ix2 r c)
      = ix2 r (⟨k + c.val, by omega⟩ : Fin n) := fun e c => funext fun a => Fin.ext (by
    rw [Rect.idx_unit_val]; match a with
    | ⟨0, _⟩ => exact Nat.zero_add _
    | ⟨1, _⟩ => rfl)
  suffices h : ∀ (r : Fin 1024) (c : Fin 256), tile u (fun y => w ((Rect.unit (s := S1024x3072) ![0, q] ![1024, 256] inw).idx y)) (ix2 r c)
      = cols hn u w ((Rect.unit (s := (⟨2, ![1024, n]⟩ : Shape)) ![0, k] ![1024, 256] inb).idx (ix2 r c)) by
    have hx : x = ix2 (x 0) (x 1) := funext fun a => match a with | ⟨0, _⟩ => rfl | ⟨1, _⟩ => rfl
    rw [hx]; exact h (x 0) (x 1)
  intro r c
  rw [tile_apply, hj]
  simp only [hi]
  have hf : (⟨q + c.val, by omega⟩ : Fin 3072) = ⟨o + (k + c.val), by omega⟩ := Fin.ext (by show q + c.val = o + (k + c.val); omega)
  exact congrArg (fun f : Fin 3072 => (∑ e : Fin 1024, u (ix2 r e) * w (ix2 e f) : EReal)) hf

/-- A stored column tile, made from the weights' columns as the body loads them. -/
theorem piece {n o : Nat} (hn : o + n ≤ 3072) {sg : RefSig} {m3 : Memref sg .tc .vmem S1024x3072 .bf16} (h3 : m3.IsWhole)
    (w : FVec Ideal S1024x3072 .bf16) (k q : Nat) (hq : q = o + k)
    (inb : ∀ a, (![0, k] : Fin 2 → Nat) a + (![1024, 256] : Fin 2 → Nat) a ≤ (⟨2, ![1024, n]⟩ : Shape).size a)
    (inw : ∀ a, (![0, q] : Fin 2 → Nat) a + (![1024, 256] : Fin 2 → Nat) a ≤ S1024x3072.size a)
    (u : FVec Ideal S1024x1024 .bf16) {v : S1024x256.Idx → EReal}
    (hv : v = tile u (View.readAt (Elt Ideal) m3.view (Rect.unit (s := S1024x3072) ![0, q] ![1024, 256] inw).toLoadRect (h3.unread w))) (x : S1024x256.Idx) :
    v x = cols hn u w ((Rect.unit (s := (⟨2, ![1024, n]⟩ : Shape)) ![0, k] ![1024, 256] inb).emb x) := by
  rw [hv, ← cols_tile hn k q hq inb inw u w x]
  have e3 := funext fun y => h3.readAt_unread (Val := Elt Ideal) w (Rect.unit (s := S1024x3072) ![0, q] ![1024, 256] inw).toLoadRect y
  exact congrFun (congrArg (tile u) e3) x

/-- The normalised rows of a block. -/
theorem norm_apply (x : FVec Ideal S1024x1024 .f32) (g : FVec Ideal S1x1024 .f32) (r k : Fin 1024) :
    k0_pay3 (F := Ideal) x g (ix2 r k) = normRow (fun e => x (ix2 r e)) (fun e => g (ix2 (0 : Fin 1) e)) k := by
  unfold k0_pay3
  simp only [shapeCast_self]
  have hs : ∀ (y : FVec Ideal S1024x1024 .f32) (u : Fin 1), shapeCast S1024x1 (multiReduction .add [1] S1024 (mulf y y) 0x00000000#32
        reduces_S1024x1024_S1024 (.inl rfl) rfl) shapeCasts_S1024_S1024x1 (ix2 r u) = ∑ e : Fin 1024, y (ix2 r e) * y (ix2 r e) := fun y u => by
    rw [shapeCast_a_a1_apply]
    refine (Ideal.multiReduction_add_single _ _ _ _ _ _).trans ?_
    refine Finset.sum_congr rfl fun e _ => ?_
    have hl : reduces_S1024x1024_S1024.lift (ix1 r) e = ix2 r e := funext fun a => Fin.ext (match a with
      | ⟨0, _⟩ => rfl
      | ⟨1, _⟩ => rfl)
    rw [hl]; rfl
  have hb : ∀ (v : FVec Ideal S1024x1 .f32), broadcastTo S1024x1024 v broadcasts_S1024x1_S1024x1024 (ix2 r k) = v (ix2 r (0 : Fin 1)) :=
    fun v => broadcastTo_apply v _ (ix2 r k) (ix2 r (0 : Fin 1)) fun a => match a with
      | ⟨0, _⟩ => rfl
      | ⟨1, _⟩ => rfl
  have hg : broadcastTo S1024x1024 g broadcasts_S1x1024_S1024x1024 (ix2 r k) = g (ix2 (0 : Fin 1) k) :=
    broadcastTo_1b_ab_apply g _ r k
  refine (congrArg₂ (fun p q : EReal => x (ix2 r k) * p * q) (hb _) hg).trans ?_
  unfold normRow
  rw [← hs x 0]; rfl

/-! ## The values, transposed by tiles of 128 rows -/

/-- A block's product with the value weights, each tile of 128 rows transposed. -/
def tiled (v : FVec Ideal S1024x256 .f32) : FVec Ideal S8x256x128 .bf16 := fun j =>
  v (ix2 (⟨(j 0).val * 128 + (j 2).val, by have h0 : (j 0).val < 8 := (j 0).isLt; have h2 : (j 2).val < 128 := (j 2).isLt; omega⟩ : Fin 1024) (j 1))

/-- One tile as it is stored. -/
def turned (o : Nat) (hs : S1024x256.Slices ![o, 0] S128x256) (v : FVec Ideal S1024x256 .f32) : FVec Ideal S1x256x128 .bf16 :=
  shapeCast S1x256x128 (truncf .bf16 (transpose S256x128 [1, 0] (extractStridedSlice S128x256 ![o, 0] v hs) transposes_S128x256_p1_0_S256x128) bitsLt_bf16_f32)
    shapeCasts_S256x128_S1x256x128

theorem turned_tile (t o : Nat) (ho : o = t * 128) (hs : S1024x256.Slices ![o, 0] S128x256)
    (inb : ∀ a, (![t, 0, 0] : Fin 3 → Nat) a + (![1, 256, 128] : Fin 3 → Nat) a ≤ S8x256x128.size a)
    (v : FVec Ideal S1024x256 .f32) (x : S1x256x128.Idx) :
    turned o hs v x = tiled v ((Rect.unit (s := S8x256x128) ![t, 0, 0] ![1, 256, 128] inb).emb x) := by
  have ht : t + 1 ≤ 8 := inb 0
  have hj : ∀ (c : Fin 256) (s : Fin 128), (Rect.unit (s := S8x256x128) ![t, 0, 0] ![1, 256, 128] inb).idx (ix3 (0 : Fin 1) c s)
      = ix3 (⟨t, by omega⟩ : Fin 8) c s := fun c s => funext fun a => Fin.ext (by
    rw [Rect.idx_unit_val]; match a with
    | ⟨0, _⟩ => rfl
    | ⟨1, _⟩ => exact Nat.zero_add _
    | ⟨2, _⟩ => exact Nat.zero_add _)
  suffices h : ∀ (c : Fin 256) (s : Fin 128), turned o hs v (ix3 (0 : Fin 1) c s)
      = tiled v ((Rect.unit (s := S8x256x128) ![t, 0, 0] ![1, 256, 128] inb).idx (ix3 (0 : Fin 1) c s)) by
    have hx : x = ix3 (0 : Fin 1) (x 1 : Fin 256) (x 2 : Fin 128) := funext fun a => match a with
      | ⟨0, _⟩ => Fin.ext (by have : (x 0).val < 1 := (x 0).isLt; show (x 0).val = 0; omega)
      | ⟨1, _⟩ => rfl
      | ⟨2, _⟩ => rfl
    rw [hx]; exact h (x 1) (x 2)
  intro c s
  rw [hj]
  unfold turned
  refine (shapeCast_apply _ _ (ix3 (0 : Fin 1) c s) (ix2 c s) (by
    rw [Shape.rowMajor_val_two, Shape.rowMajor_val_three]
    show c.val * 128 + s.val = (0 * 256 + c.val) * 128 + s.val; omega)).trans ?_
  show transpose S256x128 [1, 0] (extractStridedSlice S128x256 ![o, 0] v hs) transposes_S128x256_p1_0_S256x128 (ix2 c s) = _
  refine (transpose_apply [1, 0] _ _ (ix2 c s) (ix2 s c) (fun a => match a with
    | ⟨0, _⟩ => rfl
    | ⟨1, _⟩ => rfl)).trans ?_
  refine (extractStridedSlice_apply _ v hs (ix2 s c) (ix2 (⟨t * 128 + s.val, by omega⟩ : Fin 1024) c) (fun a => match a with
    | ⟨0, _⟩ => (by show t * 128 + s.val = o + s.val; omega)
    | ⟨1, _⟩ => (Nat.zero_add _).symm)).trans ?_
  rfl

/-! ## The column tiles -/

section Tiles

variable (u : FVec Ideal S1024x1024 .bf16) (x : FVec Ideal S1024x1024 .f32) (g : FVec Ideal S1x1024 .f32) (a : FVec Ideal S1024x256 .bf16)

theorem tile_4 : k0_pay4 (F := Ideal) x g a = tile (k0_pay3 (F := Ideal) x g) a := by unfold k0_pay4; simp only [shapeCast_self]; rfl
theorem tile_5 : k0_pay5 (F := Ideal) x g a = tile (k0_pay3 (F := Ideal) x g) a := by unfold k0_pay5; simp only [shapeCast_self]; rfl
theorem tile_6 : k0_pay6 (F := Ideal) x g a = tile (k0_pay3 (F := Ideal) x g) a := by unfold k0_pay6; simp only [shapeCast_self]; rfl
theorem tile_8 : k0_pay8 (F := Ideal) u (k0_pay7 (F := Ideal) a) (constant S1024x256 .f32 0x00000000#32) = tile u a := by
  unfold k0_pay8 k0_pay7; simp only [shapeCast_self]; rfl
theorem tile_9 : k0_pay9 (F := Ideal) u a = tile u a := by unfold k0_pay9; simp only [shapeCast_self]; rfl
theorem tile_10 : k0_pay10 (F := Ideal) u a = tile u a := by unfold k0_pay10; simp only [shapeCast_self]; rfl
theorem tile_11 : k0_pay11 (F := Ideal) u a = tile u a := by unfold k0_pay11; simp only [shapeCast_self]; rfl
theorem tile_12 : k0_pay12 (F := Ideal) u a = tile u a := by unfold k0_pay12; simp only [shapeCast_self]; rfl
theorem tile_13 : k0_pay13 (F := Ideal) u a = tile u a := by unfold k0_pay13; simp only [shapeCast_self]; rfl
theorem tile_14 : k0_pay14 (F := Ideal) u a = tile u a := by unfold k0_pay14; simp only [shapeCast_self]; rfl
theorem tile_15 : k0_pay15 (F := Ideal) u a = tile u a := by unfold k0_pay15; simp only [shapeCast_self]; rfl
theorem tile_16 : k0_pay16 (F := Ideal) u a = tile u a := by unfold k0_pay16; simp only [shapeCast_self]; rfl
theorem tile_17 : k0_pay17 (F := Ideal) u a = tile u a := by unfold k0_pay17; simp only [shapeCast_self]; rfl
theorem tile_18 : k0_pay18 (F := Ideal) u a = turned 0 slices_S1024x256_o0_0_S128x256 (tile u a) := by unfold k0_pay18; rw [tile_17]; rfl
theorem tile_19 : k0_pay19 (F := Ideal) u a = turned 128 slices_S1024x256_o128_0_S128x256 (tile u a) := by unfold k0_pay19; rw [tile_17]; rfl
theorem tile_21 : k0_pay21 (F := Ideal) (k0_pay20 (F := Ideal) u a) = turned 256 slices_S1024x256_o256_0_S128x256 (tile u a) := by unfold k0_pay21 k0_pay20; rw [tile_17]; rfl
theorem tile_22 : k0_pay22 (F := Ideal) (k0_pay17 (F := Ideal) u a) = turned 384 slices_S1024x256_o384_0_S128x256 (tile u a) := by unfold k0_pay22; rw [tile_17]; rfl
theorem tile_23 : k0_pay23 (F := Ideal) (k0_pay17 (F := Ideal) u a) = turned 512 slices_S1024x256_o512_0_S128x256 (tile u a) := by unfold k0_pay23; rw [tile_17]; rfl
theorem tile_24 : k0_pay24 (F := Ideal) (k0_pay17 (F := Ideal) u a) = turned 640 slices_S1024x256_o640_0_S128x256 (tile u a) := by unfold k0_pay24; rw [tile_17]; rfl
theorem tile_25 : k0_pay25 (F := Ideal) (k0_pay17 (F := Ideal) u a) = turned 768 slices_S1024x256_o768_0_S128x256 (tile u a) := by unfold k0_pay25; rw [tile_17]; rfl
theorem tile_26 : k0_pay26 (F := Ideal) (k0_pay17 (F := Ideal) u a) = turned 896 slices_S1024x256_o896_0_S128x256 (tile u a) := by unfold k0_pay26; rw [tile_17]; rfl

end Tiles

end Cert.Proof.Proj
-- ==== Proof.ProjBlock.lean ====
/-
  What a grid point of the input projection leaves in its blocks: the block's normalised rows times the weights' columns.
-/
module

public import proofs.«01_k».proof.Proof.ProjKernel
public import proofs.«01_k».proof.Proof.Gen.ProjIdeal.Value

@[expose] public section

noncomputable section

namespace Cert.Proof.Proj

open Cert.ProjIdeal Cert.ProjIdeal.Gen
open Idealize.ShloMosaic Idealize.ShloMosaic.TcCoe
open Idealize.ShloMosaic.ValueIdx
open Cert.Proof.Mix (normRow load_whole)

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x256 .bf16) (harg4 : arg4.IsWhole) (arg5 : Memref sig .tc .vmem S2x256x256 .bf16) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x256 .f32) (harg8 : arg8.IsWhole) (arg9 : Memref sig .tc .vmem S1024x768 .bf16) (harg9 : arg9.IsWhole) (arg10 : Memref sig .tc .vmem S1024x512 .bf16) (harg10 : arg10.IsWhole) (arg11 : Memref sig .tc .vmem S8x256x128 .bf16) (harg11 : arg11.IsWhole) (arg12 : Memref sig .tc .vmem S256x3072 .bf16) (harg12 : arg12.IsWhole) (arg13 : Memref sig .tc .vmem S64x12288 .bf16) (harg13 : arg13.IsWhole)
  (x0 : Vec Ideal S1024x1024 .f32) (x1 : Vec Ideal S1x1024 .f32) (x2 : Vec Ideal S1024x3072 .bf16) (x3 : Vec Ideal S1024x256 .bf16) (x4 : Vec Ideal S2x256x256 .bf16)

theorem pieces_5 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4).1
    = [⟨Rect.unit (s := S1024x1024) ![0, 768] S1024x256.size inb_S1024x1024_S1024x256_0_768, k0_pay8 (F := Ideal) (k0_pay3 (F := Ideal) (View.readAt (Elt Ideal) arg1.view (Rect.unit ![0, 0] S1024x1024.size inb_S1024x1024_S1024x1024_0_0).toLoadRect (harg1.unread x0)) (View.readAt (Elt Ideal) arg2.view (Rect.unit ![0, 0] S1x1024.size inb_S1x1024_S1x1024_0_0).toLoadRect (harg2.unread x1))) (k0_pay7 (F := Ideal) (View.readAt (Elt Ideal) arg3.view (Rect.unit (s := S1024x3072) ![0, 768] S1024x256.size inb_S1024x3072_S1024x256_0_768).toLoadRect (harg3.unread x2))) (constant S1024x256 .f32 0x00000000#32)⟩,
      ⟨Rect.unit (s := S1024x1024) ![0, 512] S1024x256.size inb_S1024x1024_S1024x256_0_512, k0_pay6 (F := Ideal) (View.readAt (Elt Ideal) arg1.view (Rect.unit ![0, 0] S1024x1024.size inb_S1024x1024_S1024x1024_0_0).toLoadRect (harg1.unread x0)) (View.readAt (Elt Ideal) arg2.view (Rect.unit ![0, 0] S1x1024.size inb_S1x1024_S1x1024_0_0).toLoadRect (harg2.unread x1)) (View.readAt (Elt Ideal) arg3.view (Rect.unit (s := S1024x3072) ![0, 512] S1024x256.size inb_S1024x3072_S1024x256_0_512).toLoadRect (harg3.unread x2))⟩,
      ⟨Rect.unit (s := S1024x1024) ![0, 256] S1024x256.size inb_S1024x1024_S1024x256_0_256, k0_pay5 (F := Ideal) (View.readAt (Elt Ideal) arg1.view (Rect.unit ![0, 0] S1024x1024.size inb_S1024x1024_S1024x1024_0_0).toLoadRect (harg1.unread x0)) (View.readAt (Elt Ideal) arg2.view (Rect.unit ![0, 0] S1x1024.size inb_S1x1024_S1x1024_0_0).toLoadRect (harg2.unread x1)) (View.readAt (Elt Ideal) arg3.view (Rect.unit (s := S1024x3072) ![0, 256] S1024x256.size inb_S1024x3072_S1024x256_0_256).toLoadRect (harg3.unread x2))⟩,
      ⟨Rect.unit (s := S1024x1024) ![0, 0] S1024x256.size inb_S1024x1024_S1024x256_0_0, k0_pay4 (F := Ideal) (View.readAt (Elt Ideal) arg1.view (Rect.unit ![0, 0] S1024x1024.size inb_S1024x1024_S1024x1024_0_0).toLoadRect (harg1.unread x0)) (View.readAt (Elt Ideal) arg2.view (Rect.unit ![0, 0] S1x1024.size inb_S1x1024_S1x1024_0_0).toLoadRect (harg2.unread x1)) (View.readAt (Elt Ideal) arg3.view (Rect.unit (s := S1024x3072) ![0, 0] S1024x256.size inb_S1024x3072_S1024x256_0_0).toLoadRect (harg3.unread x2))⟩] := rfl

/-- Every tile the body stores in output 5. -/
theorem tiles_5 (hn : 0 + 1024 ≤ 3072) : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4).1,
    ∀ x : p.1.shape.Idx, p.2 x = cols (n := 1024) (o := 0) hn (k0_pay3 (F := Ideal) x0 x1) x2 (p.1.emb x) := by
  rw [pieces_5, load_whole harg1 x0 inb_S1024x1024_S1024x1024_0_0 (by decide), load_whole harg2 x1 inb_S1x1024_S1x1024_0_0 (by decide)]
  exact List.forall_mem_cons.2 ⟨piece hn harg3 x2 768 768 rfl inb_S1024x1024_S1024x256_0_768 inb_S1024x3072_S1024x256_0_768 (k0_pay3 (F := Ideal) x0 x1) (tile_8 _ _),
    List.forall_mem_cons.2 ⟨piece hn harg3 x2 512 512 rfl inb_S1024x1024_S1024x256_0_512 inb_S1024x3072_S1024x256_0_512 (k0_pay3 (F := Ideal) x0 x1) (tile_6 _ _ _),
    List.forall_mem_cons.2 ⟨piece hn harg3 x2 256 256 rfl inb_S1024x1024_S1024x256_0_256 inb_S1024x3072_S1024x256_0_256 (k0_pay3 (F := Ideal) x0 x1) (tile_5 _ _ _),
    List.forall_mem_cons.2 ⟨piece hn harg3 x2 0 0 rfl inb_S1024x1024_S1024x256_0_0 inb_S1024x3072_S1024x256_0_0 (k0_pay3 (F := Ideal) x0 x1) (tile_4 _ _ _),
    fun p hp => absurd hp List.not_mem_nil⟩⟩⟩⟩

/-- What the body leaves in output 5's block. -/
theorem out_5 (hn : 0 + 1024 ≤ 3072) : out0_A_5 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4
    = cols (n := 1024) (o := 0) hn (k0_pay3 (F := Ideal) x0 x1) x2 := by
  unfold out0_A_5
  refine (funext fun y => View.read_writes_junk_apply_eq_canon VO0_5 y _).trans ?_
  exact funext fun y => View.canon_apply_of_pieces _ _ (tiles_5 c i arg1 harg1 arg2 harg2 arg3 harg3 arg4 harg4 arg5 harg5 arg6 harg6 arg7 harg7 arg8 harg8 arg9 harg9 arg10 harg10 arg11 harg11 arg12 harg12 arg13 harg13 x0 x1 x2 x3 x4 hn) y
    (cover0_A_5 c i arg1 harg1 arg2 harg2 arg3 harg3 arg4 harg4 arg5 harg5 arg6 harg6 arg7 harg7 arg8 harg8 arg9 harg9 arg10 harg10 arg11 harg11 arg12 harg12 arg13 harg13 x0 x1 x2 x3 x4 y)

theorem pieces_6 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4).2.1
    = [⟨Rect.unit (s := S1024x512) ![0, 256] S1024x256.size inb_S1024x512_S1024x256_0_256, k0_pay10 (F := Ideal) (k0_pay3 (F := Ideal) (View.readAt (Elt Ideal) arg1.view (Rect.unit ![0, 0] S1024x1024.size inb_S1024x1024_S1024x1024_0_0).toLoadRect (harg1.unread x0)) (View.readAt (Elt Ideal) arg2.view (Rect.unit ![0, 0] S1x1024.size inb_S1x1024_S1x1024_0_0).toLoadRect (harg2.unread x1))) (View.readAt (Elt Ideal) arg3.view (Rect.unit (s := S1024x3072) ![0, 1280] S1024x256.size inb_S1024x3072_S1024x256_0_1280).toLoadRect (harg3.unread x2))⟩,
      ⟨Rect.unit (s := S1024x512) ![0, 0] S1024x256.size inb_S1024x512_S1024x256_0_0, k0_pay9 (F := Ideal) (k0_pay3 (F := Ideal) (View.readAt (Elt Ideal) arg1.view (Rect.unit ![0, 0] S1024x1024.size inb_S1024x1024_S1024x1024_0_0).toLoadRect (harg1.unread x0)) (View.readAt (Elt Ideal) arg2.view (Rect.unit ![0, 0] S1x1024.size inb_S1x1024_S1x1024_0_0).toLoadRect (harg2.unread x1))) (View.readAt (Elt Ideal) arg3.view (Rect.unit (s := S1024x3072) ![0, 1024] S1024x256.size inb_S1024x3072_S1024x256_0_1024).toLoadRect (harg3.unread x2))⟩] := rfl

/-- Every tile the body stores in output 6. -/
theorem tiles_6 (hn : 1024 + 512 ≤ 3072) : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4).2.1,
    ∀ x : p.1.shape.Idx, p.2 x = cols (n := 512) (o := 1024) hn (k0_pay3 (F := Ideal) x0 x1) x2 (p.1.emb x) := by
  rw [pieces_6, load_whole harg1 x0 inb_S1024x1024_S1024x1024_0_0 (by decide), load_whole harg2 x1 inb_S1x1024_S1x1024_0_0 (by decide)]
  exact List.forall_mem_cons.2 ⟨piece hn harg3 x2 256 1280 rfl inb_S1024x512_S1024x256_0_256 inb_S1024x3072_S1024x256_0_1280 (k0_pay3 (F := Ideal) x0 x1) (tile_10 _ _),
    List.forall_mem_cons.2 ⟨piece hn harg3 x2 0 1024 rfl inb_S1024x512_S1024x256_0_0 inb_S1024x3072_S1024x256_0_1024 (k0_pay3 (F := Ideal) x0 x1) (tile_9 _ _),
    fun p hp => absurd hp List.not_mem_nil⟩⟩

/-- What the body leaves in output 6's block. -/
theorem out_6 (hn : 1024 + 512 ≤ 3072) : out0_A_6 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4
    = cols (n := 512) (o := 1024) hn (k0_pay3 (F := Ideal) x0 x1) x2 := by
  unfold out0_A_6
  refine (funext fun y => View.read_writes_junk_apply_eq_canon VO0_6 y _).trans ?_
  exact funext fun y => View.canon_apply_of_pieces _ _ (tiles_6 c i arg1 harg1 arg2 harg2 arg3 harg3 arg4 harg4 arg5 harg5 arg6 harg6 arg7 harg7 arg8 harg8 arg9 harg9 arg10 harg10 arg11 harg11 arg12 harg12 arg13 harg13 x0 x1 x2 x3 x4 hn) y
    (cover0_A_6 c i arg1 harg1 arg2 harg2 arg3 harg3 arg4 harg4 arg5 harg5 arg6 harg6 arg7 harg7 arg8 harg8 arg9 harg9 arg10 harg10 arg11 harg11 arg12 harg12 arg13 harg13 x0 x1 x2 x3 x4 y)

theorem pieces_7 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4).2.2.1
    = [⟨Rect.unit (s := S1024x256) ![0, 0] S1024x256.size inb_S1024x256_S1024x256_0_0, k0_pay11 (F := Ideal) (k0_pay3 (F := Ideal) (View.readAt (Elt Ideal) arg1.view (Rect.unit ![0, 0] S1024x1024.size inb_S1024x1024_S1024x1024_0_0).toLoadRect (harg1.unread x0)) (View.readAt (Elt Ideal) arg2.view (Rect.unit ![0, 0] S1x1024.size inb_S1x1024_S1x1024_0_0).toLoadRect (harg2.unread x1))) (View.readAt (Elt Ideal) arg3.view (Rect.unit (s := S1024x3072) ![0, 1536] S1024x256.size inb_S1024x3072_S1024x256_0_1536).toLoadRect (harg3.unread x2))⟩] := rfl

/-- Every tile the body stores in output 7. -/
theorem tiles_7 (hn : 1536 + 256 ≤ 3072) : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4).2.2.1,
    ∀ x : p.1.shape.Idx, p.2 x = cols (n := 256) (o := 1536) hn (k0_pay3 (F := Ideal) x0 x1) x2 (p.1.emb x) := by
  rw [pieces_7, load_whole harg1 x0 inb_S1024x1024_S1024x1024_0_0 (by decide), load_whole harg2 x1 inb_S1x1024_S1x1024_0_0 (by decide)]
  exact List.forall_mem_cons.2 ⟨piece hn harg3 x2 0 1536 rfl inb_S1024x256_S1024x256_0_0 inb_S1024x3072_S1024x256_0_1536 (k0_pay3 (F := Ideal) x0 x1) (tile_11 _ _),
    fun p hp => absurd hp List.not_mem_nil⟩

/-- What the body leaves in output 7's block. -/
theorem out_7 (hn : 1536 + 256 ≤ 3072) : out0_A_7 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4
    = cols (n := 256) (o := 1536) hn (k0_pay3 (F := Ideal) x0 x1) x2 := by
  unfold out0_A_7
  refine (funext fun y => View.read_writes_junk_apply_eq_canon VO0_7 y _).trans ?_
  exact funext fun y => View.canon_apply_of_pieces _ _ (tiles_7 c i arg1 harg1 arg2 harg2 arg3 harg3 arg4 harg4 arg5 harg5 arg6 harg6 arg7 harg7 arg8 harg8 arg9 harg9 arg10 harg10 arg11 harg11 arg12 harg12 arg13 harg13 x0 x1 x2 x3 x4 hn) y
    (cover0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 y)

theorem pieces_8 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4).2.2.2.1
    = [⟨Rect.unit (s := S1024x768) ![0, 512] S1024x256.size inb_S1024x768_S1024x256_0_512, k0_pay14 (F := Ideal) (k0_pay3 (F := Ideal) (View.readAt (Elt Ideal) arg1.view (Rect.unit ![0, 0] S1024x1024.size inb_S1024x1024_S1024x1024_0_0).toLoadRect (harg1.unread x0)) (View.readAt (Elt Ideal) arg2.view (Rect.unit ![0, 0] S1x1024.size inb_S1x1024_S1x1024_0_0).toLoadRect (harg2.unread x1))) (View.readAt (Elt Ideal) arg3.view (Rect.unit (s := S1024x3072) ![0, 2304] S1024x256.size inb_S1024x3072_S1024x256_0_2304).toLoadRect (harg3.unread x2))⟩,
      ⟨Rect.unit (s := S1024x768) ![0, 256] S1024x256.size inb_S1024x768_S1024x256_0_256, k0_pay13 (F := Ideal) (k0_pay3 (F := Ideal) (View.readAt (Elt Ideal) arg1.view (Rect.unit ![0, 0] S1024x1024.size inb_S1024x1024_S1024x1024_0_0).toLoadRect (harg1.unread x0)) (View.readAt (Elt Ideal) arg2.view (Rect.unit ![0, 0] S1x1024.size inb_S1x1024_S1x1024_0_0).toLoadRect (harg2.unread x1))) (View.readAt (Elt Ideal) arg3.view (Rect.unit (s := S1024x3072) ![0, 2048] S1024x256.size inb_S1024x3072_S1024x256_0_2048).toLoadRect (harg3.unread x2))⟩,
      ⟨Rect.unit (s := S1024x768) ![0, 0] S1024x256.size inb_S1024x768_S1024x256_0_0, k0_pay12 (F := Ideal) (k0_pay3 (F := Ideal) (View.readAt (Elt Ideal) arg1.view (Rect.unit ![0, 0] S1024x1024.size inb_S1024x1024_S1024x1024_0_0).toLoadRect (harg1.unread x0)) (View.readAt (Elt Ideal) arg2.view (Rect.unit ![0, 0] S1x1024.size inb_S1x1024_S1x1024_0_0).toLoadRect (harg2.unread x1))) (View.readAt (Elt Ideal) arg3.view (Rect.unit (s := S1024x3072) ![0, 1792] S1024x256.size inb_S1024x3072_S1024x256_0_1792).toLoadRect (harg3.unread x2))⟩] := rfl

/-- Every tile the body stores in output 8. -/
theorem tiles_8 (hn : 1792 + 768 ≤ 3072) : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4).2.2.2.1,
    ∀ x : p.1.shape.Idx, p.2 x = cols (n := 768) (o := 1792) hn (k0_pay3 (F := Ideal) x0 x1) x2 (p.1.emb x) := by
  rw [pieces_8, load_whole harg1 x0 inb_S1024x1024_S1024x1024_0_0 (by decide), load_whole harg2 x1 inb_S1x1024_S1x1024_0_0 (by decide)]
  exact List.forall_mem_cons.2 ⟨piece hn harg3 x2 512 2304 rfl inb_S1024x768_S1024x256_0_512 inb_S1024x3072_S1024x256_0_2304 (k0_pay3 (F := Ideal) x0 x1) (tile_14 _ _),
    List.forall_mem_cons.2 ⟨piece hn harg3 x2 256 2048 rfl inb_S1024x768_S1024x256_0_256 inb_S1024x3072_S1024x256_0_2048 (k0_pay3 (F := Ideal) x0 x1) (tile_13 _ _),
    List.forall_mem_cons.2 ⟨piece hn harg3 x2 0 1792 rfl inb_S1024x768_S1024x256_0_0 inb_S1024x3072_S1024x256_0_1792 (k0_pay3 (F := Ideal) x0 x1) (tile_12 _ _),
    fun p hp => absurd hp List.not_mem_nil⟩⟩⟩

/-- What the body leaves in output 8's block. -/
theorem out_8 (hn : 1792 + 768 ≤ 3072) : out0_A_8 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4
    = cols (n := 768) (o := 1792) hn (k0_pay3 (F := Ideal) x0 x1) x2 := by
  unfold out0_A_8
  refine (funext fun y => View.read_writes_junk_apply_eq_canon VO0_8 y _).trans ?_
  exact funext fun y => View.canon_apply_of_pieces _ _ (tiles_8 c i arg1 harg1 arg2 harg2 arg3 harg3 arg4 harg4 arg5 harg5 arg6 harg6 arg7 harg7 arg8 harg8 arg9 harg9 arg10 harg10 arg11 harg11 arg12 harg12 arg13 harg13 x0 x1 x2 x3 x4 hn) y
    (cover0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 y)

theorem pieces_9 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4).2.2.2.2.1
    = [⟨Rect.unit (s := S1024x512) ![0, 256] S1024x256.size inb_S1024x512_S1024x256_0_256, k0_pay16 (F := Ideal) (k0_pay3 (F := Ideal) (View.readAt (Elt Ideal) arg1.view (Rect.unit ![0, 0] S1024x1024.size inb_S1024x1024_S1024x1024_0_0).toLoadRect (harg1.unread x0)) (View.readAt (Elt Ideal) arg2.view (Rect.unit ![0, 0] S1x1024.size inb_S1x1024_S1x1024_0_0).toLoadRect (harg2.unread x1))) (View.readAt (Elt Ideal) arg3.view (Rect.unit (s := S1024x3072) ![0, 2816] S1024x256.size inb_S1024x3072_S1024x256_0_2816).toLoadRect (harg3.unread x2))⟩,
      ⟨Rect.unit (s := S1024x512) ![0, 0] S1024x256.size inb_S1024x512_S1024x256_0_0, k0_pay15 (F := Ideal) (k0_pay3 (F := Ideal) (View.readAt (Elt Ideal) arg1.view (Rect.unit ![0, 0] S1024x1024.size inb_S1024x1024_S1024x1024_0_0).toLoadRect (harg1.unread x0)) (View.readAt (Elt Ideal) arg2.view (Rect.unit ![0, 0] S1x1024.size inb_S1x1024_S1x1024_0_0).toLoadRect (harg2.unread x1))) (View.readAt (Elt Ideal) arg3.view (Rect.unit (s := S1024x3072) ![0, 2560] S1024x256.size inb_S1024x3072_S1024x256_0_2560).toLoadRect (harg3.unread x2))⟩] := rfl

/-- Every tile the body stores in output 9. -/
theorem tiles_9 (hn : 2560 + 512 ≤ 3072) : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4).2.2.2.2.1,
    ∀ x : p.1.shape.Idx, p.2 x = cols (n := 512) (o := 2560) hn (k0_pay3 (F := Ideal) x0 x1) x2 (p.1.emb x) := by
  rw [pieces_9, load_whole harg1 x0 inb_S1024x1024_S1024x1024_0_0 (by decide), load_whole harg2 x1 inb_S1x1024_S1x1024_0_0 (by decide)]
  exact List.forall_mem_cons.2 ⟨piece hn harg3 x2 256 2816 rfl inb_S1024x512_S1024x256_0_256 inb_S1024x3072_S1024x256_0_2816 (k0_pay3 (F := Ideal) x0 x1) (tile_16 _ _),
    List.forall_mem_cons.2 ⟨piece hn harg3 x2 0 2560 rfl inb_S1024x512_S1024x256_0_0 inb_S1024x3072_S1024x256_0_2560 (k0_pay3 (F := Ideal) x0 x1) (tile_15 _ _),
    fun p hp => absurd hp List.not_mem_nil⟩⟩

/-- What the body leaves in output 9's block. -/
theorem out_9 (hn : 2560 + 512 ≤ 3072) : out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4
    = cols (n := 512) (o := 2560) hn (k0_pay3 (F := Ideal) x0 x1) x2 := by
  unfold out0_A_9
  refine (funext fun y => View.read_writes_junk_apply_eq_canon VO0_9 y _).trans ?_
  exact funext fun y => View.canon_apply_of_pieces _ _ (tiles_9 c i arg1 harg1 arg2 harg2 arg3 harg3 arg4 harg4 arg5 harg5 arg6 harg6 arg7 harg7 arg8 harg8 arg9 harg9 arg10 harg10 arg11 harg11 arg12 harg12 arg13 harg13 x0 x1 x2 x3 x4 hn) y
    (cover0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 y)

theorem pieces_10 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4).2.2.2.2.2.1
    = [⟨Rect.unit (s := S8x256x128) ![7, 0, 0] S1x256x128.size inb_S8x256x128_S1x256x128_7_0_0, k0_pay26 (F := Ideal) (k0_pay17 (F := Ideal) (k0_pay3 (F := Ideal) (View.readAt (Elt Ideal) arg1.view (Rect.unit ![0, 0] S1024x1024.size inb_S1024x1024_S1024x1024_0_0).toLoadRect (harg1.unread x0)) (View.readAt (Elt Ideal) arg2.view (Rect.unit ![0, 0] S1x1024.size inb_S1x1024_S1x1024_0_0).toLoadRect (harg2.unread x1))) (View.readAt (Elt Ideal) arg4.view (Rect.unit ![0, 0] S1024x256.size inb_S1024x256_S1024x256_0_0).toLoadRect (harg4.unread x3)))⟩,
      ⟨Rect.unit (s := S8x256x128) ![6, 0, 0] S1x256x128.size inb_S8x256x128_S1x256x128_6_0_0, k0_pay25 (F := Ideal) (k0_pay17 (F := Ideal) (k0_pay3 (F := Ideal) (View.readAt (Elt Ideal) arg1.view (Rect.unit ![0, 0] S1024x1024.size inb_S1024x1024_S1024x1024_0_0).toLoadRect (harg1.unread x0)) (View.readAt (Elt Ideal) arg2.view (Rect.unit ![0, 0] S1x1024.size inb_S1x1024_S1x1024_0_0).toLoadRect (harg2.unread x1))) (View.readAt (Elt Ideal) arg4.view (Rect.unit ![0, 0] S1024x256.size inb_S1024x256_S1024x256_0_0).toLoadRect (harg4.unread x3)))⟩,
      ⟨Rect.unit (s := S8x256x128) ![5, 0, 0] S1x256x128.size inb_S8x256x128_S1x256x128_5_0_0, k0_pay24 (F := Ideal) (k0_pay17 (F := Ideal) (k0_pay3 (F := Ideal) (View.readAt (Elt Ideal) arg1.view (Rect.unit ![0, 0] S1024x1024.size inb_S1024x1024_S1024x1024_0_0).toLoadRect (harg1.unread x0)) (View.readAt (Elt Ideal) arg2.view (Rect.unit ![0, 0] S1x1024.size inb_S1x1024_S1x1024_0_0).toLoadRect (harg2.unread x1))) (View.readAt (Elt Ideal) arg4.view (Rect.unit ![0, 0] S1024x256.size inb_S1024x256_S1024x256_0_0).toLoadRect (harg4.unread x3)))⟩,
      ⟨Rect.unit (s := S8x256x128) ![4, 0, 0] S1x256x128.size inb_S8x256x128_S1x256x128_4_0_0, k0_pay23 (F := Ideal) (k0_pay17 (F := Ideal) (k0_pay3 (F := Ideal) (View.readAt (Elt Ideal) arg1.view (Rect.unit ![0, 0] S1024x1024.size inb_S1024x1024_S1024x1024_0_0).toLoadRect (harg1.unread x0)) (View.readAt (Elt Ideal) arg2.view (Rect.unit ![0, 0] S1x1024.size inb_S1x1024_S1x1024_0_0).toLoadRect (harg2.unread x1))) (View.readAt (Elt Ideal) arg4.view (Rect.unit ![0, 0] S1024x256.size inb_S1024x256_S1024x256_0_0).toLoadRect (harg4.unread x3)))⟩,
      ⟨Rect.unit (s := S8x256x128) ![3, 0, 0] S1x256x128.size inb_S8x256x128_S1x256x128_3_0_0, k0_pay22 (F := Ideal) (k0_pay17 (F := Ideal) (k0_pay3 (F := Ideal) (View.readAt (Elt Ideal) arg1.view (Rect.unit ![0, 0] S1024x1024.size inb_S1024x1024_S1024x1024_0_0).toLoadRect (harg1.unread x0)) (View.readAt (Elt Ideal) arg2.view (Rect.unit ![0, 0] S1x1024.size inb_S1x1024_S1x1024_0_0).toLoadRect (harg2.unread x1))) (View.readAt (Elt Ideal) arg4.view (Rect.unit ![0, 0] S1024x256.size inb_S1024x256_S1024x256_0_0).toLoadRect (harg4.unread x3)))⟩,
      ⟨Rect.unit (s := S8x256x128) ![2, 0, 0] S1x256x128.size inb_S8x256x128_S1x256x128_2_0_0, k0_pay21 (F := Ideal) (k0_pay20 (F := Ideal) (k0_pay3 (F := Ideal) (View.readAt (Elt Ideal) arg1.view (Rect.unit ![0, 0] S1024x1024.size inb_S1024x1024_S1024x1024_0_0).toLoadRect (harg1.unread x0)) (View.readAt (Elt Ideal) arg2.view (Rect.unit ![0, 0] S1x1024.size inb_S1x1024_S1x1024_0_0).toLoadRect (harg2.unread x1))) (View.readAt (Elt Ideal) arg4.view (Rect.unit ![0, 0] S1024x256.size inb_S1024x256_S1024x256_0_0).toLoadRect (harg4.unread x3)))⟩,
      ⟨Rect.unit (s := S8x256x128) ![1, 0, 0] S1x256x128.size inb_S8x256x128_S1x256x128_1_0_0, k0_pay19 (F := Ideal) (k0_pay3 (F := Ideal) (View.readAt (Elt Ideal) arg1.view (Rect.unit ![0, 0] S1024x1024.size inb_S1024x1024_S1024x1024_0_0).toLoadRect (harg1.unread x0)) (View.readAt (Elt Ideal) arg2.view (Rect.unit ![0, 0] S1x1024.size inb_S1x1024_S1x1024_0_0).toLoadRect (harg2.unread x1))) (View.readAt (Elt Ideal) arg4.view (Rect.unit ![0, 0] S1024x256.size inb_S1024x256_S1024x256_0_0).toLoadRect (harg4.unread x3))⟩,
      ⟨Rect.unit (s := S8x256x128) ![0, 0, 0] S1x256x128.size inb_S8x256x128_S1x256x128_0_0_0, k0_pay18 (F := Ideal) (k0_pay3 (F := Ideal) (View.readAt (Elt Ideal) arg1.view (Rect.unit ![0, 0] S1024x1024.size inb_S1024x1024_S1024x1024_0_0).toLoadRect (harg1.unread x0)) (View.readAt (Elt Ideal) arg2.view (Rect.unit ![0, 0] S1x1024.size inb_S1x1024_S1x1024_0_0).toLoadRect (harg2.unread x1))) (View.readAt (Elt Ideal) arg4.view (Rect.unit ![0, 0] S1024x256.size inb_S1024x256_S1024x256_0_0).toLoadRect (harg4.unread x3))⟩] := rfl

/-- Every tile of the transposed values that the body stores. -/
theorem tiles_10 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4).2.2.2.2.2.1,
    ∀ x : p.1.shape.Idx, p.2 x = tiled (tile (k0_pay3 (F := Ideal) x0 x1) x3) (p.1.emb x) := by
  rw [pieces_10, load_whole harg1 x0 inb_S1024x1024_S1024x1024_0_0 (by decide), load_whole harg2 x1 inb_S1x1024_S1x1024_0_0 (by decide),
    load_whole harg4 x3 inb_S1024x256_S1024x256_0_0 (by decide)]
  exact List.forall_mem_cons.2 ⟨fun x => (congrFun (tile_26 _ _) x).trans (turned_tile 7 896 rfl slices_S1024x256_o896_0_S128x256 inb_S8x256x128_S1x256x128_7_0_0 (tile (k0_pay3 (F := Ideal) x0 x1) x3) x),
    List.forall_mem_cons.2 ⟨fun x => (congrFun (tile_25 _ _) x).trans (turned_tile 6 768 rfl slices_S1024x256_o768_0_S128x256 inb_S8x256x128_S1x256x128_6_0_0 (tile (k0_pay3 (F := Ideal) x0 x1) x3) x),
    List.forall_mem_cons.2 ⟨fun x => (congrFun (tile_24 _ _) x).trans (turned_tile 5 640 rfl slices_S1024x256_o640_0_S128x256 inb_S8x256x128_S1x256x128_5_0_0 (tile (k0_pay3 (F := Ideal) x0 x1) x3) x),
    List.forall_mem_cons.2 ⟨fun x => (congrFun (tile_23 _ _) x).trans (turned_tile 4 512 rfl slices_S1024x256_o512_0_S128x256 inb_S8x256x128_S1x256x128_4_0_0 (tile (k0_pay3 (F := Ideal) x0 x1) x3) x),
    List.forall_mem_cons.2 ⟨fun x => (congrFun (tile_22 _ _) x).trans (turned_tile 3 384 rfl slices_S1024x256_o384_0_S128x256 inb_S8x256x128_S1x256x128_3_0_0 (tile (k0_pay3 (F := Ideal) x0 x1) x3) x),
    List.forall_mem_cons.2 ⟨fun x => (congrFun (tile_21 _ _) x).trans (turned_tile 2 256 rfl slices_S1024x256_o256_0_S128x256 inb_S8x256x128_S1x256x128_2_0_0 (tile (k0_pay3 (F := Ideal) x0 x1) x3) x),
    List.forall_mem_cons.2 ⟨fun x => (congrFun (tile_19 _ _) x).trans (turned_tile 1 128 rfl slices_S1024x256_o128_0_S128x256 inb_S8x256x128_S1x256x128_1_0_0 (tile (k0_pay3 (F := Ideal) x0 x1) x3) x),
    List.forall_mem_cons.2 ⟨fun x => (congrFun (tile_18 _ _) x).trans (turned_tile 0 0 rfl slices_S1024x256_o0_0_S128x256 inb_S8x256x128_S1x256x128_0_0_0 (tile (k0_pay3 (F := Ideal) x0 x1) x3) x),
    fun p hp => absurd hp List.not_mem_nil⟩⟩⟩⟩⟩⟩⟩⟩

theorem out_10 : out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4
    = tiled (tile (k0_pay3 (F := Ideal) x0 x1) x3) := by
  unfold out0_A_10
  refine (funext fun y => View.read_writes_junk_apply_eq_canon VO0_10 y _).trans ?_
  exact funext fun y => View.canon_apply_of_pieces _ _ (tiles_10 c i arg1 harg1 arg2 harg2 arg3 harg3 arg4 harg4 arg5 harg5 arg6 harg6 arg7 harg7 arg8 harg8 arg9 harg9 arg10 harg10 arg11 harg11 arg12 harg12 arg13 harg13 x0 x1 x2 x3 x4) y
    (cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 y)

end Cert.Proof.Proj
-- ==== Proof.ProjArray.lean ====
/-
  The input projection's arrays after the run: every row of the argument normalised, times the weights' columns.
-/
module

public import proofs.«01_k».proof.Proof.ProjBlock

@[expose] public section

noncomputable section

namespace Cert.Proof.Proj

open Cert.ProjIdeal Cert.ProjIdeal.Gen Cert.ProjIdeal.Value
open Idealize.ShloMosaic Idealize.ShloMosaic.TcCoe Idealize.SL.Sem
open Idealize.ShloMosaic.Pipeline (Dat)
open Idealize.ShloMosaic.ValueIdx
open Cert.Proof.Mix (normRow)

/-- Every row normalised, times the columns from `o` on. -/
def projArr {n o : Nat} (hn : o + n ≤ 3072) (x : FVec Ideal S65536x1024 .f32) (g : FVec Ideal S1x1024 .f32) (w : FVec Ideal S1024x3072 .bf16) :
    (⟨2, ![65536, n]⟩ : Shape).Idx → EReal := fun j =>
  projRow (normRow (fun e => x (ix2 (j 0) e)) (fun e => g (ix2 (0 : Fin 1) e))) (fun e f => w (ix2 e f))
    ⟨o + (j 1).val, by have h : (j 1).val < n := (j 1).isLt; omega⟩

theorem cols_row {n o : Nat} (hn : o + n ≤ 3072) (y : FVec Ideal S1024x1024 .f32) (g : FVec Ideal S1x1024 .f32) (w : FVec Ideal S1024x3072 .bf16)
    (x : FVec Ideal S65536x1024 .f32) (r : Fin 1024) (R : Fin 65536) (d : Fin n) (h : ∀ e : Fin 1024, y (ix2 r e) = x (ix2 R e)) :
    cols hn (k0_pay3 (F := Ideal) y g) w (ix2 r d) = projArr hn x g w (ix2 R d) := by
  have hu : (fun e => k0_pay3 (F := Ideal) y g (ix2 r e)) = normRow (fun e => x (ix2 R e)) (fun e => g (ix2 (0 : Fin 1) e)) :=
    funext fun e => (norm_apply y g r e).trans (congrArg (fun z => normRow z (fun e => g (ix2 (0 : Fin 1) e)) e) (funext h))
  exact congrArg (fun u => projRow u (fun e f => w (ix2 e f)) (⟨o + d.val, by omega⟩ : Fin 3072)) hu

/-- Every row normalised, times the value weights, and each tile of 128 rows transposed. -/
def turnArr (x : FVec Ideal S65536x1024 .f32) (g : FVec Ideal S1x1024 .f32) (wv : FVec Ideal S1024x256 .bf16) : FVec Ideal S512x256x128 .bf16 := fun j =>
  ∑ e : Fin 1024, normRow (fun e => x (ix2 (⟨(j 0).val * 128 + (j 2).val, by have h0 : (j 0).val < 512 := (j 0).isLt; have h2 : (j 2).val < 128 := (j 2).isLt; omega⟩ : Fin 65536) e))
    (fun e => g (ix2 (0 : Fin 1) e)) e * wv (ix2 e (j 1))

variable (m : (ℓ : Loc nD τ sig) → Buf (Elt Ideal) ℓ) (ρ : Dev nD → PrngReg)

/-! ## Where a point's blocks are -/

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_5 : ∀ t : Fin cfg0.N, win0_5.index t (0 : Fin 2) = t.val ∧ win0_5.index t (1 : Fin 2) = 0 :=
  (by decide +kernel : ∀ t : Fin grid0.N, _)
theorem idx_6 : ∀ t : Fin cfg0.N, win0_6.index t (0 : Fin 2) = t.val ∧ win0_6.index t (1 : Fin 2) = 0 :=
  (by decide +kernel : ∀ t : Fin grid0.N, _)
theorem idx_7 : ∀ t : Fin cfg0.N, win0_7.index t (0 : Fin 2) = t.val ∧ win0_7.index t (1 : Fin 2) = 0 :=
  (by decide +kernel : ∀ t : Fin grid0.N, _)
theorem idx_8 : ∀ t : Fin cfg0.N, win0_8.index t (0 : Fin 2) = t.val ∧ win0_8.index t (1 : Fin 2) = 0 :=
  (by decide +kernel : ∀ t : Fin grid0.N, _)
theorem idx_9 : ∀ t : Fin cfg0.N, win0_9.index t (0 : Fin 2) = t.val ∧ win0_9.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_10 : ∀ t : Fin cfg0.N, win0_10.index t (0 : Fin 3) = t.val ∧ win0_10.index t (1 : Fin 3) = 0 ∧ win0_10.index t (2 : Fin 3) = 0 :=
  (by decide +kernel : ∀ t : Fin grid0.N, _)

/-- The row of the array that a block's row is. -/
def rowOf (t : Fin cfg0.N) (r : Fin 1024) : Fin 65536 :=
  ⟨t.val * 1024 + r.val, by have := t.isLt; have h : cfg0.N = 64 := N_0; omega⟩

theorem emb0 (t : Fin cfg0.N) (r : Fin 1024) (e : Fin 1024) : ((cfg0.win 0).blk t).view.emb (ix2 r e) = ix2 (rowOf t r) e := by
  obtain ⟨h0, h1⟩ := idx_0 t
  funext a; apply Fin.ext
  match a with
  | ⟨0, _⟩ => show win0_0.index t (0 : Fin 2) * 1024 + 1 * r.val = t.val * 1024 + r.val; omega
  | ⟨1, _⟩ => show win0_0.index t (1 : Fin 2) * 1024 + 1 * e.val = e.val; omega

theorem emb5 (t : Fin cfg0.N) (r : Fin 1024) (e : Fin 1024) : ((cfg0.win 5).blk t).view.emb (ix2 r e) = ix2 (rowOf t r) e := by
  obtain ⟨h0, h1⟩ := idx_5 t
  funext a; apply Fin.ext
  match a with
  | ⟨0, _⟩ => show win0_5.index t (0 : Fin 2) * 1024 + 1 * r.val = t.val * 1024 + r.val; omega
  | ⟨1, _⟩ => show win0_5.index t (1 : Fin 2) * 1024 + 1 * e.val = e.val; omega

theorem emb6 (t : Fin cfg0.N) (r : Fin 1024) (e : Fin 512) : ((cfg0.win 6).blk t).view.emb (ix2 r e) = ix2 (rowOf t r) e := by
  obtain ⟨h0, h1⟩ := idx_6 t
  funext a; apply Fin.ext
  match a with
  | ⟨0, _⟩ => show win0_6.index t (0 : Fin 2) * 1024 + 1 * r.val = t.val * 1024 + r.val; omega
  | ⟨1, _⟩ => show win0_6.index t (1 : Fin 2) * 512 + 1 * e.val = e.val; omega

theorem emb7 (t : Fin cfg0.N) (r : Fin 1024) (e : Fin 256) : ((cfg0.win 7).blk t).view.emb (ix2 r e) = ix2 (rowOf t r) e := by
  obtain ⟨h0, h1⟩ := idx_7 t
  funext a; apply Fin.ext
  match a with
  | ⟨0, _⟩ => show win0_7.index t (0 : Fin 2) * 1024 + 1 * r.val = t.val * 1024 + r.val; omega
  | ⟨1, _⟩ => show win0_7.index t (1 : Fin 2) * 256 + 1 * e.val = e.val; omega

theorem emb8 (t : Fin cfg0.N) (r : Fin 1024) (e : Fin 768) : ((cfg0.win 8).blk t).view.emb (ix2 r e) = ix2 (rowOf t r) e := by
  obtain ⟨h0, h1⟩ := idx_8 t
  funext a; apply Fin.ext
  match a with
  | ⟨0, _⟩ => show win0_8.index t (0 : Fin 2) * 1024 + 1 * r.val = t.val * 1024 + r.val; omega
  | ⟨1, _⟩ => show win0_8.index t (1 : Fin 2) * 768 + 1 * e.val = e.val; omega

theorem emb9 (t : Fin cfg0.N) (r : Fin 1024) (e : Fin 512) : ((cfg0.win 9).blk t).view.emb (ix2 r e) = ix2 (rowOf t r) e := by
  obtain ⟨h0, h1⟩ := idx_9 t
  funext a; apply Fin.ext
  match a with
  | ⟨0, _⟩ => show win0_9.index t (0 : Fin 2) * 1024 + 1 * r.val = t.val * 1024 + r.val; omega
  | ⟨1, _⟩ => show win0_9.index t (1 : Fin 2) * 512 + 1 * e.val = e.val; omega

theorem iblk1_eq (c : Dev nD) (t : Fin cfg0.N) : iblk m c 1 t = V m c main_v1 := by
  obtain ⟨h0, h1⟩ := idx_1 t
  funext j; refine congrArg (V m c main_v1) (funext fun a => Fin.ext ?_)
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem iblk2_eq (c : Dev nD) (t : Fin cfg0.N) : iblk m c 2 t = V m c main_v2 := by
  obtain ⟨h0, h1⟩ := idx_2 t
  funext j; refine congrArg (V m c main_v2) (funext fun a => Fin.ext ?_)
  match a with
  | ⟨0, _⟩ => show win0_2.index t (0 : Fin 2) * 1024 + 1 * (j 0).val = (j 0).val; omega
  | ⟨1, _⟩ => show win0_2.index t (1 : Fin 2) * 3072 + 1 * (j 1).val = (j 1).val; omega

/-! ## The outputs -/

theorem flushed_5 (hn : 0 + 1024 ≤ 3072) (c : Dev nD) (t : Fin cfg0.N) : (dats m 0 c).flushed 5 t
    = ((cfg0.win 5).blk t).view.read (Elt Ideal) (projArr (n := 1024) (o := 0) hn (V m c main_v0) (V m c main_v1) (V m c main_v2)) := by
  rw [flushed5_A, out_5 c _ _ _ _ _ _ _ _ _ _ _ _ _ _ _ _ _ _ _ _ _ _ _ _ _ _ _ _ _ _ _ _ hn, iblk1_eq, iblk2_eq]
  suffices h : ∀ (r : Fin 1024) (d : Fin 1024), cols (n := 1024) (o := 0) hn (k0_pay3 (F := Ideal) (iblk m c 0 t) (V m c main_v1)) (V m c main_v2) (ix2 r d)
      = projArr (n := 1024) (o := 0) hn (V m c main_v0) (V m c main_v1) (V m c main_v2) (((cfg0.win 5).blk t).view.emb (ix2 r d)) by
    funext j
    have hj : j = ix2 (j 0 : Fin 1024) (j 1 : Fin 1024) := funext fun a => match a with | ⟨0, _⟩ => rfl | ⟨1, _⟩ => rfl
    rw [hj]; exact h (j 0) (j 1)
  intro r d
  exact (cols_row hn _ _ _ (V m c main_v0) r (rowOf t r) d fun e => congrArg (V m c main_v0) (emb0 t r e)).trans
    (congrArg (projArr hn _ _ _) (emb5 t r d)).symm

theorem mem_blk5 (t : Fin cfg0.N) (i : S65536x1024.Idx) : i ∈ ((cfg0.win 5).blk t).view.set ↔ ∀ a : Fin 2,
    win0_5.index t a * S1024x1024.size a ≤ (i a).val ∧ (i a).val < win0_5.index t a * S1024x1024.size a + S1024x1024.size a := by
  show i ∈ ((View.whole main_v18_0).slice (win0_5.rect t)).set ↔ _
  rw [View.set_slice_whole, Rect.mem_set_unit]
  exact Iff.rfl

theorem covered_5 (i : S65536x1024.Idx) : ∃ t : Fin cfg0.N, (cfg0.win 5).flush t = true ∧ i ∈ ((cfg0.win 5).blk t).view.set := by
  have h0 : (i 0).val < 65536 := (i 0).isLt
  have h1 : (i 1).val < 1024 := (i 1).isLt
  have hN : cfg0.N = 64 := N_0
  refine ⟨⟨(i 0).val / 1024, by omega⟩, flush0_5 _, ?_⟩
  rw [mem_blk5]
  obtain ⟨e0, e1⟩ := idx_5 ⟨(i 0).val / 1024, by omega⟩
  intro a
  match a with
  | ⟨0, _⟩ => show win0_5.index _ (0 : Fin 2) * 1024 ≤ (i 0).val ∧ (i 0).val < win0_5.index _ (0 : Fin 2) * 1024 + 1024
              rw [e0]; dsimp only; omega
  | ⟨1, _⟩ => show win0_5.index _ (1 : Fin 2) * 1024 ≤ (i 1).val ∧ (i 1).val < win0_5.index _ (1 : Fin 2) * 1024 + 1024
              rw [e1]; omega

theorem arr_5 (hn : 0 + 1024 ≤ 3072) (c : Dev nD) : (dats m 0 c).arrAt 5 cfg0.N
    = projArr (n := 1024) (o := 0) hn (V m c main_v0) (V m c main_v1) (V m c main_v2) :=
  (dats m 0 c).arrAt_eq_of_cover 5 _ (fun t _ => flushed_5 m hn c t) covered_5

theorem flushed_6 (hn : 1024 + 512 ≤ 3072) (c : Dev nD) (t : Fin cfg0.N) : (dats m 0 c).flushed 6 t
    = ((cfg0.win 6).blk t).view.read (Elt Ideal) (projArr (n := 512) (o := 1024) hn (V m c main_v0) (V m c main_v1) (V m c main_v2)) := by
  rw [flushed6_A, out_6 c _ _ _ _ _ _ _ _ _ _ _ _ _ _ _ _ _ _ _ _ _ _ _ _ _ _ _ _ _ _ _ _ hn, iblk1_eq, iblk2_eq]
  suffices h : ∀ (r : Fin 1024) (d : Fin 512), cols (n := 512) (o := 1024) hn (k0_pay3 (F := Ideal) (iblk m c 0 t) (V m c main_v1)) (V m c main_v2) (ix2 r d)
      = projArr (n := 512) (o := 1024) hn (V m c main_v0) (V m c main_v1) (V m c main_v2) (((cfg0.win 6).blk t).view.emb (ix2 r d)) by
    funext j
    have hj : j = ix2 (j 0 : Fin 1024) (j 1 : Fin 512) := funext fun a => match a with | ⟨0, _⟩ => rfl | ⟨1, _⟩ => rfl
    rw [hj]; exact h (j 0) (j 1)
  intro r d
  exact (cols_row hn _ _ _ (V m c main_v0) r (rowOf t r) d fun e => congrArg (V m c main_v0) (emb0 t r e)).trans
    (congrArg (projArr hn _ _ _) (emb6 t r d)).symm

theorem mem_blk6 (t : Fin cfg0.N) (i : S65536x512.Idx) : i ∈ ((cfg0.win 6).blk t).view.set ↔ ∀ a : Fin 2,
    win0_6.index t a * S1024x512.size a ≤ (i a).val ∧ (i a).val < win0_6.index t a * S1024x512.size a + S1024x512.size a := by
  show i ∈ ((View.whole main_v18_1).slice (win0_6.rect t)).set ↔ _
  rw [View.set_slice_whole, Rect.mem_set_unit]
  exact Iff.rfl

theorem covered_6 (i : S65536x512.Idx) : ∃ t : Fin cfg0.N, (cfg0.win 6).flush t = true ∧ i ∈ ((cfg0.win 6).blk t).view.set := by
  have h0 : (i 0).val < 65536 := (i 0).isLt
  have h1 : (i 1).val < 512 := (i 1).isLt
  have hN : cfg0.N = 64 := N_0
  refine ⟨⟨(i 0).val / 1024, by omega⟩, flush0_6 _, ?_⟩
  rw [mem_blk6]
  obtain ⟨e0, e1⟩ := idx_6 ⟨(i 0).val / 1024, by omega⟩
  intro a
  match a with
  | ⟨0, _⟩ => show win0_6.index _ (0 : Fin 2) * 1024 ≤ (i 0).val ∧ (i 0).val < win0_6.index _ (0 : Fin 2) * 1024 + 1024
              rw [e0]; dsimp only; omega
  | ⟨1, _⟩ => show win0_6.index _ (1 : Fin 2) * 512 ≤ (i 1).val ∧ (i 1).val < win0_6.index _ (1 : Fin 2) * 512 + 512
              rw [e1]; omega

theorem arr_6 (hn : 1024 + 512 ≤ 3072) (c : Dev nD) : (dats m 0 c).arrAt 6 cfg0.N
    = projArr (n := 512) (o := 1024) hn (V m c main_v0) (V m c main_v1) (V m c main_v2) :=
  (dats m 0 c).arrAt_eq_of_cover 6 _ (fun t _ => flushed_6 m hn c t) covered_6

theorem flushed_7 (hn : 1536 + 256 ≤ 3072) (c : Dev nD) (t : Fin cfg0.N) : (dats m 0 c).flushed 7 t
    = ((cfg0.win 7).blk t).view.read (Elt Ideal) (projArr (n := 256) (o := 1536) hn (V m c main_v0) (V m c main_v1) (V m c main_v2)) := by
  rw [flushed7_A, out_7 c _ _ _ _ _ _ _ _ _ _ _ _ _ _ _ _ _ _ _ _ _ _ _ _ _ _ _ _ _ _ _ _ hn, iblk1_eq, iblk2_eq]
  suffices h : ∀ (r : Fin 1024) (d : Fin 256), cols (n := 256) (o := 1536) hn (k0_pay3 (F := Ideal) (iblk m c 0 t) (V m c main_v1)) (V m c main_v2) (ix2 r d)
      = projArr (n := 256) (o := 1536) hn (V m c main_v0) (V m c main_v1) (V m c main_v2) (((cfg0.win 7).blk t).view.emb (ix2 r d)) by
    funext j
    have hj : j = ix2 (j 0 : Fin 1024) (j 1 : Fin 256) := funext fun a => match a with | ⟨0, _⟩ => rfl | ⟨1, _⟩ => rfl
    rw [hj]; exact h (j 0) (j 1)
  intro r d
  exact (cols_row hn _ _ _ (V m c main_v0) r (rowOf t r) d fun e => congrArg (V m c main_v0) (emb0 t r e)).trans
    (congrArg (projArr hn _ _ _) (emb7 t r d)).symm

theorem mem_blk7 (t : Fin cfg0.N) (i : S65536x256.Idx) : i ∈ ((cfg0.win 7).blk t).view.set ↔ ∀ a : Fin 2,
    win0_7.index t a * S1024x256.size a ≤ (i a).val ∧ (i a).val < win0_7.index t a * S1024x256.size a + S1024x256.size a := by
  show i ∈ ((View.whole main_v18_2).slice (win0_7.rect t)).set ↔ _
  rw [View.set_slice_whole, Rect.mem_set_unit]
  exact Iff.rfl

theorem covered_7 (i : S65536x256.Idx) : ∃ t : Fin cfg0.N, (cfg0.win 7).flush t = true ∧ i ∈ ((cfg0.win 7).blk t).view.set := by
  have h0 : (i 0).val < 65536 := (i 0).isLt
  have h1 : (i 1).val < 256 := (i 1).isLt
  have hN : cfg0.N = 64 := N_0
  refine ⟨⟨(i 0).val / 1024, by omega⟩, flush0_7 _, ?_⟩
  rw [mem_blk7]
  obtain ⟨e0, e1⟩ := idx_7 ⟨(i 0).val / 1024, by omega⟩
  intro a
  match a with
  | ⟨0, _⟩ => show win0_7.index _ (0 : Fin 2) * 1024 ≤ (i 0).val ∧ (i 0).val < win0_7.index _ (0 : Fin 2) * 1024 + 1024
              rw [e0]; dsimp only; omega
  | ⟨1, _⟩ => show win0_7.index _ (1 : Fin 2) * 256 ≤ (i 1).val ∧ (i 1).val < win0_7.index _ (1 : Fin 2) * 256 + 256
              rw [e1]; omega

theorem arr_7 (hn : 1536 + 256 ≤ 3072) (c : Dev nD) : (dats m 0 c).arrAt 7 cfg0.N
    = projArr (n := 256) (o := 1536) hn (V m c main_v0) (V m c main_v1) (V m c main_v2) :=
  (dats m 0 c).arrAt_eq_of_cover 7 _ (fun t _ => flushed_7 m hn c t) covered_7

theorem flushed_8 (hn : 1792 + 768 ≤ 3072) (c : Dev nD) (t : Fin cfg0.N) : (dats m 0 c).flushed 8 t
    = ((cfg0.win 8).blk t).view.read (Elt Ideal) (projArr (n := 768) (o := 1792) hn (V m c main_v0) (V m c main_v1) (V m c main_v2)) := by
  rw [flushed8_A, out_8 c _ _ _ _ _ _ _ _ _ _ _ _ _ _ _ _ _ _ _ _ _ _ _ _ _ _ _ _ _ _ _ _ hn, iblk1_eq, iblk2_eq]
  suffices h : ∀ (r : Fin 1024) (d : Fin 768), cols (n := 768) (o := 1792) hn (k0_pay3 (F := Ideal) (iblk m c 0 t) (V m c main_v1)) (V m c main_v2) (ix2 r d)
      = projArr (n := 768) (o := 1792) hn (V m c main_v0) (V m c main_v1) (V m c main_v2) (((cfg0.win 8).blk t).view.emb (ix2 r d)) by
    funext j
    have hj : j = ix2 (j 0 : Fin 1024) (j 1 : Fin 768) := funext fun a => match a with | ⟨0, _⟩ => rfl | ⟨1, _⟩ => rfl
    rw [hj]; exact h (j 0) (j 1)
  intro r d
  exact (cols_row hn _ _ _ (V m c main_v0) r (rowOf t r) d fun e => congrArg (V m c main_v0) (emb0 t r e)).trans
    (congrArg (projArr hn _ _ _) (emb8 t r d)).symm

theorem mem_blk8 (t : Fin cfg0.N) (i : S65536x768.Idx) : i ∈ ((cfg0.win 8).blk t).view.set ↔ ∀ a : Fin 2,
    win0_8.index t a * S1024x768.size a ≤ (i a).val ∧ (i a).val < win0_8.index t a * S1024x768.size a + S1024x768.size a := by
  show i ∈ ((View.whole main_v18_3).slice (win0_8.rect t)).set ↔ _
  rw [View.set_slice_whole, Rect.mem_set_unit]
  exact Iff.rfl

theorem covered_8 (i : S65536x768.Idx) : ∃ t : Fin cfg0.N, (cfg0.win 8).flush t = true ∧ i ∈ ((cfg0.win 8).blk t).view.set := by
  have h0 : (i 0).val < 65536 := (i 0).isLt
  have h1 : (i 1).val < 768 := (i 1).isLt
  have hN : cfg0.N = 64 := N_0
  refine ⟨⟨(i 0).val / 1024, by omega⟩, flush0_8 _, ?_⟩
  rw [mem_blk8]
  obtain ⟨e0, e1⟩ := idx_8 ⟨(i 0).val / 1024, by omega⟩
  intro a
  match a with
  | ⟨0, _⟩ => show win0_8.index _ (0 : Fin 2) * 1024 ≤ (i 0).val ∧ (i 0).val < win0_8.index _ (0 : Fin 2) * 1024 + 1024
              rw [e0]; dsimp only; omega
  | ⟨1, _⟩ => show win0_8.index _ (1 : Fin 2) * 768 ≤ (i 1).val ∧ (i 1).val < win0_8.index _ (1 : Fin 2) * 768 + 768
              rw [e1]; omega

theorem arr_8 (hn : 1792 + 768 ≤ 3072) (c : Dev nD) : (dats m 0 c).arrAt 8 cfg0.N
    = projArr (n := 768) (o := 1792) hn (V m c main_v0) (V m c main_v1) (V m c main_v2) :=
  (dats m 0 c).arrAt_eq_of_cover 8 _ (fun t _ => flushed_8 m hn c t) covered_8

theorem flushed_9 (hn : 2560 + 512 ≤ 3072) (c : Dev nD) (t : Fin cfg0.N) : (dats m 0 c).flushed 9 t
    = ((cfg0.win 9).blk t).view.read (Elt Ideal) (projArr (n := 512) (o := 2560) hn (V m c main_v0) (V m c main_v1) (V m c main_v2)) := by
  rw [flushed9_A, out_9 c _ _ _ _ _ _ _ _ _ _ _ _ _ _ _ _ _ _ _ _ _ _ _ _ _ _ _ _ _ _ _ _ hn, iblk1_eq, iblk2_eq]
  suffices h : ∀ (r : Fin 1024) (d : Fin 512), cols (n := 512) (o := 2560) hn (k0_pay3 (F := Ideal) (iblk m c 0 t) (V m c main_v1)) (V m c main_v2) (ix2 r d)
      = projArr (n := 512) (o := 2560) hn (V m c main_v0) (V m c main_v1) (V m c main_v2) (((cfg0.win 9).blk t).view.emb (ix2 r d)) by
    funext j
    have hj : j = ix2 (j 0 : Fin 1024) (j 1 : Fin 512) := funext fun a => match a with | ⟨0, _⟩ => rfl | ⟨1, _⟩ => rfl
    rw [hj]; exact h (j 0) (j 1)
  intro r d
  exact (cols_row hn _ _ _ (V m c main_v0) r (rowOf t r) d fun e => congrArg (V m c main_v0) (emb0 t r e)).trans
    (congrArg (projArr hn _ _ _) (emb9 t r d)).symm

theorem mem_blk9 (t : Fin cfg0.N) (i : S65536x512.Idx) : i ∈ ((cfg0.win 9).blk t).view.set ↔ ∀ a : Fin 2,
    win0_9.index t a * S1024x512.size a ≤ (i a).val ∧ (i a).val < win0_9.index t a * S1024x512.size a + S1024x512.size a := by
  show i ∈ ((View.whole main_v18_4).slice (win0_9.rect t)).set ↔ _
  rw [View.set_slice_whole, Rect.mem_set_unit]
  exact Iff.rfl

theorem covered_9 (i : S65536x512.Idx) : ∃ t : Fin cfg0.N, (cfg0.win 9).flush t = true ∧ i ∈ ((cfg0.win 9).blk t).view.set := by
  have h0 : (i 0).val < 65536 := (i 0).isLt
  have h1 : (i 1).val < 512 := (i 1).isLt
  have hN : cfg0.N = 64 := N_0
  refine ⟨⟨(i 0).val / 1024, by omega⟩, flush0_9 _, ?_⟩
  rw [mem_blk9]
  obtain ⟨e0, e1⟩ := idx_9 ⟨(i 0).val / 1024, by omega⟩
  intro a
  match a with
  | ⟨0, _⟩ => show win0_9.index _ (0 : Fin 2) * 1024 ≤ (i 0).val ∧ (i 0).val < win0_9.index _ (0 : Fin 2) * 1024 + 1024
              rw [e0]; dsimp only; omega
  | ⟨1, _⟩ => show win0_9.index _ (1 : Fin 2) * 512 ≤ (i 1).val ∧ (i 1).val < win0_9.index _ (1 : Fin 2) * 512 + 512
              rw [e1]; omega

theorem arr_9 (hn : 2560 + 512 ≤ 3072) (c : Dev nD) : (dats m 0 c).arrAt 9 cfg0.N
    = projArr (n := 512) (o := 2560) hn (V m c main_v0) (V m c main_v1) (V m c main_v2) :=
  (dats m 0 c).arrAt_eq_of_cover 9 _ (fun t _ => flushed_9 m hn c t) covered_9

theorem iblk3_eq (c : Dev nD) (t : Fin cfg0.N) : iblk m c 3 t = V m c main_v3 := by
  obtain ⟨h0, h1⟩ := idx_3 t
  funext j; refine congrArg (V m c main_v3) (funext fun a => Fin.ext ?_)
  match a with
  | ⟨0, _⟩ => show win0_3.index t (0 : Fin 2) * 1024 + 1 * (j 0).val = (j 0).val; omega
  | ⟨1, _⟩ => show win0_3.index t (1 : Fin 2) * 256 + 1 * (j 1).val = (j 1).val; omega

/-- The tile of the array that a block's tile is. -/
def tileOf (t : Fin cfg0.N) (q : Fin 8) : Fin 512 :=
  ⟨t.val * 8 + q.val, by have := t.isLt; have h : cfg0.N = 64 := N_0; omega⟩

theorem emb10 (t : Fin cfg0.N) (q : Fin 8) (k : Fin 256) (s : Fin 128) : ((cfg0.win 10).blk t).view.emb (ix3 q k s) = ix3 (tileOf t q) k s := by
  obtain ⟨h0, h1, h2⟩ := idx_10 t
  funext a; apply Fin.ext
  match a with
  | ⟨0, _⟩ => show win0_10.index t (0 : Fin 3) * 8 + 1 * q.val = t.val * 8 + q.val; omega
  | ⟨1, _⟩ => show win0_10.index t (1 : Fin 3) * 256 + 1 * k.val = k.val; omega
  | ⟨2, _⟩ => show win0_10.index t (2 : Fin 3) * 128 + 1 * s.val = s.val; omega

theorem tiled_row (y : FVec Ideal S1024x1024 .f32) (g : FVec Ideal S1x1024 .f32) (wv : FVec Ideal S1024x256 .bf16) (x : FVec Ideal S65536x1024 .f32)
    (t : Fin cfg0.N) (q : Fin 8) (k : Fin 256) (s : Fin 128) (h : ∀ r e : Fin 1024, y (ix2 r e) = x (ix2 (rowOf t r) e)) :
    tiled (tile (k0_pay3 (F := Ideal) y g) wv) (ix3 q k s) = turnArr x g wv (ix3 (tileOf t q) k s) := by
  refine (tile_apply _ wv (⟨q.val * 128 + s.val, by omega⟩ : Fin 1024) k).trans ?_
  have hr : rowOf t (⟨q.val * 128 + s.val, by omega⟩ : Fin 1024) = (⟨(t.val * 8 + q.val) * 128 + s.val, by
      have := t.isLt; have h : cfg0.N = 64 := N_0; omega⟩ : Fin 65536) :=
    Fin.ext (by show t.val * 1024 + (q.val * 128 + s.val) = (t.val * 8 + q.val) * 128 + s.val; omega)
  have hu : ∀ e : Fin 1024, k0_pay3 (F := Ideal) y g (ix2 (⟨q.val * 128 + s.val, by omega⟩ : Fin 1024) e)
      = normRow (fun e => x (ix2 (⟨(t.val * 8 + q.val) * 128 + s.val, by have := t.isLt; have h : cfg0.N = 64 := N_0; omega⟩ : Fin 65536) e))
        (fun e => g (ix2 (0 : Fin 1) e)) e := fun e => by
    rw [norm_apply, ← hr]
    exact congrArg (fun z => normRow z (fun e => g (ix2 (0 : Fin 1) e)) e) (funext fun e => h _ e)
  exact Finset.sum_congr rfl fun e _ => congrArg (· * wv (ix2 e k)) (hu e)

theorem flushed_10 (c : Dev nD) (t : Fin cfg0.N) : (dats m 0 c).flushed 10 t
    = ((cfg0.win 10).blk t).view.read (Elt Ideal) (turnArr (V m c main_v0) (V m c main_v1) (V m c main_v3)) := by
  rw [flushed10_A, out_10, iblk1_eq, iblk3_eq]
  suffices h : ∀ (q : Fin 8) (k : Fin 256) (s : Fin 128), tiled (tile (k0_pay3 (F := Ideal) (iblk m c 0 t) (V m c main_v1)) (V m c main_v3)) (ix3 q k s)
      = turnArr (V m c main_v0) (V m c main_v1) (V m c main_v3) (((cfg0.win 10).blk t).view.emb (ix3 q k s)) by
    funext j
    have hj : j = ix3 (j 0 : Fin 8) (j 1 : Fin 256) (j 2 : Fin 128) := funext fun a => match a with | ⟨0, _⟩ => rfl | ⟨1, _⟩ => rfl | ⟨2, _⟩ => rfl
    rw [hj]; exact h (j 0) (j 1) (j 2)
  intro q k s
  exact (tiled_row _ _ _ (V m c main_v0) t q k s fun r e => congrArg (V m c main_v0) (emb0 t r e)).trans
    (congrArg (turnArr _ _ _) (emb10 t q k s)).symm

theorem mem_blk10 (t : Fin cfg0.N) (i : S512x256x128.Idx) : i ∈ ((cfg0.win 10).blk t).view.set ↔ ∀ a : Fin 3,
    win0_10.index t a * S8x256x128.size a ≤ (i a).val ∧ (i a).val < win0_10.index t a * S8x256x128.size a + S8x256x128.size a := by
  show i ∈ ((View.whole main_v18_5).slice (win0_10.rect t)).set ↔ _
  rw [View.set_slice_whole, Rect.mem_set_unit]
  exact Iff.rfl

theorem covered_10 (i : S512x256x128.Idx) : ∃ t : Fin cfg0.N, (cfg0.win 10).flush t = true ∧ i ∈ ((cfg0.win 10).blk t).view.set := by
  have h0 : (i 0).val < 512 := (i 0).isLt
  have h1 : (i 1).val < 256 := (i 1).isLt
  have h2 : (i 2).val < 128 := (i 2).isLt
  have hN : cfg0.N = 64 := N_0
  refine ⟨⟨(i 0).val / 8, by omega⟩, flush0_10 _, ?_⟩
  rw [mem_blk10]
  obtain ⟨e0, e1, e2⟩ := idx_10 ⟨(i 0).val / 8, by omega⟩
  intro a
  match a with
  | ⟨0, _⟩ => show win0_10.index _ (0 : Fin 3) * 8 ≤ (i 0).val ∧ (i 0).val < win0_10.index _ (0 : Fin 3) * 8 + 8
              rw [e0]; dsimp only; omega
  | ⟨1, _⟩ => show win0_10.index _ (1 : Fin 3) * 256 ≤ (i 1).val ∧ (i 1).val < win0_10.index _ (1 : Fin 3) * 256 + 256
              rw [e1]; omega
  | ⟨2, _⟩ => show win0_10.index _ (2 : Fin 3) * 128 ≤ (i 2).val ∧ (i 2).val < win0_10.index _ (2 : Fin 3) * 128 + 128
              rw [e2]; omega

theorem arr_10 (c : Dev nD) : (dats m 0 c).arrAt 10 cfg0.N = turnArr (V m c main_v0) (V m c main_v1) (V m c main_v3) :=
  (dats m 0 c).arrAt_eq_of_cover 10 _ (fun t _ => flushed_10 m c t) covered_10

/-! ## The arrays as the region finds them -/

theorem rows_in (c : Dev nD) : V m c main_v0
    = shapeCast S65536x1024 (m ((c : Thread nD τ).loc main_arg0)) shapeCasts_S16x4096x1024_S65536x1024 := by
  unfold V; simp only [hostOps0]; after_results_simp <;> rfl

theorem norm_in (c : Dev nD) : V m c main_v1 = shapeCast S1x1024 (m ((c : Thread nD τ).loc main_arg1)) shapeCasts_S1024_S1x1024 := by
  unfold V; simp only [hostOps0]; after_results_simp <;> rfl

theorem weights_in (c : Dev nD) : V m c main_v2 = m ((c : Thread nD τ).loc main_arg2) := by
  unfold V; simp only [hostOps0]; after_results_simp <;> rfl

theorem values_in (c : Dev nD) : V m c main_v3 = m ((c : Thread nD τ).loc main_arg3) := by
  unfold V; simp only [hostOps0]; after_results_simp <;> rfl

end Cert.Proof.Proj
-- ==== Proof.ProjRef.lean ====
/-
  The input projection over the whole array, as the reference writes it, is every row's.
-/
module

public import proofs.«01_k».proof.Proof.AttRef
public import proofs.«01_k».proof.Proof.ProjKernel
public import proofs.«01_k».proof.Proof.Gen.ProjReferenceIdeal.Run

@[expose] public section

noncomputable section

namespace Cert.Proof.Proj

open Cert.ProjReferenceIdeal Cert.ProjReferenceIdeal.Gen
open Idealize.ShloMosaic hiding ix1 ix2 ix3 ix4
open Idealize.ShloMosaic.TcCoe Idealize.ShloMosaic.ValueIdx
open Cert.Proof.Mix (normRow)
open Cert.Proof.Att (refUnit refUnit_apply)

/-- Every row normalised, times the columns from `o` on. -/
def projected {n o : Nat} (hn : o + n ≤ 3072) (x : FVec Ideal S65536x1024 .f32) (g : FVec Ideal S1024 .f32) (w : FVec Ideal S1024x3072 .f32) :
    (⟨2, ![65536, n]⟩ : Shape).Idx → EReal := fun j =>
  projRow (normRow (fun e => x (ix2 (j 0) e)) (fun e => g (ix1 e))) (fun e f => w (ix2 e f))
    ⟨o + (j 1).val, by have h : (j 1).val < n := (j 1).isLt; omega⟩

theorem wide_dot (x : FVec Ideal S16x4096x1024 .f32) (w : FVec Ideal S1024x3072 .f32) (b : Fin 16) (r : Fin 4096) (d : Fin 3072) :
    Host.dotGeneral dot_S16x4096x1024_S1024x3072_S16x4096x3072_2_0_01_1_n_n none x w (ix3 b r d)
      = ∑ e : Fin 1024, x (ix3 b r e) * w (ix2 e d) := by
  have h : Host.dotGeneral dot_S16x4096x1024_S1024x3072_S16x4096x3072_2_0_01_1_n_n none x w (Idealize.ShloMosaic.ix3 b r d)
      = ∑ e : Fin 1024, x (Idealize.ShloMosaic.ix3 b r e) * w (Idealize.ShloMosaic.ix2 e d) := by pointwise
  exact h

/-- The normed rows times the weights, and of those the columns from `o` on. -/
theorem slice_eq {n o : Nat} (hn : o + n ≤ 3072) (hs : S65536x3072.Slices ![0, o] (⟨2, ![65536, n]⟩ : Shape))
    (x : FVec Ideal S16x4096x1024 .f32) (g : FVec Ideal S1024 .f32) (w : FVec Ideal S1024x3072 .f32) :
    extractStridedSlice (⟨2, ![65536, n]⟩ : Shape) ![0, o] (shapeCast S65536x3072
      (Host.dotGeneral dot_S16x4096x1024_S1024x3072_S16x4096x3072_2_0_01_1_n_n none (refUnit x g) w) shapeCasts_S16x4096x3072_S65536x3072) hs
      = projected hn (shapeCast S65536x1024 x Cert.ProjIdeal.Gen.shapeCasts_S16x4096x1024_S65536x1024) g w := by
  suffices h : ∀ (R : Fin 65536) (c : Fin n), extractStridedSlice (⟨2, ![65536, n]⟩ : Shape) ![0, o] (shapeCast S65536x3072
      (Host.dotGeneral dot_S16x4096x1024_S1024x3072_S16x4096x3072_2_0_01_1_n_n none (refUnit x g) w) shapeCasts_S16x4096x3072_S65536x3072) hs (ix2 R c)
      = projected hn (shapeCast S65536x1024 x Cert.ProjIdeal.Gen.shapeCasts_S16x4096x1024_S65536x1024) g w (ix2 R c) by
    funext j
    have hj : j = ix2 (j 0 : Fin 65536) (j 1 : Fin n) := funext fun a => match a with | ⟨0, _⟩ => rfl | ⟨1, _⟩ => rfl
    rw [hj]; exact h (j 0) (j 1)
  intro R c
  have hR : R.val = R.val / 4096 * 4096 + R.val % 4096 := by omega
  have hd : ∀ z : FVec Ideal S16x4096x3072 .f32, shapeCast S65536x3072 z shapeCasts_S16x4096x3072_S65536x3072 (ix2 R (⟨o + c.val, by omega⟩ : Fin 3072))
      = z (ix3 (⟨R.val / 4096, by omega⟩ : Fin 16) (⟨R.val % 4096, by omega⟩ : Fin 4096) (⟨o + c.val, by omega⟩ : Fin 3072)) := fun z =>
    shapeCast_apply _ _ _ _ (by
      rw [Shape.rowMajor_val_two, Shape.rowMajor_val_three]
      show (R.val / 4096 * 4096 + R.val % 4096) * 3072 + (o + c.val) = R.val * 3072 + (o + c.val); omega)
  have hx : ∀ e : Fin 1024, shapeCast S65536x1024 x Cert.ProjIdeal.Gen.shapeCasts_S16x4096x1024_S65536x1024 (ix2 R e)
      = x (ix3 (⟨R.val / 4096, by omega⟩ : Fin 16) (⟨R.val % 4096, by omega⟩ : Fin 4096) e) := fun e =>
    shapeCast_apply _ _ _ _ (by
      rw [Shape.rowMajor_val_two, Shape.rowMajor_val_three]
      show (R.val / 4096 * 4096 + R.val % 4096) * 1024 + e.val = R.val * 1024 + e.val; omega)
  refine (extractStridedSlice_apply _ _ _ (ix2 R c) (ix2 R (⟨o + c.val, by omega⟩ : Fin 3072)) (fun a => match a with
    | ⟨0, _⟩ => (Nat.zero_add _).symm
    | ⟨1, _⟩ => rfl)).trans ?_
  refine ((hd _).trans (wide_dot _ _ _ _ _)).trans ?_
  unfold projected projRow
  refine Finset.sum_congr rfl fun e _ => congrArg (· * w (ix2 e (⟨o + c.val, by omega⟩ : Fin 3072))) ?_
  refine (refUnit_apply _ _ x g e).trans ?_
  exact congrArg (fun z => normRow z (fun e => g (ix1 e)) e) (funext fun e => (hx e).symm)

/-- Every row normalised, times the value weights, and each tile of 128 rows transposed. -/
def turnedRows (x : FVec Ideal S65536x1024 .f32) (g : FVec Ideal S1024 .f32) (wv : FVec Ideal S1024x256 .f32) : FVec Ideal S512x256x128 .f32 := fun j =>
  ∑ e : Fin 1024, normRow (fun e => x (ix2 (⟨(j 0).val * 128 + (j 2).val, by have h0 : (j 0).val < 512 := (j 0).isLt; have h2 : (j 2).val < 128 := (j 2).isLt; omega⟩ : Fin 65536) e))
    (fun e => g (ix1 e)) e * wv (ix2 e (j 1))

theorem narrow_dot (x : FVec Ideal S16x4096x1024 .f32) (w : FVec Ideal S1024x256 .f32) (b : Fin 16) (r : Fin 4096) (d : Fin 256) :
    Host.dotGeneral dot_S16x4096x1024_S1024x256_S16x4096x256_2_0_01_1_n_n none x w (ix3 b r d)
      = ∑ e : Fin 1024, x (ix3 b r e) * w (ix2 e d) := by
  have h : Host.dotGeneral dot_S16x4096x1024_S1024x256_S16x4096x256_2_0_01_1_n_n none x w (Idealize.ShloMosaic.ix3 b r d)
      = ∑ e : Fin 1024, x (Idealize.ShloMosaic.ix3 b r e) * w (Idealize.ShloMosaic.ix2 e d) := by pointwise
  exact h

/-- The normed rows times the value weights, by tiles of 128 rows, each transposed. -/
theorem turned_eq (x : FVec Ideal S16x4096x1024 .f32) (g : FVec Ideal S1024 .f32) (wv : FVec Ideal S1024x256 .f32) :
    transpose S512x256x128 [0, 2, 1] (shapeCast S512x128x256
      (Host.dotGeneral dot_S16x4096x1024_S1024x256_S16x4096x256_2_0_01_1_n_n none (refUnit x g) wv) shapeCasts_S16x4096x256_S512x128x256)
      transposes_S512x128x256_S512x256x128_0_2_1
      = turnedRows (shapeCast S65536x1024 x Cert.ProjIdeal.Gen.shapeCasts_S16x4096x1024_S65536x1024) g wv := by
  suffices h : ∀ (T : Fin 512) (k : Fin 256) (s : Fin 128), transpose S512x256x128 [0, 2, 1] (shapeCast S512x128x256
      (Host.dotGeneral dot_S16x4096x1024_S1024x256_S16x4096x256_2_0_01_1_n_n none (refUnit x g) wv) shapeCasts_S16x4096x256_S512x128x256)
      transposes_S512x128x256_S512x256x128_0_2_1 (ix3 T k s)
      = turnedRows (shapeCast S65536x1024 x Cert.ProjIdeal.Gen.shapeCasts_S16x4096x1024_S65536x1024) g wv (ix3 T k s) by
    funext j
    have hj : j = ix3 (j 0 : Fin 512) (j 1 : Fin 256) (j 2 : Fin 128) := funext fun a => match a with | ⟨0, _⟩ => rfl | ⟨1, _⟩ => rfl | ⟨2, _⟩ => rfl
    rw [hj]; exact h (j 0) (j 1) (j 2)
  intro T k s
  have hd : ∀ z : FVec Ideal S16x4096x256 .f32, shapeCast S512x128x256 z shapeCasts_S16x4096x256_S512x128x256 (ix3 T s k)
      = z (ix3 (⟨(T.val * 128 + s.val) / 4096, by omega⟩ : Fin 16) (⟨(T.val * 128 + s.val) % 4096, by omega⟩ : Fin 4096) k) := fun z =>
    shapeCast_apply _ _ _ _ (by
      rw [Shape.rowMajor_val_three, Shape.rowMajor_val_three]
      show ((T.val * 128 + s.val) / 4096 * 4096 + (T.val * 128 + s.val) % 4096) * 256 + k.val = (T.val * 128 + s.val) * 256 + k.val; omega)
  have hx : ∀ e : Fin 1024, shapeCast S65536x1024 x Cert.ProjIdeal.Gen.shapeCasts_S16x4096x1024_S65536x1024 (ix2 (⟨T.val * 128 + s.val, by omega⟩ : Fin 65536) e)
      = x (ix3 (⟨(T.val * 128 + s.val) / 4096, by omega⟩ : Fin 16) (⟨(T.val * 128 + s.val) % 4096, by omega⟩ : Fin 4096) e) := fun e =>
    shapeCast_apply _ _ _ _ (by
      rw [Shape.rowMajor_val_two, Shape.rowMajor_val_three]
      show ((T.val * 128 + s.val) / 4096 * 4096 + (T.val * 128 + s.val) % 4096) * 1024 + e.val = (T.val * 128 + s.val) * 1024 + e.val; omega)
  refine (transpose_apply [0, 2, 1] _ _ (ix3 T k s) (ix3 T s k) (fun a => match a with
    | ⟨0, _⟩ => rfl
    | ⟨1, _⟩ => rfl
    | ⟨2, _⟩ => rfl)).trans ?_
  refine ((hd _).trans (narrow_dot _ _ _ _ _)).trans ?_
  unfold turnedRows
  refine Finset.sum_congr rfl fun e _ => congrArg (· * wv (ix2 e k)) ?_
  refine (refUnit_apply _ _ x g e).trans ?_
  exact congrArg (fun z => normRow z (fun e => g (ix1 e)) e) (funext fun e => (hx e).symm)

open Idealize.SL.Sem in
/-- The reference's run: the five groups of columns, the transposed values, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = projected (n := 1024) (o := 0) (by decide) (shapeCast Cert.ProjIdeal.S65536x1024 (m ((c.tc : Thread nD τ).loc main_arg0)) Cert.ProjIdeal.Gen.shapeCasts_S16x4096x1024_S65536x1024) (m ((c.tc : Thread nD τ).loc main_arg1)) (m ((c.tc : Thread nD τ).loc main_arg2))
      ∧ r.2.mem ((c.tc : Thread nD τ).loc main_v16) = projected (n := 512) (o := 1024) (by decide) (shapeCast Cert.ProjIdeal.S65536x1024 (m ((c.tc : Thread nD τ).loc main_arg0)) Cert.ProjIdeal.Gen.shapeCasts_S16x4096x1024_S65536x1024) (m ((c.tc : Thread nD τ).loc main_arg1)) (m ((c.tc : Thread nD τ).loc main_arg2))
      ∧ r.2.mem ((c.tc : Thread nD τ).loc main_v17) = projected (n := 256) (o := 1536) (by decide) (shapeCast Cert.ProjIdeal.S65536x1024 (m ((c.tc : Thread nD τ).loc main_arg0)) Cert.ProjIdeal.Gen.shapeCasts_S16x4096x1024_S65536x1024) (m ((c.tc : Thread nD τ).loc main_arg1)) (m ((c.tc : Thread nD τ).loc main_arg2))
      ∧ r.2.mem ((c.tc : Thread nD τ).loc main_v22) = projected (n := 768) (o := 1792) (by decide) (shapeCast Cert.ProjIdeal.S65536x1024 (m ((c.tc : Thread nD τ).loc main_arg0)) Cert.ProjIdeal.Gen.shapeCasts_S16x4096x1024_S65536x1024) (m ((c.tc : Thread nD τ).loc main_arg1)) (m ((c.tc : Thread nD τ).loc main_arg2))
      ∧ r.2.mem ((c.tc : Thread nD τ).loc main_v23) = projected (n := 512) (o := 2560) (by decide) (shapeCast Cert.ProjIdeal.S65536x1024 (m ((c.tc : Thread nD τ).loc main_arg0)) Cert.ProjIdeal.Gen.shapeCasts_S16x4096x1024_S65536x1024) (m ((c.tc : Thread nD τ).loc main_arg1)) (m ((c.tc : Thread nD τ).loc main_arg2))
      ∧ r.2.mem ((c.tc : Thread nD τ).loc main_v25) = turnedRows (shapeCast Cert.ProjIdeal.S65536x1024 (m ((c.tc : Thread nD τ).loc main_arg0)) Cert.ProjIdeal.Gen.shapeCasts_S16x4096x1024_S65536x1024) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3, h4, h5, h6⟩ := h c
    exact ⟨h0.trans (slice_eq (n := 1024) (o := 0) (by decide) slices_S65536x3072_S65536x1024_0_0 (m ((c.tc : Thread nD τ).loc main_arg0)) (m ((c.tc : Thread nD τ).loc main_arg1)) (m ((c.tc : Thread nD τ).loc main_arg2))),
      h1.trans (slice_eq (n := 512) (o := 1024) (by decide) slices_S65536x3072_S65536x512_0_1024 (m ((c.tc : Thread nD τ).loc main_arg0)) (m ((c.tc : Thread nD τ).loc main_arg1)) (m ((c.tc : Thread nD τ).loc main_arg2))),
      h2.trans (slice_eq (n := 256) (o := 1536) (by decide) slices_S65536x3072_S65536x256_0_1536 (m ((c.tc : Thread nD τ).loc main_arg0)) (m ((c.tc : Thread nD τ).loc main_arg1)) (m ((c.tc : Thread nD τ).loc main_arg2))),
      h3.trans (slice_eq (n := 768) (o := 1792) (by decide) slices_S65536x3072_S65536x768_0_1792 (m ((c.tc : Thread nD τ).loc main_arg0)) (m ((c.tc : Thread nD τ).loc main_arg1)) (m ((c.tc : Thread nD τ).loc main_arg2))),
      h4.trans (slice_eq (n := 512) (o := 2560) (by decide) slices_S65536x3072_S65536x512_0_2560 (m ((c.tc : Thread nD τ).loc main_arg0)) (m ((c.tc : Thread nD τ).loc main_arg1)) (m ((c.tc : Thread nD τ).loc main_arg2))),
      h5.trans (turned_eq (m ((c.tc : Thread nD τ).loc main_arg0)) (m ((c.tc : Thread nD τ).loc main_arg1)) (m ((c.tc : Thread nD τ).loc main_arg3))), h6⟩) (Cert.ProjReferenceIdeal.Value.run m ρ)

end Cert.Proof.Proj
-- ==== Proof.ProjTie.lean ====
/-
  The input projection against its reference: both leave every row normalised, times the weights.
-/
module

public import proofs.«01_k».proof.Defs
public import proofs.«01_k».proof.Proof.ProjArray
public import proofs.«01_k».proof.Proof.ProjRef

@[expose] public section

noncomputable section

namespace Cert.Proof.Proj

open Idealize.ShloMosaic hiding ix1 ix2 ix3 ix4
open Idealize.ShloMosaic.TcCoe Idealize.ShloMosaic.ValueIdx Idealize.SL.Sem
open Cert.Proof.Mix (normRow)

open Cert.ProjIdeal Cert.ProjIdeal.Gen in
theorem projArr_eq {n o : Nat} (hn : o + n ≤ 3072) (x : FVec Ideal S65536x1024 .f32) (g : FVec Ideal S1024 .f32) (w : FVec Ideal S1024x3072 .f32) :
    projArr hn x (shapeCast S1x1024 g shapeCasts_S1024_S1x1024) w = projected hn x g w :=
  funext fun j => congrArg (fun v => projRow (normRow (fun e => x (ix2 (j 0) e)) v) (fun e f => w (ix2 e f))
    (⟨o + (j 1).val, by have h : (j 1).val < n := (j 1).isLt; omega⟩ : Fin 3072)) (funext fun e => shapeCast_a_1a_apply g _ 0 e)

open Cert.ProjIdeal Cert.ProjIdeal.Gen in
theorem turnArr_eq (x : FVec Ideal S65536x1024 .f32) (g : FVec Ideal S1024 .f32) (wv : FVec Ideal S1024x256 .f32) :
    turnArr x (shapeCast S1x1024 g shapeCasts_S1024_S1x1024) wv = turnedRows x g wv :=
  have hg : (fun e => shapeCast S1x1024 g shapeCasts_S1024_S1x1024 (ix2 (0 : Fin 1) e)) = fun e => g (ix1 e) := funext fun e => shapeCast_a_1a_apply g _ 0 e
  funext fun j => congrArg (fun v => ∑ e : Fin 1024, normRow (fun e => x (ix2 (⟨(j 0).val * 128 + (j 2).val, by
    have h0 : (j 0).val < 512 := (j 0).isLt; have h2 : (j 2).val < 128 := (j 2).isLt; omega⟩ : Fin 65536) e)) v e * wv (ix2 e (j 1))) hg

open Cert.ProjIdeal Cert.ProjIdeal.Gen in
/-- The kernel's run: the five groups of columns, the transposed values, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18_0) = projected (n := 1024) (o := 0) (by decide) (shapeCast Cert.ProjIdeal.S65536x1024 (m ((c.tc : Thread nD τ).loc main_arg0)) Cert.ProjIdeal.Gen.shapeCasts_S16x4096x1024_S65536x1024) (m ((c.tc : Thread nD τ).loc main_arg1)) (m ((c.tc : Thread nD τ).loc main_arg2))
      ∧ r.2.mem ((c.tc : Thread nD τ).loc main_v18_1) = projected (n := 512) (o := 1024) (by decide) (shapeCast Cert.ProjIdeal.S65536x1024 (m ((c.tc : Thread nD τ).loc main_arg0)) Cert.ProjIdeal.Gen.shapeCasts_S16x4096x1024_S65536x1024) (m ((c.tc : Thread nD τ).loc main_arg1)) (m ((c.tc : Thread nD τ).loc main_arg2))
      ∧ r.2.mem ((c.tc : Thread nD τ).loc main_v18_2) = projected (n := 256) (o := 1536) (by decide) (shapeCast Cert.ProjIdeal.S65536x1024 (m ((c.tc : Thread nD τ).loc main_arg0)) Cert.ProjIdeal.Gen.shapeCasts_S16x4096x1024_S65536x1024) (m ((c.tc : Thread nD τ).loc main_arg1)) (m ((c.tc : Thread nD τ).loc main_arg2))
      ∧ r.2.mem ((c.tc : Thread nD τ).loc main_v18_3) = projected (n := 768) (o := 1792) (by decide) (shapeCast Cert.ProjIdeal.S65536x1024 (m ((c.tc : Thread nD τ).loc main_arg0)) Cert.ProjIdeal.Gen.shapeCasts_S16x4096x1024_S65536x1024) (m ((c.tc : Thread nD τ).loc main_arg1)) (m ((c.tc : Thread nD τ).loc main_arg2))
      ∧ r.2.mem ((c.tc : Thread nD τ).loc main_v18_4) = projected (n := 512) (o := 2560) (by decide) (shapeCast Cert.ProjIdeal.S65536x1024 (m ((c.tc : Thread nD τ).loc main_arg0)) Cert.ProjIdeal.Gen.shapeCasts_S16x4096x1024_S65536x1024) (m ((c.tc : Thread nD τ).loc main_arg1)) (m ((c.tc : Thread nD τ).loc main_arg2))
      ∧ r.2.mem ((c.tc : Thread nD τ).loc main_v18_5) = turnedRows (shapeCast Cert.ProjIdeal.S65536x1024 (m ((c.tc : Thread nD τ).loc main_arg0)) Cert.ProjIdeal.Gen.shapeCasts_S16x4096x1024_S65536x1024) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3, h4, h5, -, -, h6⟩ := h c
    exact ⟨h0.trans ((arr_5 m (by decide) c).trans (by rw [rows_in, norm_in, weights_in]; exact projArr_eq _ _ _ _)), h1.trans ((arr_6 m (by decide) c).trans (by rw [rows_in, norm_in, weights_in]; exact projArr_eq _ _ _ _)), h2.trans ((arr_7 m (by decide) c).trans (by rw [rows_in, norm_in, weights_in]; exact projArr_eq _ _ _ _)), h3.trans ((arr_8 m (by decide) c).trans (by rw [rows_in, norm_in, weights_in]; exact projArr_eq _ _ _ _)), h4.trans ((arr_9 m (by decide) c).trans (by rw [rows_in, norm_in, weights_in]; exact projArr_eq _ _ _ _)),
      h5.trans ((arr_10 m c).trans (by rw [rows_in, norm_in, values_in]; exact turnArr_eq _ _ _)), h6⟩) (Cert.ProjIdeal.Value.run_blocks m ρ)

theorem algebraic : algebraic_ProjIdeal_ProjReferenceIdeal := by
  intro m g m' g' _ hm
  refine ⟨fun c => projected (n := 1024) (o := 0) (by decide) (shapeCast Cert.ProjIdeal.S65536x1024 (m ((c.tc : Thread Cert.ProjIdeal.nD Cert.ProjIdeal.τ).loc Cert.ProjIdeal.main_arg0)) Cert.ProjIdeal.Gen.shapeCasts_S16x4096x1024_S65536x1024) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), fun c => projected (n := 512) (o := 1024) (by decide) (shapeCast Cert.ProjIdeal.S65536x1024 (m ((c.tc : Thread Cert.ProjIdeal.nD Cert.ProjIdeal.τ).loc Cert.ProjIdeal.main_arg0)) Cert.ProjIdeal.Gen.shapeCasts_S16x4096x1024_S65536x1024) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), fun c => projected (n := 256) (o := 1536) (by decide) (shapeCast Cert.ProjIdeal.S65536x1024 (m ((c.tc : Thread Cert.ProjIdeal.nD Cert.ProjIdeal.τ).loc Cert.ProjIdeal.main_arg0)) Cert.ProjIdeal.Gen.shapeCasts_S16x4096x1024_S65536x1024) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), fun c => projected (n := 768) (o := 1792) (by decide) (shapeCast Cert.ProjIdeal.S65536x1024 (m ((c.tc : Thread Cert.ProjIdeal.nD Cert.ProjIdeal.τ).loc Cert.ProjIdeal.main_arg0)) Cert.ProjIdeal.Gen.shapeCasts_S16x4096x1024_S65536x1024) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), fun c => projected (n := 512) (o := 2560) (by decide) (shapeCast Cert.ProjIdeal.S65536x1024 (m ((c.tc : Thread Cert.ProjIdeal.nD Cert.ProjIdeal.τ).loc Cert.ProjIdeal.main_arg0)) Cert.ProjIdeal.Gen.shapeCasts_S16x4096x1024_S65536x1024) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), fun c => turnedRows (shapeCast Cert.ProjIdeal.S65536x1024 (m ((c.tc : Thread Cert.ProjIdeal.nD Cert.ProjIdeal.τ).loc Cert.ProjIdeal.main_arg0)) Cert.ProjIdeal.Gen.shapeCasts_S16x4096x1024_S65536x1024) (m ((c.tc : Thread Cert.ProjIdeal.nD Cert.ProjIdeal.τ).loc Cert.ProjIdeal.main_arg1)) (m ((c.tc : Thread Cert.ProjIdeal.nD Cert.ProjIdeal.τ).loc Cert.ProjIdeal.main_arg3)),
    kernel_run m g, ?_⟩
  refine (θ_run _ _ _).mono (fun _ h c => ?_) (ref_run m' g')
  obtain ⟨h0, h1, h2, h3⟩ := hm c
  obtain ⟨k0, k1, k2, k3, k4, k5, k6⟩ := h c
  refine ⟨k0.trans ?_, k1.trans ?_, k2.trans ?_, k3.trans ?_, k4.trans ?_, k5.trans ?_, k6⟩
  · rw [h0, h1, h2]
  · rw [h0, h1, h2]
  · rw [h0, h1, h2]
  · rw [h0, h1, h2]
  · rw [h0, h1, h2]
  · rw [h0, h1, h3]

end Cert.Proof.Proj
-- ==== Proof.KvKernel.lean ====
/-
  The memory's projection on a block of rows: each row normalised by its root mean square, times the weights' columns.
-/
module

public import proofs.«01_k».proof.Proof.MixKernel
public import proofs.«01_k».proof.Proof.Gen.KvIdeal.Skeleton

@[expose] public section

noncomputable section

namespace Cert.Proof.Kv

open Cert.KvIdeal Cert.KvIdeal.Gen
open Idealize.ShloMosaic Idealize.ShloMosaic.TcCoe
open Idealize.ShloMosaic.ValueIdx
open Cert.Proof.Mix (normRow load_whole)

/-- A row times one column of the weights. -/
def projRow (u : Fin 1024 → EReal) (w : Fin 1024 → Fin 2048 → EReal) (j : Fin 2048) : EReal := ∑ e, u e * w e j

/-- A block's rows times the columns from `o` on. -/
def cols {n o : Nat} (hn : o + n ≤ 2048) (u : FVec Ideal S512x1024 .bf16) (w : FVec Ideal S1024x2048 .bf16) :
    (⟨2, ![512, n]⟩ : Shape).Idx → EReal := fun j =>
  projRow (fun e => u (ix2 (j 0) e)) (fun e f => w (ix2 e f)) ⟨o + (j 1).val, by have h : (j 1).val < n := (j 1).isLt; omega⟩

/-- One column tile. -/
def tile (u : FVec Ideal S512x1024 .bf16) (a : FVec Ideal S1024x256 .bf16) : FVec Ideal S512x256 .f32 :=
  matmul dot_S512x1024_S1024x256_S512x256_1_0_0_1_n_n none u a (constant S512x256 .f32 0x00000000#32)

theorem tile_apply (u : FVec Ideal S512x1024 .bf16) (a : FVec Ideal S1024x256 .bf16) (r : Fin 512) (c : Fin 256) :
    tile u a (ix2 r c) = ∑ e : Fin 1024, u (ix2 r e) * a (ix2 e c) := by
  refine (Ideal.matmul_plain_apply (M := 512) (K := 1024) (N := 256) none u a _ r c).trans ?_
  exact (congrArg (· + _) Ideal.ofBits_zero_f32).trans (zero_add _)

/-- A column tile made from the weights' columns is the rows' product there. -/
theorem cols_tile {n o : Nat} (hn : o + n ≤ 2048) (k q : Nat) (hq : q = o + k)
    (inb : ∀ a, (![0, k] : Fin 2 → Nat) a + (![512, 256] : Fin 2 → Nat) a ≤ (⟨2, ![512, n]⟩ : Shape).size a)
    (inw : ∀ a, (![0, q] : Fin 2 → Nat) a + (![1024, 256] : Fin 2 → Nat) a ≤ S1024x2048.size a)
    (u : FVec Ideal S512x1024 .bf16) (w : FVec Ideal S1024x2048 .bf16) (x : S512x256.Idx) :
    tile u (fun y => w ((Rect.unit (s := S1024x2048) ![0, q] ![1024, 256] inw).idx y)) x
      = cols hn u w ((Rect.unit (s := (⟨2, ![512, n]⟩ : Shape)) ![0, k] ![512, 256] inb).emb x) := by
  have hw : q + 256 ≤ 2048 := inw 1
  have hk : k + 256 ≤ n := inb 1
  have hi : ∀ (e : Fin 1024) (c : Fin 256), (Rect.unit (s := S1024x2048) ![0, q] ![1024, 256] inw).idx (ix2 e c)
      = ix2 e (⟨q + c.val, by omega⟩ : Fin 2048) := fun e c => funext fun a => Fin.ext (by
    rw [Rect.idx_unit_val]; match a with
    | ⟨0, _⟩ => exact Nat.zero_add _
    | ⟨1, _⟩ => rfl)
  have hj : ∀ (r : Fin 512) (c : Fin 256), (Rect.unit (s := (⟨2, ![512, n]⟩ : Shape)) ![0, k] ![512, 256] inb).idx (ix2 r c)
      = ix2 r (⟨k + c.val, by omega⟩ : Fin n) := fun e c => funext fun a => Fin.ext (by
    rw [Rect.idx_unit_val]; match a with
    | ⟨0, _⟩ => exact Nat.zero_add _
    | ⟨1, _⟩ => rfl)
  suffices h : ∀ (r : Fin 512) (c : Fin 256), tile u (fun y => w ((Rect.unit (s := S1024x2048) ![0, q] ![1024, 256] inw).idx y)) (ix2 r c)
      = cols hn u w ((Rect.unit (s := (⟨2, ![512, n]⟩ : Shape)) ![0, k] ![512, 256] inb).idx (ix2 r c)) by
    have hx : x = ix2 (x 0) (x 1) := funext fun a => match a with | ⟨0, _⟩ => rfl | ⟨1, _⟩ => rfl
    rw [hx]; exact h (x 0) (x 1)
  intro r c
  rw [tile_apply, hj]
  simp only [hi]
  have hf : (⟨q + c.val, by omega⟩ : Fin 2048) = ⟨o + (k + c.val), by omega⟩ := Fin.ext (by show q + c.val = o + (k + c.val); omega)
  exact congrArg (fun f : Fin 2048 => (∑ e : Fin 1024, u (ix2 r e) * w (ix2 e f) : EReal)) hf

/-- A stored column tile, made from the weights' columns as the body loads them. -/
theorem piece {n o : Nat} (hn : o + n ≤ 2048) {sg : RefSig} {m3 : Memref sg .tc .vmem S1024x2048 .bf16} (h3 : m3.IsWhole)
    (w : FVec Ideal S1024x2048 .bf16) (k q : Nat) (hq : q = o + k)
    (inb : ∀ a, (![0, k] : Fin 2 → Nat) a + (![512, 256] : Fin 2 → Nat) a ≤ (⟨2, ![512, n]⟩ : Shape).size a)
    (inw : ∀ a, (![0, q] : Fin 2 → Nat) a + (![1024, 256] : Fin 2 → Nat) a ≤ S1024x2048.size a)
    (u : FVec Ideal S512x1024 .bf16) {v : S512x256.Idx → EReal}
    (hv : v = tile u (View.readAt (Elt Ideal) m3.view (Rect.unit (s := S1024x2048) ![0, q] ![1024, 256] inw).toLoadRect (h3.unread w))) (x : S512x256.Idx) :
    v x = cols hn u w ((Rect.unit (s := (⟨2, ![512, n]⟩ : Shape)) ![0, k] ![512, 256] inb).emb x) := by
  rw [hv, ← cols_tile hn k q hq inb inw u w x]
  have e3 := funext fun y => h3.readAt_unread (Val := Elt Ideal) w (Rect.unit (s := S1024x2048) ![0, q] ![1024, 256] inw).toLoadRect y
  exact congrFun (congrArg (tile u) e3) x

/-- The normalised rows of a block. -/
theorem norm_apply (x : FVec Ideal S512x1024 .f32) (g : FVec Ideal S1x1024 .f32) (r : Fin 512) (k : Fin 1024) :
    k0_pay6 (F := Ideal) x g (ix2 r k) = normRow (fun e => x (ix2 r e)) (fun e => g (ix2 (0 : Fin 1) e)) k := by
  unfold k0_pay6
  simp only [shapeCast_self]
  have hs : ∀ (y : FVec Ideal S512x1024 .f32) (u : Fin 1), shapeCast S512x1 (multiReduction .add [1] S512 (mulf y y) 0x00000000#32
        reduces_S512x1024_S512 (.inl rfl) rfl) shapeCasts_S512_S512x1 (ix2 r u) = ∑ e : Fin 1024, y (ix2 r e) * y (ix2 r e) := fun y u => by
    rw [shapeCast_a_a1_apply]
    refine (Ideal.multiReduction_add_single _ _ _ _ _ _).trans ?_
    refine Finset.sum_congr rfl fun e _ => ?_
    have hl : reduces_S512x1024_S512.lift (ix1 r) e = ix2 r e := funext fun a => Fin.ext (match a with
      | ⟨0, _⟩ => rfl
      | ⟨1, _⟩ => rfl)
    rw [hl]; rfl
  have hb : ∀ (v : FVec Ideal S512x1 .f32), broadcastTo S512x1024 v broadcasts_S512x1_S512x1024 (ix2 r k) = v (ix2 r (0 : Fin 1)) :=
    fun v => broadcastTo_apply v _ (ix2 r k) (ix2 r (0 : Fin 1)) fun a => match a with
      | ⟨0, _⟩ => rfl
      | ⟨1, _⟩ => rfl
  have hg : broadcastTo S512x1024 g broadcasts_S1x1024_S512x1024 (ix2 r k) = g (ix2 (0 : Fin 1) k) :=
    broadcastTo_1b_ab_apply g _ r k
  refine (congrArg₂ (fun p q : EReal => x (ix2 r k) * p * q) (hb _) hg).trans ?_
  unfold normRow
  rw [← hs x 0]; rfl

/-! ## The column tiles -/

section Tiles

variable (u : FVec Ideal S512x1024 .bf16) (x : FVec Ideal S512x1024 .f32) (g : FVec Ideal S1x1024 .f32) (a : FVec Ideal S1024x256 .bf16)

theorem tile_7 : k0_pay7 (F := Ideal) x g a = tile (k0_pay6 (F := Ideal) x g) a := by unfold k0_pay7; simp only [shapeCast_self]; rfl
theorem tile_8 : k0_pay8 (F := Ideal) x g a = tile (k0_pay6 (F := Ideal) x g) a := by unfold k0_pay8; simp only [shapeCast_self]; rfl
theorem tile_9 : k0_pay9 (F := Ideal) x g a = tile (k0_pay6 (F := Ideal) x g) a := by unfold k0_pay9; simp only [shapeCast_self]; rfl
theorem tile_1 : k0_pay1 (F := Ideal) u a = tile u a := by unfold k0_pay1; simp only [shapeCast_self]; rfl
theorem tile_2 : k0_pay2 (F := Ideal) u a = tile u a := by unfold k0_pay2; simp only [shapeCast_self]; rfl
theorem tile_3 : k0_pay3 (F := Ideal) u a = tile u a := by unfold k0_pay3; simp only [shapeCast_self]; rfl
theorem tile_4 : k0_pay4 (F := Ideal) u a = tile u a := by unfold k0_pay4; simp only [shapeCast_self]; rfl
theorem tile_5 : k0_pay5 (F := Ideal) u a = tile u a := by unfold k0_pay5; simp only [shapeCast_self]; rfl

end Tiles

end Cert.Proof.Kv
-- ==== Proof.KvBlock.lean ====
/-
  What a grid point of the memory's projection leaves in its blocks: the block's normalised rows times the weights' columns.
-/
module

public import proofs.«01_k».proof.Proof.KvKernel
public import proofs.«01_k».proof.Proof.Gen.KvIdeal.Value

@[expose] public section

noncomputable section

namespace Cert.Proof.Kv

open Cert.KvIdeal Cert.KvIdeal.Gen
open Idealize.ShloMosaic Idealize.ShloMosaic.TcCoe
open Idealize.ShloMosaic.ValueIdx
open Cert.Proof.Mix (normRow load_whole)

variable (x0 : Vec Ideal S512x1024 .f32) (x1 : Vec Ideal S1x1024 .f32) (x2 : Vec Ideal S1024x2048 .bf16)

theorem out_3 (hn : 0 + 1024 ≤ 2048) : out0_3 (F := Ideal) x0 x1 x2
    = cols (n := 1024) (o := 0) hn (k0_pay6 (F := Ideal) x0 x1) x2 := by
  have e0 : View.ld x0 r0_0 = x0 := View.ld_unit_lit (S := S512x1024) (Val := Elt Ideal) (e := .f32) inb_S512x1024_S512x1024_0_0 x0 (by decide)
  have e1 : View.ld x1 r0_1 = x1 := View.ld_unit_lit (S := S1x1024) (Val := Elt Ideal) (e := .f32) inb_S1x1024_S1x1024_0_0 x1 (by decide)
  unfold out0_3 k0_pay10
  rw [e0, e1]
  refine funext fun y => View.canon_apply_of_pieces _ _ ?_ y (cover0_3 _ _ _ _ y)
  exact List.forall_mem_cons.2 ⟨fun x => (congrFun (tile_4 _ _) x).trans (cols_tile hn 768 768 rfl inb_S512x1024_S512x256_0_768 inb_S1024x2048_S1024x256_0_768 (k0_pay6 (F := Ideal) x0 x1) x2 x),
    List.forall_mem_cons.2 ⟨fun x => (congrFun (tile_2 _ _) x).trans (cols_tile hn 512 512 rfl inb_S512x1024_S512x256_0_512 inb_S1024x2048_S1024x256_0_512 (k0_pay6 (F := Ideal) x0 x1) x2 x),
    List.forall_mem_cons.2 ⟨fun x => (congrFun (tile_9 _ _ _) x).trans (cols_tile hn 256 256 rfl inb_S512x1024_S512x256_0_256 inb_S1024x2048_S1024x256_0_256 (k0_pay6 (F := Ideal) x0 x1) x2 x),
    List.forall_mem_cons.2 ⟨fun x => (congrFun (tile_7 _ _ _) x).trans (cols_tile hn 0 0 rfl inb_S512x1024_S512x256_0_0 inb_S1024x2048_S1024x256_0_0 (k0_pay6 (F := Ideal) x0 x1) x2 x),
    fun p hp => absurd hp List.not_mem_nil⟩⟩⟩⟩

theorem out_4 (hn : 1024 + 1024 ≤ 2048) : out0_4 (F := Ideal) x0 x1 x2
    = cols (n := 1024) (o := 1024) hn (k0_pay6 (F := Ideal) x0 x1) x2 := by
  have e0 : View.ld x0 r0_0 = x0 := View.ld_unit_lit (S := S512x1024) (Val := Elt Ideal) (e := .f32) inb_S512x1024_S512x1024_0_0 x0 (by decide)
  have e1 : View.ld x1 r0_1 = x1 := View.ld_unit_lit (S := S1x1024) (Val := Elt Ideal) (e := .f32) inb_S1x1024_S1x1024_0_0 x1 (by decide)
  unfold out0_4 k0_pay10
  rw [e0, e1]
  refine funext fun y => View.canon_apply_of_pieces _ _ ?_ y (cover0_4 _ _ _ _ y)
  exact List.forall_mem_cons.2 ⟨fun x => (congrFun (tile_5 _ _) x).trans (cols_tile hn 768 1792 rfl inb_S512x1024_S512x256_0_768 inb_S1024x2048_S1024x256_0_1792 (k0_pay6 (F := Ideal) x0 x1) x2 x),
    List.forall_mem_cons.2 ⟨fun x => (congrFun (tile_3 _ _) x).trans (cols_tile hn 512 1536 rfl inb_S512x1024_S512x256_0_512 inb_S1024x2048_S1024x256_0_1536 (k0_pay6 (F := Ideal) x0 x1) x2 x),
    List.forall_mem_cons.2 ⟨fun x => (congrFun (tile_1 _ _) x).trans (cols_tile hn 256 1280 rfl inb_S512x1024_S512x256_0_256 inb_S1024x2048_S1024x256_0_1280 (k0_pay6 (F := Ideal) x0 x1) x2 x),
    List.forall_mem_cons.2 ⟨fun x => (congrFun (tile_8 _ _ _) x).trans (cols_tile hn 0 1024 rfl inb_S512x1024_S512x256_0_0 inb_S1024x2048_S1024x256_0_1024 (k0_pay6 (F := Ideal) x0 x1) x2 x),
    fun p hp => absurd hp List.not_mem_nil⟩⟩⟩⟩

end Cert.Proof.Kv
-- ==== Proof.KvArray.lean ====
/-
  The memory's keys and values after the run: every row of the memory normalised, times the weights' columns.
-/
module

public import proofs.«01_k».proof.Proof.KvBlock

@[expose] public section

noncomputable section

namespace Cert.Proof.Kv

open Cert.KvIdeal Cert.KvIdeal.Gen Cert.KvIdeal.Value
open Idealize.ShloMosaic Idealize.ShloMosaic.TcCoe Idealize.SL.Sem
open Idealize.ShloMosaic.Pipeline (Dat)
open Idealize.ShloMosaic.ValueIdx
open Cert.Proof.Mix (normRow)

/-- Every row normalised, times the columns from `o` on. -/
def projArr {n o : Nat} (hn : o + n ≤ 2048) (x : FVec Ideal S4096x1024 .f32) (g : FVec Ideal S1x1024 .f32) (w : FVec Ideal S1024x2048 .bf16) :
    (⟨2, ![4096, n]⟩ : Shape).Idx → EReal := fun j =>
  projRow (normRow (fun e => x (ix2 (j 0) e)) (fun e => g (ix2 (0 : Fin 1) e))) (fun e f => w (ix2 e f))
    ⟨o + (j 1).val, by have h : (j 1).val < n := (j 1).isLt; omega⟩

theorem cols_row {n o : Nat} (hn : o + n ≤ 2048) (y : FVec Ideal S512x1024 .f32) (g : FVec Ideal S1x1024 .f32) (w : FVec Ideal S1024x2048 .bf16)
    (x : FVec Ideal S4096x1024 .f32) (r : Fin 512) (R : Fin 4096) (d : Fin n) (h : ∀ e : Fin 1024, y (ix2 r e) = x (ix2 R e)) :
    cols hn (k0_pay6 (F := Ideal) y g) w (ix2 r d) = projArr hn x g w (ix2 R d) := by
  have hu : (fun e => k0_pay6 (F := Ideal) y g (ix2 r e)) = normRow (fun e => x (ix2 R e)) (fun e => g (ix2 (0 : Fin 1) e)) :=
    funext fun e => (norm_apply y g r e).trans (congrArg (fun z => normRow z (fun e => g (ix2 (0 : Fin 1) e)) e) (funext h))
  exact congrArg (fun u => projRow u (fun e f => w (ix2 e f)) (⟨o + d.val, by omega⟩ : Fin 2048)) hu

variable (m : (ℓ : Loc nD τ sig) → Buf (Elt Ideal) ℓ) (ρ : Dev nD → PrngReg)

/-! ## Where a point's blocks are -/

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_4 : ∀ t : Fin cfg0.N, win0_4.index t (0 : Fin 2) = t.val ∧ win0_4.index t (1 : Fin 2) = 0 :=
  (by decide +kernel : ∀ t : Fin grid0.N, _)

/-- The row of the array that a block's row is. -/
def rowOf (t : Fin cfg0.N) (r : Fin 512) : Fin 4096 :=
  ⟨t.val * 512 + r.val, by have := t.isLt; have h : cfg0.N = 8 := N_0; omega⟩

theorem emb0 (t : Fin cfg0.N) (r : Fin 512) (e : Fin 1024) : ((cfg0.win 0).blk t).view.emb (ix2 r e) = ix2 (rowOf t r) e := by
  obtain ⟨h0, h1⟩ := idx_0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * e.val = e.val; omega

theorem emb3 (t : Fin cfg0.N) (r : Fin 512) (e : Fin 1024) : ((cfg0.win 3).blk t).view.emb (ix2 r e) = ix2 (rowOf t r) e := by
  obtain ⟨h0, h1⟩ := idx_3 t
  funext a; apply Fin.ext
  match a with
  | ⟨0, _⟩ => show win0_3.index t (0 : Fin 2) * 512 + 1 * r.val = t.val * 512 + r.val; omega
  | ⟨1, _⟩ => show win0_3.index t (1 : Fin 2) * 1024 + 1 * e.val = e.val; omega

theorem emb4 (t : Fin cfg0.N) (r : Fin 512) (e : Fin 1024) : ((cfg0.win 4).blk t).view.emb (ix2 r e) = ix2 (rowOf t r) e := by
  obtain ⟨h0, h1⟩ := idx_4 t
  funext a; apply Fin.ext
  match a with
  | ⟨0, _⟩ => show win0_4.index t (0 : Fin 2) * 512 + 1 * r.val = t.val * 512 + r.val; omega
  | ⟨1, _⟩ => show win0_4.index t (1 : Fin 2) * 1024 + 1 * e.val = e.val; omega

theorem iblk1_eq (c : Dev nD) (t : Fin cfg0.N) : iblk m c 1 t = V m c main_v1 := by
  obtain ⟨h0, h1⟩ := idx_1 t
  funext j; refine congrArg (V m c main_v1) (funext fun a => Fin.ext ?_)
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem iblk2_eq (c : Dev nD) (t : Fin cfg0.N) : iblk m c 2 t = V m c main_v2 := by
  obtain ⟨h0, h1⟩ := idx_2 t
  funext j; refine congrArg (V m c main_v2) (funext fun a => Fin.ext ?_)
  match a with
  | ⟨0, _⟩ => show win0_2.index t (0 : Fin 2) * 1024 + 1 * (j 0).val = (j 0).val; omega
  | ⟨1, _⟩ => show win0_2.index t (1 : Fin 2) * 2048 + 1 * (j 1).val = (j 1).val; omega

/-! ## The keys and the values -/

theorem flushed_3 (hn : 0 + 1024 ≤ 2048) (c : Dev nD) (t : Fin cfg0.N) : (dats m 0 c).flushed 3 t
    = ((cfg0.win 3).blk t).view.read (Elt Ideal) (projArr (n := 1024) (o := 0) hn (V m c main_v0) (V m c main_v1) (V m c main_v2)) := by
  rw [flushed3, out_3 _ _ _ hn, iblk1_eq, iblk2_eq]
  suffices h : ∀ (r : Fin 512) (d : Fin 1024), cols (n := 1024) (o := 0) hn (k0_pay6 (F := Ideal) (iblk m c 0 t) (V m c main_v1)) (V m c main_v2) (ix2 r d)
      = projArr (n := 1024) (o := 0) hn (V m c main_v0) (V m c main_v1) (V m c main_v2) (((cfg0.win 3).blk t).view.emb (ix2 r d)) by
    funext j
    have hj : j = ix2 (j 0 : Fin 512) (j 1 : Fin 1024) := funext fun a => match a with | ⟨0, _⟩ => rfl | ⟨1, _⟩ => rfl
    rw [hj]; exact h (j 0) (j 1)
  intro r d
  exact (cols_row hn _ _ _ (V m c main_v0) r (rowOf t r) d fun e => congrArg (V m c main_v0) (emb0 t r e)).trans
    (congrArg (projArr hn _ _ _) (emb3 t r d)).symm

theorem mem_blk3 (t : Fin cfg0.N) (i : S4096x1024.Idx) : i ∈ ((cfg0.win 3).blk t).view.set ↔ ∀ a : Fin 2,
    win0_3.index t a * S512x1024.size a ≤ (i a).val ∧ (i a).val < win0_3.index t a * S512x1024.size a + S512x1024.size a := by
  show i ∈ ((View.whole main_v3_0).slice (win0_3.rect t)).set ↔ _
  rw [View.set_slice_whole, Rect.mem_set_unit]
  exact Iff.rfl

theorem covered_3 (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  have hN : cfg0.N = 8 := N_0
  refine ⟨⟨(i 0).val / 512, by omega⟩, flush0_3 _, ?_⟩
  rw [mem_blk3]
  obtain ⟨e0, e1⟩ := idx_3 ⟨(i 0).val / 512, by omega⟩
  intro a
  match a with
  | ⟨0, _⟩ => show win0_3.index _ (0 : Fin 2) * 512 ≤ (i 0).val ∧ (i 0).val < win0_3.index _ (0 : Fin 2) * 512 + 512
              rw [e0]; dsimp only; omega
  | ⟨1, _⟩ => show win0_3.index _ (1 : Fin 2) * 1024 ≤ (i 1).val ∧ (i 1).val < win0_3.index _ (1 : Fin 2) * 1024 + 1024
              rw [e1]; omega

theorem arr_3 (hn : 0 + 1024 ≤ 2048) (c : Dev nD) : (dats m 0 c).arrAt 3 cfg0.N
    = projArr (n := 1024) (o := 0) hn (V m c main_v0) (V m c main_v1) (V m c main_v2) :=
  (dats m 0 c).arrAt_eq_of_cover 3 _ (fun t _ => flushed_3 m hn c t) covered_3

theorem flushed_4 (hn : 1024 + 1024 ≤ 2048) (c : Dev nD) (t : Fin cfg0.N) : (dats m 0 c).flushed 4 t
    = ((cfg0.win 4).blk t).view.read (Elt Ideal) (projArr (n := 1024) (o := 1024) hn (V m c main_v0) (V m c main_v1) (V m c main_v2)) := by
  rw [flushed4, out_4 _ _ _ hn, iblk1_eq, iblk2_eq]
  suffices h : ∀ (r : Fin 512) (d : Fin 1024), cols (n := 1024) (o := 1024) hn (k0_pay6 (F := Ideal) (iblk m c 0 t) (V m c main_v1)) (V m c main_v2) (ix2 r d)
      = projArr (n := 1024) (o := 1024) hn (V m c main_v0) (V m c main_v1) (V m c main_v2) (((cfg0.win 4).blk t).view.emb (ix2 r d)) by
    funext j
    have hj : j = ix2 (j 0 : Fin 512) (j 1 : Fin 1024) := funext fun a => match a with | ⟨0, _⟩ => rfl | ⟨1, _⟩ => rfl
    rw [hj]; exact h (j 0) (j 1)
  intro r d
  exact (cols_row hn _ _ _ (V m c main_v0) r (rowOf t r) d fun e => congrArg (V m c main_v0) (emb0 t r e)).trans
    (congrArg (projArr hn _ _ _) (emb4 t r d)).symm

theorem mem_blk4 (t : Fin cfg0.N) (i : S4096x1024.Idx) : i ∈ ((cfg0.win 4).blk t).view.set ↔ ∀ a : Fin 2,
    win0_4.index t a * S512x1024.size a ≤ (i a).val ∧ (i a).val < win0_4.index t a * S512x1024.size a + S512x1024.size a := by
  show i ∈ ((View.whole main_v3_1).slice (win0_4.rect t)).set ↔ _
  rw [View.set_slice_whole, Rect.mem_set_unit]
  exact Iff.rfl

theorem covered_4 (i : S4096x1024.Idx) : ∃ t : Fin cfg0.N, (cfg0.win 4).flush t = true ∧ i ∈ ((cfg0.win 4).blk t).view.set := by
  have h0 : (i 0).val < 4096 := (i 0).isLt
  have h1 : (i 1).val < 1024 := (i 1).isLt
  have hN : cfg0.N = 8 := N_0
  refine ⟨⟨(i 0).val / 512, by omega⟩, flush0_4 _, ?_⟩
  rw [mem_blk4]
  obtain ⟨e0, e1⟩ := idx_4 ⟨(i 0).val / 512, by omega⟩
  intro a
  match a with
  | ⟨0, _⟩ => show win0_4.index _ (0 : Fin 2) * 512 ≤ (i 0).val ∧ (i 0).val < win0_4.index _ (0 : Fin 2) * 512 + 512
              rw [e0]; dsimp only; omega
  | ⟨1, _⟩ => show win0_4.index _ (1 : Fin 2) * 1024 ≤ (i 1).val ∧ (i 1).val < win0_4.index _ (1 : Fin 2) * 1024 + 1024
              rw [e1]; omega

theorem arr_4 (hn : 1024 + 1024 ≤ 2048) (c : Dev nD) : (dats m 0 c).arrAt 4 cfg0.N
    = projArr (n := 1024) (o := 1024) hn (V m c main_v0) (V m c main_v1) (V m c main_v2) :=
  (dats m 0 c).arrAt_eq_of_cover 4 _ (fun t _ => flushed_4 m hn c t) covered_4

/-! ## The arrays as the region finds them -/

theorem rows_in (c : Dev nD) : V m c main_v0
    = shapeCast S4096x1024 (m ((c : Thread nD τ).loc main_arg0)) shapeCasts_S16x256x1024_S4096x1024 := by
  unfold V; simp only [hostOps0]; after_results_simp <;> rfl

theorem norm_in (c : Dev nD) : V m c main_v1 = shapeCast S1x1024 (m ((c : Thread nD τ).loc main_arg1)) shapeCasts_S1024_S1x1024 := by
  unfold V; simp only [hostOps0]; after_results_simp <;> rfl

theorem weights_in (c : Dev nD) : V m c main_v2 = m ((c : Thread nD τ).loc main_arg2) := by
  unfold V; simp only [hostOps0]; after_results_simp <;> rfl

end Cert.Proof.Kv
-- ==== Proof.KvRef.lean ====
/-
  The memory's projection over the whole array, as the reference writes it, is every row's.
-/
module

public import proofs.«01_k».proof.Proof.AttRef
public import proofs.«01_k».proof.Proof.KvKernel
public import proofs.«01_k».proof.Proof.Gen.KvReferenceIdeal.Run

@[expose] public section

noncomputable section

namespace Cert.Proof.Kv

open Cert.KvReferenceIdeal Cert.KvReferenceIdeal.Gen
open Idealize.ShloMosaic hiding ix1 ix2 ix3 ix4
open Idealize.ShloMosaic.TcCoe Idealize.ShloMosaic.ValueIdx
open Cert.Proof.Mix (normRow)

/-- Every row normalised, times the columns from `o` on. -/
def projected {n o : Nat} (hn : o + n ≤ 2048) (x : FVec Ideal S4096x1024 .f32) (g : FVec Ideal S1024 .f32) (w : FVec Ideal S1024x2048 .f32) :
    (⟨2, ![4096, n]⟩ : Shape).Idx → EReal := fun j =>
  projRow (normRow (fun e => x (ix2 (j 0) e)) (fun e => g (ix1 e))) (fun e f => w (ix2 e f))
    ⟨o + (j 1).val, by have h : (j 1).val < n := (j 1).isLt; omega⟩

/-- The rows by their root mean square, times the weight. -/
def refUnit (x : FVec Ideal S16x256x1024 .f32) (g : FVec Ideal S1024 .f32) : FVec Ideal S16x256x1024 .f32 :=
  mulf (mulf x (broadcastInDim S16x256x1024 ![0, 1, 2] bcast_S16x256x1_S16x256x1024_0_1_2 (Host.rsqrt (addf (Host.divf
    (broadcastInDim S16x256x1 ![0, 1] bcast_S16x256_S16x256x1_0_1 (Host.reduceAdd (mulf x x) (constant S_ .f32 0x00000000#32) reducesTo_S16x256x1024_S16x256_d2 h_S_))
    (broadcastInDim S16x256x1 ![] bcast_S_S16x256x1 (constant S_ .f32 0x44800000#32)))
    (broadcastInDim S16x256x1 ![] bcast_S_S16x256x1 (constant S_ .f32 0x358637BD#32))))))
    (broadcastInDim S16x256x1024 ![0, 1, 2] bcast_S1x1x1024_S16x256x1024_0_1_2 (broadcastInDim S1x1x1024 ![2] bcast_S1024_S1x1x1024_2 g))

theorem reduces_last : S16x256x1024.Reduces [2] S16x256 := by decide

theorem refUnit_apply (b : Fin 16) (r : Fin 256) (x : FVec Ideal S16x256x1024 .f32) (g : FVec Ideal S1024 .f32) (k : Fin 1024) :
    refUnit x g (ix3 b r k) = normRow (fun e => x (ix3 b r e)) (fun e => g (ix1 e)) k := by
  have hs : ∀ u : Fin 1, broadcastInDim S16x256x1 ![0, 1] bcast_S16x256_S16x256x1_0_1
      (Host.reduceAdd (mulf x x) (constant S_ .f32 0x00000000#32) reducesTo_S16x256x1024_S16x256_d2 h_S_) (ix3 b r u)
      = ∑ e : Fin 1024, x (ix3 b r e) * x (ix3 b r e) := fun u => by
    rw [broadcastInDim_apply _ _ _ _ (ix2 b r) (fun a => match a with | ⟨0, _⟩ => rfl | ⟨1, _⟩ => rfl), hostReduceAdd_apply]
    refine (Ideal.hostReduceAdd_single _ reduces_last _ _ _).trans ?_
    refine (congrArg (· + _) Ideal.ofBits_zero_f32).trans ((zero_add _).trans ?_)
    refine Finset.sum_congr rfl fun e _ => ?_
    have hl : reduces_last.lift (ix2 b r) e = ix3 b r e := funext fun a => Fin.ext (match a with
      | ⟨0, _⟩ => rfl
      | ⟨1, _⟩ => rfl
      | ⟨2, _⟩ => rfl)
    rw [hl]; rfl
  have hb : ∀ v : FVec Ideal S16x256x1 .f32, broadcastInDim S16x256x1024 ![0, 1, 2] bcast_S16x256x1_S16x256x1024_0_1_2 v (ix3 b r k) = v (ix3 b r (0 : Fin 1)) :=
    fun v => broadcastInDim_apply _ _ v _ _ fun a => match a with
      | ⟨0, _⟩ => rfl
      | ⟨1, _⟩ => rfl
      | ⟨2, _⟩ => rfl
  have hg : broadcastInDim S16x256x1024 ![0, 1, 2] bcast_S1x1x1024_S16x256x1024_0_1_2 (broadcastInDim S1x1x1024 ![2] bcast_S1024_S1x1x1024_2 g) (ix3 b r k) = g (ix1 k) :=
    (broadcastInDim_apply _ _ _ _ (ix3 (0 : Fin 1) (0 : Fin 1) k) fun a => match a with
      | ⟨0, _⟩ => rfl
      | ⟨1, _⟩ => rfl
      | ⟨2, _⟩ => rfl).trans (broadcastInDim_apply _ _ g _ (ix1 k) fun a => match a with | ⟨0, _⟩ => rfl)
  refine (congrArg₂ (fun p q : EReal => x (ix3 b r k) * p * q) (hb _) hg).trans ?_
  unfold normRow
  rw [← hs 0]; rfl

theorem wide_dot (x : FVec Ideal S16x256x1024 .f32) (w : FVec Ideal S1024x2048 .f32) (b : Fin 16) (r : Fin 256) (d : Fin 2048) :
    Host.dotGeneral dot_S16x256x1024_S1024x2048_S16x256x2048_2_0_01_1_n_n none x w (ix3 b r d)
      = ∑ e : Fin 1024, x (ix3 b r e) * w (ix2 e d) := by
  have h : Host.dotGeneral dot_S16x256x1024_S1024x2048_S16x256x2048_2_0_01_1_n_n none x w (Idealize.ShloMosaic.ix3 b r d)
      = ∑ e : Fin 1024, x (Idealize.ShloMosaic.ix3 b r e) * w (Idealize.ShloMosaic.ix2 e d) := by pointwise
  exact h

/-- The normed rows times the weights, and of those the columns from `o` on. -/
theorem slice_eq {n o : Nat} (hn : o + n ≤ 2048) (hs : S4096x2048.Slices ![0, o] (⟨2, ![4096, n]⟩ : Shape))
    (x : FVec Ideal S16x256x1024 .f32) (g : FVec Ideal S1024 .f32) (w : FVec Ideal S1024x2048 .f32) :
    extractStridedSlice (⟨2, ![4096, n]⟩ : Shape) ![0, o] (shapeCast S4096x2048
      (Host.dotGeneral dot_S16x256x1024_S1024x2048_S16x256x2048_2_0_01_1_n_n none (refUnit x g) w) shapeCasts_S16x256x2048_S4096x2048) hs
      = projected hn (shapeCast S4096x1024 x Cert.KvIdeal.Gen.shapeCasts_S16x256x1024_S4096x1024) g w := by
  suffices h : ∀ (R : Fin 4096) (c : Fin n), extractStridedSlice (⟨2, ![4096, n]⟩ : Shape) ![0, o] (shapeCast S4096x2048
      (Host.dotGeneral dot_S16x256x1024_S1024x2048_S16x256x2048_2_0_01_1_n_n none (refUnit x g) w) shapeCasts_S16x256x2048_S4096x2048) hs (ix2 R c)
      = projected hn (shapeCast S4096x1024 x Cert.KvIdeal.Gen.shapeCasts_S16x256x1024_S4096x1024) g w (ix2 R c) by
    funext j
    have hj : j = ix2 (j 0 : Fin 4096) (j 1 : Fin n) := funext fun a => match a with | ⟨0, _⟩ => rfl | ⟨1, _⟩ => rfl
    rw [hj]; exact h (j 0) (j 1)
  intro R c
  have hR : R.val = R.val / 256 * 256 + R.val % 256 := by omega
  have hd : ∀ z : FVec Ideal S16x256x2048 .f32, shapeCast S4096x2048 z shapeCasts_S16x256x2048_S4096x2048 (ix2 R (⟨o + c.val, by omega⟩ : Fin 2048))
      = z (ix3 (⟨R.val / 256, by omega⟩ : Fin 16) (⟨R.val % 256, by omega⟩ : Fin 256) (⟨o + c.val, by omega⟩ : Fin 2048)) := fun z =>
    shapeCast_apply _ _ _ _ (by
      rw [Shape.rowMajor_val_two, Shape.rowMajor_val_three]
      show (R.val / 256 * 256 + R.val % 256) * 2048 + (o + c.val) = R.val * 2048 + (o + c.val); omega)
  have hx : ∀ e : Fin 1024, shapeCast S4096x1024 x Cert.KvIdeal.Gen.shapeCasts_S16x256x1024_S4096x1024 (ix2 R e)
      = x (ix3 (⟨R.val / 256, by omega⟩ : Fin 16) (⟨R.val % 256, by omega⟩ : Fin 256) e) := fun e =>
    shapeCast_apply _ _ _ _ (by
      rw [Shape.rowMajor_val_two, Shape.rowMajor_val_three]
      show (R.val / 256 * 256 + R.val % 256) * 1024 + e.val = R.val * 1024 + e.val; omega)
  refine (extractStridedSlice_apply _ _ _ (ix2 R c) (ix2 R (⟨o + c.val, by omega⟩ : Fin 2048)) (fun a => match a with
    | ⟨0, _⟩ => (Nat.zero_add _).symm
    | ⟨1, _⟩ => rfl)).trans ?_
  refine ((hd _).trans (wide_dot _ _ _ _ _)).trans ?_
  unfold projected projRow
  refine Finset.sum_congr rfl fun e _ => congrArg (· * w (ix2 e (⟨o + c.val, by omega⟩ : Fin 2048))) ?_
  refine (refUnit_apply _ _ x g e).trans ?_
  exact congrArg (fun z => normRow z (fun e => g (ix1 e)) e) (funext fun e => (hx e).symm)

open Idealize.SL.Sem in
/-- The reference's run: the keys and the values, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = projected (n := 1024) (o := 0) (by decide) (shapeCast Cert.KvIdeal.S4096x1024 (m ((c.tc : Thread nD τ).loc main_arg0)) Cert.KvIdeal.Gen.shapeCasts_S16x256x1024_S4096x1024) (m ((c.tc : Thread nD τ).loc main_arg1)) (m ((c.tc : Thread nD τ).loc main_arg2))
      ∧ r.2.mem ((c.tc : Thread nD τ).loc main_v18) = projected (n := 1024) (o := 1024) (by decide) (shapeCast Cert.KvIdeal.S4096x1024 (m ((c.tc : Thread nD τ).loc main_arg0)) Cert.KvIdeal.Gen.shapeCasts_S16x256x1024_S4096x1024) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h0, h1, h2⟩ := h c
    exact ⟨h0.trans (slice_eq (n := 1024) (o := 0) (by decide) slices_S4096x2048_S4096x1024_0_0 (m ((c.tc : Thread nD τ).loc main_arg0)) (m ((c.tc : Thread nD τ).loc main_arg1)) (m ((c.tc : Thread nD τ).loc main_arg2))),
      h1.trans (slice_eq (n := 1024) (o := 1024) (by decide) slices_S4096x2048_S4096x1024_0_1024 (m ((c.tc : Thread nD τ).loc main_arg0)) (m ((c.tc : Thread nD τ).loc main_arg1)) (m ((c.tc : Thread nD τ).loc main_arg2))), h2⟩) (Cert.KvReferenceIdeal.Value.run m ρ)

end Cert.Proof.Kv
-- ==== Proof.KvTie.lean ====
/-
  The memory's projection against its reference: both leave every row normalised, times the weights.
-/
module

public import proofs.«01_k».proof.Defs
public import proofs.«01_k».proof.Proof.KvArray
public import proofs.«01_k».proof.Proof.KvRef

@[expose] public section

noncomputable section

namespace Cert.Proof.Kv

open Idealize.ShloMosaic hiding ix1 ix2 ix3 ix4
open Idealize.ShloMosaic.TcCoe Idealize.ShloMosaic.ValueIdx Idealize.SL.Sem
open Cert.Proof.Mix (normRow)

open Cert.KvIdeal Cert.KvIdeal.Gen in
theorem projArr_eq {n o : Nat} (hn : o + n ≤ 2048) (x : FVec Ideal S4096x1024 .f32) (g : FVec Ideal S1024 .f32) (w : FVec Ideal S1024x2048 .f32) :
    projArr hn x (shapeCast S1x1024 g shapeCasts_S1024_S1x1024) w = projected hn x g w :=
  funext fun j => congrArg (fun v => projRow (normRow (fun e => x (ix2 (j 0) e)) v) (fun e f => w (ix2 e f))
    (⟨o + (j 1).val, by have h : (j 1).val < n := (j 1).isLt; omega⟩ : Fin 2048)) (funext fun e => shapeCast_a_1a_apply g _ 0 e)

open Cert.KvIdeal Cert.KvIdeal.Gen in
/-- The kernel's run: the keys and the values, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3_0) = projected (n := 1024) (o := 0) (by decide) (shapeCast Cert.KvIdeal.S4096x1024 (m ((c.tc : Thread nD τ).loc main_arg0)) Cert.KvIdeal.Gen.shapeCasts_S16x256x1024_S4096x1024) (m ((c.tc : Thread nD τ).loc main_arg1)) (m ((c.tc : Thread nD τ).loc main_arg2))
      ∧ r.2.mem ((c.tc : Thread nD τ).loc main_v3_1) = projected (n := 1024) (o := 1024) (by decide) (shapeCast Cert.KvIdeal.S4096x1024 (m ((c.tc : Thread nD τ).loc main_arg0)) Cert.KvIdeal.Gen.shapeCasts_S16x256x1024_S4096x1024) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h0, h1, h2⟩ := h c
    exact ⟨h0.trans ((arr_3 m (by decide) c).trans (by rw [rows_in, norm_in, weights_in]; exact projArr_eq _ _ _ _)), h1.trans ((arr_4 m (by decide) c).trans (by rw [rows_in, norm_in, weights_in]; exact projArr_eq _ _ _ _)), h2⟩) (Cert.KvIdeal.Value.run_blocks m ρ)

theorem algebraic : algebraic_KvIdeal_KvReferenceIdeal := by
  intro m g m' g' _ hm
  refine ⟨fun c => projected (n := 1024) (o := 0) (by decide) (shapeCast Cert.KvIdeal.S4096x1024 (m ((c.tc : Thread Cert.KvIdeal.nD Cert.KvIdeal.τ).loc Cert.KvIdeal.main_arg0)) Cert.KvIdeal.Gen.shapeCasts_S16x256x1024_S4096x1024) (m ((c.tc : Thread Cert.KvIdeal.nD Cert.KvIdeal.τ).loc Cert.KvIdeal.main_arg1)) (m ((c.tc : Thread Cert.KvIdeal.nD Cert.KvIdeal.τ).loc Cert.KvIdeal.main_arg2)), fun c => projected (n := 1024) (o := 1024) (by decide) (shapeCast Cert.KvIdeal.S4096x1024 (m ((c.tc : Thread Cert.KvIdeal.nD Cert.KvIdeal.τ).loc Cert.KvIdeal.main_arg0)) Cert.KvIdeal.Gen.shapeCasts_S16x256x1024_S4096x1024) (m ((c.tc : Thread Cert.KvIdeal.nD Cert.KvIdeal.τ).loc Cert.KvIdeal.main_arg1)) (m ((c.tc : Thread Cert.KvIdeal.nD Cert.KvIdeal.τ).loc Cert.KvIdeal.main_arg2)),
    kernel_run m g, ?_⟩
  refine (θ_run _ _ _).mono (fun _ h c => ?_) (ref_run m' g')
  obtain ⟨h0, h1, h2⟩ := hm c
  obtain ⟨k0, k1, k2⟩ := h c
  refine ⟨k0.trans ?_, k1.trans ?_, k2⟩ <;> rw [h0, h1, h2]

end Cert.Proof.Kv
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.Last
public import proofs.«01_k».proof.Proof.Gen.Last.Frame
public import proofs.«01_k».proof.Proof.Gen.LastIdeal
public import proofs.«01_k».proof.Proof.Gen.LastIdeal.Value
public import proofs.«01_k».proof.Proof.Gen.LastReferenceIdeal
public import proofs.«01_k».proof.Proof.Gen.LastReferenceIdeal.Run
public import proofs.«01_k».proof.Proof.Gen.Xattn
public import proofs.«01_k».proof.Proof.Gen.Xattn.Frame
public import proofs.«01_k».proof.Proof.Gen.XattnIdeal
public import proofs.«01_k».proof.Proof.Gen.XattnIdeal.Value
public import proofs.«01_k».proof.Proof.Gen.XattnReferenceIdeal
public import proofs.«01_k».proof.Proof.Gen.XattnReferenceIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.Kv
public import proofs.«01_k».proof.Proof.Gen.Kv.Frame
public import proofs.«01_k».proof.Proof.Gen.KvIdeal
public import proofs.«01_k».proof.Proof.Gen.KvIdeal.Value
public import proofs.«01_k».proof.Proof.Gen.KvReferenceIdeal
public import proofs.«01_k».proof.Proof.Gen.KvReferenceIdeal.Run
public import proofs.«01_k».proof.Proof.Run
public import proofs.«01_k».proof.Proof.RunK
public import proofs.«01_k».proof.Proof.MixTie
public import proofs.«01_k».proof.Proof.LastTie
public import proofs.«01_k».proof.Proof.AttTie
public import proofs.«01_k».proof.Proof.ProjTie
public import proofs.«01_k».proof.Proof.KvTie

@[expose] public section

noncomputable section

namespace Cert.Proof

open Idealize.ShloMosaic Idealize.SL.Sem

/-- The kernel as printed ends, its arguments as they were. -/
theorem frame_p : Cert.quiescent_Kernel := fun m g _ => K.quiescent m g

/-- The idealized kernel ends, its arguments as they were. -/
theorem frame_pi : Cert.quiescent_KernelIdeal := fun m g _ => KI.quiescent m g

/-- The reference ends, its arguments as they were; it declares no semaphore. -/
theorem run_ri (m g) : θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2, sem_eq_zero_of_no_sems (by decide) r.2⟩)
    (Cert.ReferenceIdeal.Value.run m g)

theorem frame_ri : Cert.quiescent_ReferenceIdeal := fun m g _ => run_ri m g

/-- The running maximum's first value is named, and its name is minus infinity. -/
theorem preserves : Cert.preserves_Kernel_KernelIdeal :=
  IdealRules.named_const.statement Cert.KernelIdeal.κ "mask" .f32 0xF149F2CA#32 ⊥ rfl

/-- The channel mixer ends, its arguments as they were; so does its idealization. -/
theorem frame_ffn : Cert.quiescent_Ffn := fun m g _ => Cert.Ffn.Gen.frame m g

theorem frame_ffn_ideal : Cert.quiescent_FfnIdeal := fun m g _ => Cert.FfnIdeal.Gen.frame m g

/-- The channel mixer's reference ends, its arguments as they were; it declares no semaphore. -/
theorem frame_ffn_ref : Cert.quiescent_FfnReferenceIdeal := fun m g _ =>
  (θ_run Cert.FfnReferenceIdeal.defs _ _).mono (fun r h => ⟨fun c => (h c).2, sem_eq_zero_of_no_sems (by decide) r.2⟩)
    (Cert.FfnReferenceIdeal.Value.run m g)

/-- The last channel mixer ends, its arguments as they were; so does its idealization. -/
theorem frame_last : Cert.quiescent_Last := fun m g _ => Cert.Last.Gen.frame m g

theorem frame_last_ideal : Cert.quiescent_LastIdeal := fun m g _ => Cert.LastIdeal.Gen.frame m g

/-- The last channel mixer's reference ends, its arguments as they were; it declares no semaphore. -/
theorem frame_last_ref : Cert.quiescent_LastReferenceIdeal := fun m g _ =>
  (θ_run Cert.LastReferenceIdeal.defs _ _).mono (fun r h => ⟨fun c => (h c).2, sem_eq_zero_of_no_sems (by decide) r.2⟩)
    (Cert.LastReferenceIdeal.Value.run m g)

/-- The output projection with the cross-attention ends, its arguments as they were; so does its idealization. -/
theorem frame_xattn : Cert.quiescent_Xattn := fun m g _ => Cert.Xattn.Gen.frame m g

theorem frame_xattn_ideal : Cert.quiescent_XattnIdeal := fun m g _ => Cert.XattnIdeal.Gen.frame m g

theorem frame_xattn_ideal_pre : Cert.quiescent_XattnIdeal_pre_finite (hPre_finite := Att.pre_facts) := fun m g _ => Cert.XattnIdeal.Gen.frame m g

/-- Its reference ends, its arguments as they were; it declares no semaphore. -/
theorem frame_xattn_ref : Cert.quiescent_XattnReferenceIdeal := fun m g _ =>
  (θ_run Cert.XattnReferenceIdeal.defs _ _).mono (fun r h => ⟨fun c => (h c).2, sem_eq_zero_of_no_sems (by decide) r.2⟩)
    (Cert.XattnReferenceIdeal.Value.run m g)

theorem frame_xattn_ref_pre : Cert.quiescent_XattnReferenceIdeal_pre_finite (hPre_finite := Att.pre_facts) := fun m g _ =>
  frame_xattn_ref m g trivial

/-- The input projection ends, its arguments as they were, and its run on the exact numbers too. -/
theorem frame_proj : Cert.quiescent_Proj := fun m g _ => Cert.Proj.Gen.frame m g

theorem frame_proj_ideal : Cert.quiescent_ProjIdeal := fun m g _ => Cert.ProjIdeal.Gen.frame m g

/-- Its reference ends, its arguments as they were; it declares no semaphore. -/
theorem frame_proj_ref : Cert.quiescent_ProjReferenceIdeal := fun m g _ =>
  (θ_run Cert.ProjReferenceIdeal.defs _ _).mono (fun r h => ⟨fun c => (h c).2.2.2.2.2.2, sem_eq_zero_of_no_sems (by decide) r.2⟩)
    (Cert.ProjReferenceIdeal.Value.run m g)

/-- The memory's projection ends, its arguments as they were, and its run on the exact numbers too. -/
theorem frame_kv : Cert.quiescent_Kv := fun m g _ => Cert.Kv.Gen.frame m g

theorem frame_kv_ideal : Cert.quiescent_KvIdeal := fun m g _ => Cert.KvIdeal.Gen.frame m g

/-- Its reference ends, its arguments as they were; it declares no semaphore. -/
theorem frame_kv_ref : Cert.quiescent_KvReferenceIdeal := fun m g _ =>
  (θ_run Cert.KvReferenceIdeal.defs _ _).mono (fun r h => ⟨fun c => (h c).2.2, sem_eq_zero_of_no_sems (by decide) r.2⟩)
    (Cert.KvReferenceIdeal.Value.run m g)

theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Last.Gen.facts, Cert.LastIdeal.Gen.facts, Cert.LastReferenceIdeal.Gen.facts,
    Cert.Xattn.Gen.facts, Cert.XattnIdeal.Gen.facts, Cert.XattnReferenceIdeal.Gen.facts,
    Cert.Proj.Gen.facts, Cert.ProjIdeal.Gen.facts, Cert.ProjReferenceIdeal.Gen.facts,
    Cert.Kv.Gen.facts, Cert.KvIdeal.Gen.facts, Cert.KvReferenceIdeal.Gen.facts, Att.pre_facts,
    frame_p, frame_pi, frame_ri, frame_ffn, frame_ffn_ideal, frame_ffn_ref, frame_last, frame_last_ideal, frame_last_ref,
    frame_xattn, frame_xattn_ideal, frame_xattn_ideal_pre, frame_xattn_ref, frame_xattn_ref_pre, frame_proj, frame_proj_ideal, frame_proj_ref,
    frame_kv, frame_kv_ideal, frame_kv_ref,
    preserves, trivial, Mix.algebraic, trivial, Last.algebraic, trivial, Att.algebraic, trivial, Proj.algebraic, trivial, Kv.algebraic⟩

end Cert.Proof

end
